-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2.2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2.2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2.2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2.2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "never" .f32 0x42DC0000#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v0_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v112) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "masked" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S2x8192x3072 : Shape := ⟨3, ![2, 8192, 3072]⟩
abbrev S_ : Shape := ⟨0, ![]⟩

class Facts : Prop where
  bitsLt_bf16_f32 : FTy.bits .bf16 < FTy.bits .f32
  bcast_S_S2x8192x3072 : S_.BroadcastsInDim S2x8192x3072 (![] : Fin 0 → Fin S2x8192x3072.rank)

variable [Facts]

def fn {F : FTy → Type} [FloatOps F] (main_arg0 : FVec F S2x8192x3072 .bf16) : IVec S2x8192x3072 1 :=
  let main_v0 : FVec F S2x8192x3072 .f32 := (extf .f32 · bitsLt_bf16_f32) main_arg0
  let main_v1 : FVec F S2x8192x3072 .f32 := Host.absf main_v0
  let main_cst : FVec F S_ .f32 := constant S_ .f32 0x7F800000#32
  let main_v2 : FVec F S2x8192x3072 .f32 := broadcastInDim S2x8192x3072 ![] bcast_S_S2x8192x3072 main_cst
  let main_v3 : IVec S2x8192x3072 1 := cmpf .olt main_v1 main_v2
  main_v3
-- ==== Pre_finite3.lean ====
abbrev S16384x512 : Shape := ⟨2, ![16384, 512]⟩
abbrev S16384x1024 : Shape := ⟨2, ![16384, 1024]⟩
abbrev S1x512 : Shape := ⟨2, ![1, 512]⟩
abbrev S1024x1024 : Shape := ⟨2, ![1024, 1024]⟩
abbrev S1x1024 : Shape := ⟨2, ![1, 1024]⟩
abbrev S2x256x2048 : Shape := ⟨3, ![2, 256, 2048]⟩
abbrev S1024x32 : Shape := ⟨2, ![1024, 32]⟩
abbrev S1x32 : Shape := ⟨2, ![1, 32]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S16384x1024 : S_.BroadcastsInDim S16384x1024 (![] : Fin 0 → Fin S16384x1024.rank)
  bcast_S_S1x512 : S_.BroadcastsInDim S1x512 (![] : Fin 0 → Fin S1x512.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S2x256x2048 : S_.BroadcastsInDim S2x256x2048 (![] : Fin 0 → Fin S2x256x2048.rank)

variable [Facts]

def fn_part2 {F : FTy → Type} [FloatOps F] (main_arg11 : FVec F S1x1024 .f32) (main_arg12 : FVec F S1x1024 .f32) (main_v3 : IVec S16384x512 1) (main_v7 : IVec S16384x512 1) (main_v10 : IVec S16384x1024 1) (main_v13 : IVec S1x512 1) (main_v16 : IVec S1x512 1) (main_v20 : IVec S1024x1024 1) (main_v23 : IVec S1x1024 1) (main_v26 : IVec S1x1024 1) (main_v30 : IVec S1024x1024 1) (main_v34 : IVec S2x256x2048 1) (main_v36 : FVec F S1024x1024 .f32) (main_cst_9 : FVec F S_ .f32) : IVec S16384x512 1 × IVec S16384x512 1 × IVec S16384x1024 1 × IVec S1x512 1 × IVec S1x512 1 × IVec S1024x1024 1 × IVec S1x1024 1 × IVec S1x1024 1 × IVec S1024x1024 1 × IVec S2x256x2048 1 × IVec S1024x1024 1 × IVec S1x1024 1 × IVec S1x1024 1 :=
  let main_v37 : FVec F S1024x1024 .f32 := broadcastInDim S1024x1024 ![] bcast_S_S1024x1024 main_cst_9
  let main_v38 : IVec S1024x1024 1 := cmpf .olt main_v36 main_v37
  let main_v39 : FVec F S1x1024 .f32 := Host.absf main_arg11
  let main_cst_10 : FVec F S_ .f32 := constant S_ .f32 0x7F800000#32
  let main_v40 : FVec F S1x1024 .f32 := broadcastInDim S1x1024 ![] bcast_S_S1x1024 main_cst_10
  let main_v41 : IVec S1x1024 1 := cmpf .olt main_v39 main_v40
  let main_v42 : FVec F S1x1024 .f32 := Host.absf main_arg12
  let main_cst_11 : FVec F S_ .f32 := constant S_ .f32 0x7F800000#32
  let main_v43 : FVec F S1x1024 .f32 := broadcastInDim S1x1024 ![] bcast_S_S1x1024 main_cst_11
  let main_v44 : IVec S1x1024 1 := cmpf .olt main_v42 main_v43
  (main_v3, main_v7, main_v10, main_v13, main_v16, main_v20, main_v23, main_v26, main_v30, main_v34, main_v38, main_v41, main_v44)

def fn_part1 {F : FTy → Type} [FloatOps F] (main_arg6 : FVec F S1x1024 .f32) (main_arg7 : FVec F S1x1024 .f32) (main_arg8 : FVec F S1024x1024 .bf16) (main_arg9 : FVec F S2x256x2048 .bf16) (main_arg10 : FVec F S1024x1024 .bf16) (main_arg11 : FVec F S1x1024 .f32) (main_arg12 : FVec F S1x1024 .f32) (main_v3 : IVec S16384x512 1) (main_v7 : IVec S16384x512 1) (main_v10 : IVec S16384x1024 1) (main_v13 : IVec S1x512 1) (main_v16 : IVec S1x512 1) (main_v18 : FVec F S1024x1024 .f32) : IVec S16384x512 1 × IVec S16384x512 1 × IVec S16384x1024 1 × IVec S1x512 1 × IVec S1x512 1 × IVec S1024x1024 1 × IVec S1x1024 1 × IVec S1x1024 1 × IVec S1024x1024 1 × IVec S2x256x2048 1 × IVec S1024x1024 1 × IVec S1x1024 1 × IVec S1x1024 1 :=
  let main_cst_4 : FVec F S_ .f32 := constant S_ .f32 0x7F800000#32
  let main_v19 : FVec F S1024x1024 .f32 := broadcastInDim S1024x1024 ![] bcast_S_S1024x1024 main_cst_4
  let main_v20 : IVec S1024x1024 1 := cmpf .olt main_v18 main_v19
  let main_v21 : FVec F S1x1024 .f32 := Host.absf main_arg6
  let main_cst_5 : FVec F S_ .f32 := constant S_ .f32 0x7F800000#32
  let main_v22 : FVec F S1x1024 .f32 := broadcastInDim S1x1024 ![] bcast_S_S1x1024 main_cst_5
  let main_v23 : IVec S1x1024 1 := cmpf .olt main_v21 main_v22
  let main_v24 : FVec F S1x1024 .f32 := Host.absf main_arg7
  let main_cst_6 : FVec F S_ .f32 := constant S_ .f32 0x7F800000#32
  let main_v25 : FVec F S1x1024 .f32 := broadcastInDim S1x1024 ![] bcast_S_S1x1024 main_cst_6
  let main_v26 : IVec S1x1024 1 := cmpf .olt main_v24 main_v25
  let main_v27 : FVec F S1024x1024 .f32 := (extf .f32 · bitsLt_bf16_f32) main_arg8
  let main_v28 : FVec F S1024x1024 .f32 := Host.absf main_v27
  let main_cst_7 : FVec F S_ .f32 := constant S_ .f32 0x7F800000#32
  let main_v29 : FVec F S1024x1024 .f32 := broadcastInDim S1024x1024 ![] bcast_S_S1024x1024 main_cst_7
  let main_v30 : IVec S1024x1024 1 := cmpf .olt main_v28 main_v29
  let main_v31 : FVec F S2x256x2048 .f32 := (extf .f32 · bitsLt_bf16_f32) main_arg9
  let main_v32 : FVec F S2x256x2048 .f32 := Host.absf main_v31
  let main_cst_8 : FVec F S_ .f32 := constant S_ .f32 0x7F800000#32
  let main_v33 : FVec F S2x256x2048 .f32 := broadcastInDim S2x256x2048 ![] bcast_S_S2x256x2048 main_cst_8
  let main_v34 : IVec S2x256x2048 1 := cmpf .olt main_v32 main_v33
  let main_v35 : FVec F S1024x1024 .f32 := (extf .f32 · bitsLt_bf16_f32) main_arg10
  let main_v36 : FVec F S1024x1024 .f32 := Host.absf main_v35
  let main_cst_9 : FVec F S_ .f32 := constant S_ .f32 0x7F800000#32
  fn_part2 (F := F) main_arg11 main_arg12 main_v3 main_v7 main_v10 main_v13 main_v16 main_v20 main_v23 main_v26 main_v30 main_v34 main_v36 main_cst_9

def fn {F : FTy → Type} [FloatOps F] (main_arg0 : FVec F S16384x512 .bf16) (main_arg1 : FVec F S16384x512 .bf16) (main_arg2 : FVec F S16384x1024 .f32) (main_arg3 : FVec F S1x512 .f32) (main_arg4 : FVec F S1x512 .f32) (main_arg5 : FVec F S1024x1024 .bf16) (main_arg6 : FVec F S1x1024 .f32) (main_arg7 : FVec F S1x1024 .f32) (main_arg8 : FVec F S1024x1024 .bf16) (main_arg9 : FVec F S2x256x2048 .bf16) (main_arg10 : FVec F S1024x1024 .bf16) (main_arg11 : FVec F S1x1024 .f32) (main_arg12 : FVec F S1x1024 .f32) (main_arg13 : FVec F S1024x32 .bf16) (main_arg14 : FVec F S1x32 .f32) : IVec S16384x512 1 × IVec S16384x512 1 × IVec S16384x1024 1 × IVec S1x512 1 × IVec S1x512 1 × IVec S1024x1024 1 × IVec S1x1024 1 × IVec S1x1024 1 × IVec S1024x1024 1 × IVec S2x256x2048 1 × IVec S1024x1024 1 × IVec S1x1024 1 × IVec S1x1024 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : FVec F S16384x1024 .f32 := Host.absf main_arg2
  let main_cst_1 : FVec F S_ .f32 := constant S_ .f32 0x7F800000#32
  let main_v9 : FVec F S16384x1024 .f32 := broadcastInDim S16384x1024 ![] bcast_S_S16384x1024 main_cst_1
  let main_v10 : IVec S16384x1024 1 := cmpf .olt main_v8 main_v9
  let main_v11 : FVec F S1x512 .f32 := Host.absf main_arg3
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  let main_v14 : FVec F S1x512 .f32 := Host.absf main_arg4
  let main_cst_3 : FVec F S_ .f32 := constant S_ .f32 0x7F800000#32
  let main_v15 : FVec F S1x512 .f32 := broadcastInDim S1x512 ![] bcast_S_S1x512 main_cst_3
  let main_v16 : IVec S1x512 1 := cmpf .olt main_v14 main_v15
  let main_v17 : FVec F S1024x1024 .f32 := (extf .f32 · bitsLt_bf16_f32) main_arg5
  let main_v18 : FVec F S1024x1024 .f32 := Host.absf main_v17
  fn_part1 (F := F) main_arg6 main_arg7 main_arg8 main_arg9 main_arg10 main_arg11 main_arg12 main_v3 main_v7 main_v10 main_v13 main_v16 main_v18
-- ==== Pre_finite5.lean ====
abbrev S2x8192x3072 : Shape := ⟨3, ![2, 8192, 3072]⟩
abbrev S8x257 : Shape := ⟨2, ![8, 257]⟩
abbrev S_ : Shape := ⟨0, ![]⟩

class Facts : Prop where
  bitsLt_bf16_f32 : FTy.bits .bf16 < FTy.bits .f32
  bcast_S_S2x8192x3072 : S_.BroadcastsInDim S2x8192x3072 (![] : Fin 0 → Fin S2x8192x3072.rank)
  bcast_S_S8x257 : S_.BroadcastsInDim S8x257 (![] : Fin 0 → Fin S8x257.rank)

variable [Facts]

def fn {F : FTy → Type} [FloatOps F] (main_arg0 : FVec F S2x8192x3072 .bf16) (main_arg1 : FVec F S8x257 .f32) : IVec S2x8192x3072 1 × IVec S8x257 1 :=
  let main_v0 : FVec F S2x8192x3072 .f32 := (extf .f32 · bitsLt_bf16_f32) main_arg0
  let main_v1 : FVec F S2x8192x3072 .f32 := Host.absf main_v0
  let main_cst : FVec F S_ .f32 := constant S_ .f32 0x7F800000#32
  let main_v2 : FVec F S2x8192x3072 .f32 := broadcastInDim S2x8192x3072 ![] bcast_S_S2x8192x3072 main_cst
  let main_v3 : IVec S2x8192x3072 1 := cmpf .olt main_v1 main_v2
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  (main_v3, main_v6)
-- ==== Kernel.lean ====
abbrev S2x8192x3072 : Shape := ⟨3, ![2, 8192, 3072]⟩
abbrev S2x8192x512 : Shape := ⟨3, ![2, 8192, 512]⟩
abbrev S1x1024x128 : Shape := ⟨3, ![1, 1024, 128]⟩
abbrev S1x8192x128 : Shape := ⟨3, ![1, 8192, 128]⟩
abbrev S256x256 : Shape := ⟨2, ![256, 256]⟩
abbrev S1x256x64 : Shape := ⟨3, ![1, 256, 64]⟩
abbrev S256x64 : Shape := ⟨2, ![256, 64]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 2
  | .vmem => 8
  | .smem => 0
  | _ => 0

abbrev bufTy : (tb : Table) → Fin (tcTables nBuf tb) → BufTy
  | .hbm, ⟨0, _⟩ => ⟨S2x8192x3072, .bf16⟩
  | .hbm, ⟨1, _⟩ => ⟨S2x8192x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1024x128, .bf16⟩
  | .local _ .vmem, ⟨7, _⟩ => ⟨S1x1024x128, .bf16⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v25 : BitVec 32 := Scalar.addi v0 c0_i32
  let c256_i32 : BitVec 32 := 256#32
  let v27 : BitVec 32 := Scalar.muli v25 c256_i32
  v27
def k0_off1 (i : grid0.Coords) (c0_i32 : BitVec 32) : Fin 3 → Nat :=
  let c0_21 : Index := 0#32
  let arg2 : BitVec 32 := BitVec.ofNat 32 (i 2).val
  let c4_i32 : BitVec 32 := 4#32
  let v0 : BitVec 32 := Scalar.muli arg2 c4_i32
  let v25 : BitVec 32 := Scalar.addi v0 c0_i32
  let c256_i32 : BitVec 32 := 256#32
  let v27 : BitVec 32 := Scalar.muli v25 c256_i32
  let v28 : BitVec 32 := v27
  let v29 : Index := Scalar.indexCast v28
  let c0_22 : Index := 0#32
  ![0, v29.toNat, 0]
def k0_mult2 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v25 : BitVec 32 := Scalar.addi v0 c0_i32
  let c1_i32 : BitVec 32 := 1#32
  let v59 : BitVec 32 := Scalar.subi v25 c1_i32
  let c0_i32_33 : BitVec 32 := 0#32
  let v60 : BitVec 32 := Scalar.maxsi v59 c0_i32_33
  let c256_i32_34 : BitVec 32 := 256#32
  let v61 : BitVec 32 := Scalar.muli v60 c256_i32_34
  v61
def k0_off2 (i : grid0.Coords) (c0_i32 : BitVec 32) : Fin 3 → Nat :=
  let c0_35 : Index := 0#32
  let arg2 : BitVec 32 := BitVec.ofNat 32 (i 2).val
  let c4_i32 : BitVec 32 := 4#32
  let v0 : BitVec 32 := Scalar.muli arg2 c4_i32
  let v25 : BitVec 32 := Scalar.addi v0 c0_i32
  let c1_i32 : BitVec 32 := 1#32
  let v59 : BitVec 32 := Scalar.subi v25 c1_i32
  let c0_i32_33 : BitVec 32 := 0#32
  let v60 : BitVec 32 := Scalar.maxsi v59 c0_i32_33
  let c256_i32_34 : BitVec 32 := 256#32
  let v61 : BitVec 32 := Scalar.muli v60 c256_i32_34
  let v62 : BitVec 32 := v61
  let v63 : Index := Scalar.indexCast v62
  let c0_36 : Index := 0#32
  ![0, v63.toNat, 0]
def k0_mult3 (i : grid0.Coords) : BitVec 32 :=
  let arg2 : BitVec 32 := BitVec.ofNat 32 (i 2).val
  let c4_i32 : BitVec 32 := 4#32
  let v0 : BitVec 32 := Scalar.muli arg2 c4_i32
  let c0_i32_47 : BitVec 32 := 0#32
  let v94 : BitVec 32 := Scalar.addi v0 c0_i32_47
  let c256_i32_49 : BitVec 32 := 256#32
  let v96 : BitVec 32 := Scalar.muli v94 c256_i32_49
  v96
def k0_off3 (i : grid0.Coords) (c0_i32_47 : BitVec 32) : Fin 3 → Nat :=
  let c0_50 : Index := 0#32
  let arg2 : BitVec 32 := BitVec.ofNat 32 (i 2).val
  let c4_i32 : BitVec 32 := 4#32
  let v0 : BitVec 32 := Scalar.muli arg2 c4_i32
  let v94 : BitVec 32 := Scalar.addi v0 c0_i32_47
  let c256_i32_49 : BitVec 32 := 256#32
  let v96 : BitVec 32 := Scalar.muli v94 c256_i32_49
  let v97 : BitVec 32 := v96
  let v98 : Index := Scalar.indexCast v97
  let c64_51 : Index := 64#32
  ![0, v98.toNat, 64]
def k0_mult4 (i : grid0.Coords) : BitVec 32 :=
  let arg2 : BitVec 32 := BitVec.ofNat 32 (i 2).val
  let c4_i32 : BitVec 32 := 4#32
  let v0 : BitVec 32 := Scalar.muli arg2 c4_i32
  let c0_i32_47 : BitVec 32 := 0#32
  let v94 : BitVec 32 := Scalar.addi v0 c0_i32_47
  let c1_i32_62 : BitVec 32 := 1#32
  let v128 : BitVec 32 := Scalar.subi v94 c1_i32_62
  let c0_i32_63 : BitVec 32 := 0#32
  let v129 : BitVec 32 := Scalar.maxsi v128 c0_i32_63
  let c256_i32_64 : BitVec 32 := 256#32
  let v130 : BitVec 32 := Scalar.muli v129 c256_i32_64
  v130
def k0_off4 (i : grid0.Coords) (c0_i32_47 : BitVec 32) : Fin 3 → Nat :=
  let c0_65 : Index := 0#32
  let arg2 : BitVec 32 := BitVec.ofNat 32 (i 2).val
  let c4_i32 : BitVec 32 := 4#32
  let v0 : BitVec 32 := Scalar.muli arg2 c4_i32
  let v94 : BitVec 32 := Scalar.addi v0 c0_i32_47
  let c1_i32_62 : BitVec 32 := 1#32
  let v128 : BitVec 32 := Scalar.subi v94 c1_i32_62
  let c0_i32_63 : BitVec 32 := 0#32
  let v129 : BitVec 32 := Scalar.maxsi v128 c0_i32_63
  let c256_i32_64 : BitVec 32 := 256#32
  let v130 : BitVec 32 := Scalar.muli v129 c256_i32_64
  let v131 : BitVec 32 := v130
  let v132 : Index := Scalar.indexCast v131
  let c64_66 : Index := 64#32
  ![0, v132.toNat, 64]
def k0_mult5 (i : grid0.Coords) : BitVec 32 :=
  let arg2 : BitVec 32 := BitVec.ofNat 32 (i 2).val
  let c4_i32 : BitVec 32 := 4#32
  let v0 : BitVec 32 := Scalar.muli arg2 c4_i32
  let c1_i32_77 : BitVec 32 := 1#32
  let v163 : BitVec 32 := Scalar.addi v0 c1_i32_77
  let c256_i32_79 : BitVec 32 := 256#32
  let v165 : BitVec 32 := Scalar.muli v163 c256_i32_79
  v165
def k0_mult6 (i : grid0.Coords) : BitVec 32 :=
  let arg2 : BitVec 32 := BitVec.ofNat 32 (i 2).val
  let c4_i32 : BitVec 32 := 4#32
  let v0 : BitVec 32 := Scalar.muli arg2 c4_i32
  let c1_i32_77 : BitVec 32 := 1#32
  let v163 : BitVec 32 := Scalar.addi v0 c1_i32_77
  let c1_i32_92 : BitVec 32 := 1#32
  let v197 : BitVec 32 := Scalar.subi v163 c1_i32_92
  let c0_i32_93 : BitVec 32 := 0#32
  let v198 : BitVec 32 := Scalar.maxsi v197 c0_i32_93
  let c256_i32_94 : BitVec 32 := 256#32
  let v199 : BitVec 32 := Scalar.muli v198 c256_i32_94
  v199
def k0_mult7 (i : grid0.Coords) : BitVec 32 :=
  let arg2 : BitVec 32 := BitVec.ofNat 32 (i 2).val
  let c4_i32 : BitVec 32 := 4#32
  let v0 : BitVec 32 := Scalar.muli arg2 c4_i32
  let c1_i32_107 : BitVec 32 := 1#32
  let v232 : BitVec 32 := Scalar.addi v0 c1_i32_107
  let c256_i32_109 : BitVec 32 := 256#32
  let v234 : BitVec 32 := Scalar.muli v232 c256_i32_109
  v234
def k0_mult8 (i : grid0.Coords) : BitVec 32 :=
  let arg2 : BitVec 32 := BitVec.ofNat 32 (i 2).val
  let c4_i32 : BitVec 32 := 4#32
  let v0 : BitVec 32 := Scalar.muli arg2 c4_i32
  let c1_i32_107 : BitVec 32 := 1#32
  let v232 : BitVec 32 := Scalar.addi v0 c1_i32_107
  let c1_i32_122 : BitVec 32 := 1#32
  let v266 : BitVec 32 := Scalar.subi v232 c1_i32_122
  let c0_i32_123 : BitVec 32 := 0#32
  let v267 : BitVec 32 := Scalar.maxsi v266 c0_i32_123
  let c256_i32_124 : BitVec 32 := 256#32
  let v268 : BitVec 32 := Scalar.muli v267 c256_i32_124
  v268
def k0_mult9 (i : grid0.Coords) : BitVec 32 :=
  let arg2 : BitVec 32 := BitVec.ofNat 32 (i 2).val
  let c4_i32 : BitVec 32 := 4#32
  let v0 : BitVec 32 := Scalar.muli arg2 c4_i32
  let c2_i32 : BitVec 32 := 2#32
  let v301 : BitVec 32 := Scalar.addi v0 c2_i32
  let c256_i32_138 : BitVec 32 := 256#32
  let v303 : BitVec 32 := Scalar.muli v301 c256_i32_138
  v303
def k0_mult10 (i : grid0.Coords) : BitVec 32 :=
  let arg2 : BitVec 32 := BitVec.ofNat 32 (i 2).val
  let c4_i32 : BitVec 32 := 4#32
  let v0 : BitVec 32 := Scalar.muli arg2 c4_i32
  let c2_i32 : BitVec 32 := 2#32
  let v301 : BitVec 32 := Scalar.addi v0 c2_i32
  let c1_i32_151 : BitVec 32 := 1#32
  let v335 : BitVec 32 := Scalar.subi v301 c1_i32_151
  let c0_i32_152 : BitVec 32 := 0#32
  let v336 : BitVec 32 := Scalar.maxsi v335 c0_i32_152
  let c256_i32_153 : BitVec 32 := 256#32
  let v337 : BitVec 32 := Scalar.muli v336 c256_i32_153
  v337
def k0_mult11 (i : grid0.Coords) : BitVec 32 :=
  let arg2 : BitVec 32 := BitVec.ofNat 32 (i 2).val
  let c4_i32 : BitVec 32 := 4#32
  let v0 : BitVec 32 := Scalar.muli arg2 c4_i32
  let c2_i32_166 : BitVec 32 := 2#32
  let v370 : BitVec 32 := Scalar.addi v0 c2_i32_166
  let c256_i32_168 : BitVec 32 := 256#32
  let v372 : BitVec 32 := Scalar.muli v370 c256_i32_168
  v372
def k0_mult12 (i : grid0.Coords) : BitVec 32 :=
  let arg2 : BitVec 32 := BitVec.ofNat 32 (i 2).val
  let c4_i32 : BitVec 32 := 4#32
  let v0 : BitVec 32 := Scalar.muli arg2 c4_i32
  let c2_i32_166 : BitVec 32 := 2#32
  let v370 : BitVec 32 := Scalar.addi v0 c2_i32_166
  let c1_i32_181 : BitVec 32 := 1#32
  let v404 : BitVec 32 := Scalar.subi v370 c1_i32_181
  let c0_i32_182 : BitVec 32 := 0#32
  let v405 : BitVec 32 := Scalar.maxsi v404 c0_i32_182
  let c256_i32_183 : BitVec 32 := 256#32
  let v406 : BitVec 32 := Scalar.muli v405 c256_i32_183
  v406
def k0_mult13 (i : grid0.Coords) : BitVec 32 :=
  let arg2 : BitVec 32 := BitVec.ofNat 32 (i 2).val
  let c4_i32 : BitVec 32 := 4#32
  let v0 : BitVec 32 := Scalar.muli arg2 c4_i32
  let c3_i32 : BitVec 32 := 3#32
  let v439 : BitVec 32 := Scalar.addi v0 c3_i32
  let c256_i32_197 : BitVec 32 := 256#32
  let v441 : BitVec 32 := Scalar.muli v439 c256_i32_197
  v441
def k0_mult14 (i : grid0.Coords) : BitVec 32 :=
  let arg2 : BitVec 32 := BitVec.ofNat 32 (i 2).val
  let c4_i32 : BitVec 32 := 4#32
  let v0 : BitVec 32 := Scalar.muli arg2 c4_i32
  let c3_i32 : BitVec 32 := 3#32
  let v439 : BitVec 32 := Scalar.addi v0 c3_i32
  let c1_i32_210 : BitVec 32 := 1#32
  let v473 : BitVec 32 := Scalar.subi v439 c1_i32_210
  let c0_i32_211 : BitVec 32 := 0#32
  let v474 : BitVec 32 := Scalar.maxsi v473 c0_i32_211
  let c256_i32_212 : BitVec 32 := 256#32
  let v475 : BitVec 32 := Scalar.muli v474 c256_i32_212
  v475
def k0_mult15 (i : grid0.Coords) : BitVec 32 :=
  let arg2 : BitVec 32 := BitVec.ofNat 32 (i 2).val
  let c4_i32 : BitVec 32 := 4#32
  let v0 : BitVec 32 := Scalar.muli arg2 c4_i32
  let c3_i32_225 : BitVec 32 := 3#32
  let v508 : BitVec 32 := Scalar.addi v0 c3_i32_225
  let c256_i32_227 : BitVec 32 := 256#32
  let v510 : BitVec 32 := Scalar.muli v508 c256_i32_227
  v510
def k0_mult16 (i : grid0.Coords) : BitVec 32 :=
  let arg2 : BitVec 32 := BitVec.ofNat 32 (i 2).val
  let c4_i32 : BitVec 32 := 4#32
  let v0 : BitVec 32 := Scalar.muli arg2 c4_i32
  let c3_i32_225 : BitVec 32 := 3#32
  let v508 : BitVec 32 := Scalar.addi v0 c3_i32_225
  let c1_i32_240 : BitVec 32 := 1#32
  let v542 : BitVec 32 := Scalar.subi v508 c1_i32_240
  let c0_i32_241 : BitVec 32 := 0#32
  let v543 : BitVec 32 := Scalar.maxsi v542 c0_i32_241
  let c256_i32_242 : BitVec 32 := 256#32
  let v544 : BitVec 32 := Scalar.muli v543 c256_i32_242
  v544
def k0_mult17 (i : grid0.Coords) (arg7 : BitVec 32) : BitVec 32 :=
  let arg2 : BitVec 32 := BitVec.ofNat 32 (i 2).val
  let c4_i32 : BitVec 32 := 4#32
  let v0 : BitVec 32 := Scalar.muli arg2 c4_i32
  let c0_i32_281 : BitVec 32 := 0#32
  let v611 : BitVec 32 := Scalar.addi v0 c0_i32_281
  let c2_i32_282 : BitVec 32 := 2#32
  let v612 : BitVec 32 := Scalar.subi v611 c2_i32_282
  let v613 : BitVec 32 := Scalar.subi v612 arg7
  let c0_i32_283 : BitVec 32 := 0#32
  let v614 : BitVec 32 := Scalar.maxsi v613 c0_i32_283
  let c256_i32_284 : BitVec 32 := 256#32
  let v615 : BitVec 32 := Scalar.muli v614 c256_i32_284
  v615

def k0_off5 (i : grid0.Coords) (arg7 : BitVec 32) (c0_i32_281 : BitVec 32) : Fin 3 → Nat :=
  let c0_285 : Index := 0#32
  let arg2 : BitVec 32 := BitVec.ofNat 32 (i 2).val
  let c4_i32 : BitVec 32 := 4#32
  let v0 : BitVec 32 := Scalar.muli arg2 c4_i32
  let v611 : BitVec 32 := Scalar.addi v0 c0_i32_281
  let c2_i32_282 : BitVec 32 := 2#32
  let v612 : BitVec 32 := Scalar.subi v611 c2_i32_282
  let v613 : BitVec 32 := Scalar.subi v612 arg7
  let c0_i32_283 : BitVec 32 := 0#32
  let v614 : BitVec 32 := Scalar.maxsi v613 c0_i32_283
  let c256_i32_284 : BitVec 32 := 256#32
  let v615 : BitVec 32 := Scalar.muli v614 c256_i32_284
  let v616 : BitVec 32 := v615
  let v617 : Index := Scalar.indexCast v616
  let c0_286 : Index := 0#32
  ![0, v617.toNat, 0]
def k0_mult18 (i : grid0.Coords) (arg7 : BitVec 32) : BitVec 32 :=
  let arg2 : BitVec 32 := BitVec.ofNat 32 (i 2).val
  let c4_i32 : BitVec 32 := 4#32
  let v0 : BitVec 32 := Scalar.muli arg2 c4_i32
  let c0_i32_298 : BitVec 32 := 0#32
  let v649 : BitVec 32 := Scalar.addi v0 c0_i32_298
  let c2_i32_299 : BitVec 32 := 2#32
  let v650 : BitVec 32 := Scalar.subi v649 c2_i32_299
  let v651 : BitVec 32 := Scalar.subi v650 arg7
  let c0_i32_300 : BitVec 32 := 0#32
  let v652 : BitVec 32 := Scalar.maxsi v651 c0_i32_300
  let c256_i32_301 : BitVec 32 := 256#32
  let v653 : BitVec 32 := Scalar.muli v652 c256_i32_301
  v653
def k0_off6 (i : grid0.Coords) (arg7 : BitVec 32) (c0_i32_298 : BitVec 32) : Fin 3 → Nat :=
  let c0_302 : Index := 0#32
  let arg2 : BitVec 32 := BitVec.ofNat 32 (i 2).val
  let c4_i32 : BitVec 32 := 4#32
  let v0 : BitVec 32 := Scalar.muli arg2 c4_i32
  let v649 : BitVec 32 := Scalar.addi v0 c0_i32_298
  let c2_i32_299 : BitVec 32 := 2#32
  let v650 : BitVec 32 := Scalar.subi v649 c2_i32_299
  let v651 : BitVec 32 := Scalar.subi v650 arg7
  let c0_i32_300 : BitVec 32 := 0#32
  let v652 : BitVec 32 := Scalar.maxsi v651 c0_i32_300
  let c256_i32_301 : BitVec 32 := 256#32
  let v653 : BitVec 32 := Scalar.muli v652 c256_i32_301
  let v654 : BitVec 32 := v653
  let v655 : Index := Scalar.indexCast v654
  let c64_303 : Index := 64#32
  ![0, v655.toNat, 64]
def k0_mult19 (i : grid0.Coords) (arg7 : BitVec 32) : BitVec 32 :=
  let arg2 : BitVec 32 := BitVec.ofNat 32 (i 2).val
  let c4_i32 : BitVec 32 := 4#32
  let v0 : BitVec 32 := Scalar.muli arg2 c4_i32
  let c1_i32_315 : BitVec 32 := 1#32
  let v687 : BitVec 32 := Scalar.addi v0 c1_i32_315
  let c2_i32_316 : BitVec 32 := 2#32
  let v688 : BitVec 32 := Scalar.subi v687 c2_i32_316
  let v689 : BitVec 32 := Scalar.subi v688 arg7
  let c0_i32_317 : BitVec 32 := 0#32
  let v690 : BitVec 32 := Scalar.maxsi v689 c0_i32_317
  let c256_i32_318 : BitVec 32 := 256#32
  let v691 : BitVec 32 := Scalar.muli v690 c256_i32_318
  v691
def k0_mult20 (i : grid0.Coords) (arg7 : BitVec 32) : BitVec 32 :=
  let arg2 : BitVec 32 := BitVec.ofNat 32 (i 2).val
  let c4_i32 : BitVec 32 := 4#32
  let v0 : BitVec 32 := Scalar.muli arg2 c4_i32
  let c1_i32_332 : BitVec 32 := 1#32
  let v725 : BitVec 32 := Scalar.addi v0 c1_i32_332
  let c2_i32_333 : BitVec 32 := 2#32
  let v726 : BitVec 32 := Scalar.subi v725 c2_i32_333
  let v727 : BitVec 32 := Scalar.subi v726 arg7
  let c0_i32_334 : BitVec 32 := 0#32
  let v728 : BitVec 32 := Scalar.maxsi v727 c0_i32_334
  let c256_i32_335 : BitVec 32 := 256#32
  let v729 : BitVec 32 := Scalar.muli v728 c256_i32_335
  v729
def k0_mult21 (i : grid0.Coords) (arg7 : BitVec 32) : BitVec 32 :=
  let arg2 : BitVec 32 := BitVec.ofNat 32 (i 2).val
  let c4_i32 : BitVec 32 := 4#32
  let v0 : BitVec 32 := Scalar.muli arg2 c4_i32
  let c2_i32_349 : BitVec 32 := 2#32
  let v763 : BitVec 32 := Scalar.addi v0 c2_i32_349
  let c2_i32_350 : BitVec 32 := 2#32
  let v764 : BitVec 32 := Scalar.subi v763 c2_i32_350
  let v765 : BitVec 32 := Scalar.subi v764 arg7
  let c0_i32_351 : BitVec 32 := 0#32
  let v766 : BitVec 32 := Scalar.maxsi v765 c0_i32_351
  let c256_i32_352 : BitVec 32 := 256#32
  let v767 : BitVec 32 := Scalar.muli v766 c256_i32_352
  v767
def k0_mult22 (i : grid0.Coords) (arg7 : BitVec 32) : BitVec 32 :=
  let arg2 : BitVec 32 := BitVec.ofNat 32 (i 2).val
  let c4_i32 : BitVec 32 := 4#32
  let v0 : BitVec 32 := Scalar.muli arg2 c4_i32
  let c2_i32_366 : BitVec 32 := 2#32
  let v801 : BitVec 32 := Scalar.addi v0 c2_i32_366
  let c2_i32_367 : BitVec 32 := 2#32
  let v802 : BitVec 32 := Scalar.subi v801 c2_i32_367
  let v803 : BitVec 32 := Scalar.subi v802 arg7
  let c0_i32_368 : BitVec 32 := 0#32
  let v804 : BitVec 32 := Scalar.maxsi v803 c0_i32_368
  let c256_i32_369 : BitVec 32 := 256#32
  let v805 : BitVec 32 := Scalar.muli v804 c256_i32_369
  v805
def k0_mult23 (i : grid0.Coords) (arg7 : BitVec 32) : BitVec 32 :=
  let arg2 : BitVec 32 := BitVec.ofNat 32 (i 2).val
  let c4_i32 : BitVec 32 := 4#32
  let v0 : BitVec 32 := Scalar.muli arg2 c4_i32
  let c3_i32_383 : BitVec 32 := 3#32
  let v839 : BitVec 32 := Scalar.addi v0 c3_i32_383
  let c2_i32_384 : BitVec 32 := 2#32
  let v840 : BitVec 32 := Scalar.subi v839 c2_i32_384
  let v841 : BitVec 32 := Scalar.subi v840 arg7
  let c0_i32_385 : BitVec 32 := 0#32
  let v842 : BitVec 32 := Scalar.maxsi v841 c0_i32_385
  let c256_i32_386 : BitVec 32 := 256#32
  let v843 : BitVec 32 := Scalar.muli v842 c256_i32_386
  v843
def k0_mult24 (i : grid0.Coords) (arg7 : BitVec 32) : BitVec 32 :=
  let arg2 : BitVec 32 := BitVec.ofNat 32 (i 2).val
  let c4_i32 : BitVec 32 := 4#32
  let v0 : BitVec 32 := Scalar.muli arg2 c4_i32
  let c3_i32_400 : BitVec 32 := 3#32
  let v877 : BitVec 32 := Scalar.addi v0 c3_i32_400
  let c2_i32_401 : BitVec 32 := 2#32
  let v878 : BitVec 32 := Scalar.subi v877 c2_i32_401
  let v879 : BitVec 32 := Scalar.subi v878 arg7
  let c0_i32_402 : BitVec 32 := 0#32
  let v880 : BitVec 32 := Scalar.maxsi v879 c0_i32_402
  let c256_i32_403 : BitVec 32 := 256#32
  let v881 : BitVec 32 := Scalar.muli v880 c256_i32_403
  v881

def k0_chk1 (i : grid0.Coords) (arg7 : BitVec 32) : Prop :=
  (256 ∣ (k0_mult17 i arg7).toNat) ∧
  (∀ (r : Fin 4), ∀ a, (k0_off5 i arg7 (BitVec.ofNat 32 r.val)) a + S1x256x64.size a ≤ S1x8192x128.size a) ∧
  (256 ∣ (k0_mult18 i arg7).toNat) ∧
  (∀ (r : Fin 4), ∀ a, (k0_off6 i arg7 (BitVec.ofNat 32 r.val)) a + S1x256x64.size a ≤ S1x8192x128.size a) ∧
  (256 ∣ (k0_mult19 i arg7).toNat) ∧
  (256 ∣ (k0_mult20 i arg7).toNat) ∧
  (256 ∣ (k0_mult21 i arg7).toNat) ∧
  (256 ∣ (k0_mult22 i arg7).toNat) ∧
  (256 ∣ (k0_mult23 i arg7).toNat) ∧
  (256 ∣ (k0_mult24 i arg7).toNat)
theorem k0_mult17_dvd : ∀ (i : grid0.Coords) (arg7 : BitVec 32) (k0_hw1 : k0_chk1 i arg7), 256 ∣ (k0_mult17 i arg7).toNat := fun i arg7 k0_hw1 => k0_hw1.1
theorem k0_off5_inb : ∀ (i : grid0.Coords) (arg7 : BitVec 32) (k0_hw1 : k0_chk1 i arg7), ∀ (r : Fin 4), ∀ a, (k0_off5 i arg7 (BitVec.ofNat 32 r.val)) a + S1x256x64.size a ≤ S1x8192x128.size a := fun i arg7 k0_hw1 r => k0_hw1.2.1 r
theorem k0_mult18_dvd : ∀ (i : grid0.Coords) (arg7 : BitVec 32) (k0_hw1 : k0_chk1 i arg7), 256 ∣ (k0_mult18 i arg7).toNat := fun i arg7 k0_hw1 => k0_hw1.2.2.1
theorem k0_off6_inb : ∀ (i : grid0.Coords) (arg7 : BitVec 32) (k0_hw1 : k0_chk1 i arg7), ∀ (r : Fin 4), ∀ a, (k0_off6 i arg7 (BitVec.ofNat 32 r.val)) a + S1x256x64.size a ≤ S1x8192x128.size a := fun i arg7 k0_hw1 r => k0_hw1.2.2.2.1 r
theorem k0_mult19_dvd : ∀ (i : grid0.Coords) (arg7 : BitVec 32) (k0_hw1 : k0_chk1 i arg7), 256 ∣ (k0_mult19 i arg7).toNat := fun i arg7 k0_hw1 => k0_hw1.2.2.2.2.1
theorem k0_mult20_dvd : ∀ (i : grid0.Coords) (arg7 : BitVec 32) (k0_hw1 : k0_chk1 i arg7), 256 ∣ (k0_mult20 i arg7).toNat := fun i arg7 k0_hw1 => k0_hw1.2.2.2.2.2.1
theorem k0_mult21_dvd : ∀ (i : grid0.Coords) (arg7 : BitVec 32) (k0_hw1 : k0_chk1 i arg7), 256 ∣ (k0_mult21 i arg7).toNat := fun i arg7 k0_hw1 => k0_hw1.2.2.2.2.2.2.1
theorem k0_mult22_dvd : ∀ (i : grid0.Coords) (arg7 : BitVec 32) (k0_hw1 : k0_chk1 i arg7), 256 ∣ (k0_mult22 i arg7).toNat := fun i arg7 k0_hw1 => k0_hw1.2.2.2.2.2.2.2.1
theorem k0_mult23_dvd : ∀ (i : grid0.Coords) (arg7 : BitVec 32) (k0_hw1 : k0_chk1 i arg7), 256 ∣ (k0_mult23 i arg7).toNat := fun i arg7 k0_hw1 => k0_hw1.2.2.2.2.2.2.2.2.1
theorem k0_mult24_dvd : ∀ (i : grid0.Coords) (arg7 : BitVec 32) (k0_hw1 : k0_chk1 i arg7), 256 ∣ (k0_mult24 i arg7).toNat := fun i arg7 k0_hw1 => k0_hw1.2.2.2.2.2.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "neg_log2e" => some ((-((Real.log 2)⁻¹) : ℝ) : EReal)
  | "never" => some ⊤
  | _ => none
-- ==== ReferenceIdeal.lean ====
abbrev S2x8192x3072 : Shape := ⟨3, ![2, 8192, 3072]⟩
abbrev S2x8192x1536 : Shape := ⟨3, ![2, 8192, 1536]⟩
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x8192x8192 : Shape := ⟨4, ![2, 8, 8192, 8192]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x3072, .bf16⟩
  | .hbm, ⟨1, _⟩ => ⟨S2x8192x3072, .f32⟩
  | .hbm, ⟨2, _⟩ => ⟨S2x8192x1536, .f32⟩
  | .hbm, ⟨3, _⟩ => ⟨S2x8192x512, .f32⟩
  | .hbm, ⟨4, _⟩ => ⟨S2x8192x512, .f32⟩
  | .hbm, ⟨5, _⟩ => ⟨S2x8192x512, .f32⟩
  | .hbm, ⟨6, _⟩ => ⟨S2x8192x8x64, .f32⟩
  | .hbm, ⟨7, _⟩ => ⟨S2x8x8192x64, .f32⟩
  | .hbm, ⟨8, _⟩ => ⟨S2x8192x8x64, .f32⟩
  | .hbm, ⟨9, _⟩ => ⟨S2x8x8192x64, .f32⟩
  | .hbm, ⟨10, _⟩ => ⟨S2x8192x8x64, .f32⟩
  | .hbm, ⟨11, _⟩ => ⟨S2x8x8192x64, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S2x8x8192x8192, .f32⟩
  | .hbm, ⟨19, _⟩ => ⟨S2x8x8192x8192, .f32⟩
  | .hbm, ⟨20, _⟩ => ⟨S_, .f32⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .i1⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S_, .f32⟩
  | .hbm, ⟨38, _⟩ => ⟨S2x8x8192x8192, .f32⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S2x8x8192x8192, .i1⟩
  | .hbm, ⟨43, _⟩ => ⟨S2x8x8192x8192, .f32⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S_, .f32⟩
  | .hbm, ⟨53, _⟩ => ⟨S_, .f32⟩
  | .hbm, ⟨54, _⟩ => ⟨S2x8x8192x8192, .i1⟩
  | .hbm, ⟨55, _⟩ => ⟨S2x8x8192x8192, .f32⟩
  | .hbm, ⟨56, _⟩ => ⟨S2x8x8192x8192, .f32⟩
  | .hbm, ⟨57, _⟩ => ⟨S_, .f32⟩
  | .hbm, ⟨58, _⟩ => ⟨S_, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S_, .f32⟩
  | .hbm, ⟨64, _⟩ => ⟨S_, .f32⟩
  | .hbm, ⟨65, _⟩ => ⟨S2x8x8192x8192, .i1⟩
  | .hbm, ⟨66, _⟩ => ⟨S2x8x8192x8192, .f32⟩
  | .hbm, ⟨67, _⟩ => ⟨S2x8x8192x8192, .f32⟩
  | .hbm, ⟨68, _⟩ => ⟨S2x8x8192x64, .f32⟩
  | .hbm, ⟨69, _⟩ => ⟨S2x8192x8x64, .f32⟩
  | .hbm, ⟨70, _⟩ => ⟨S2x8192x512, .f32⟩
  | .hbm, ⟨71, _⟩ => ⟨S2x8192x512, .bf16⟩
  | _, _ => ⟨S2x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v20 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v21 : Ref sig .tc := ⟨.hbm, 56, rfl⟩
abbrev main_call3_cst : Ref sig .tc := ⟨.hbm, 57, rfl⟩
abbrev main_call3_v0 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_0 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩

abbrev nD : Nat := 1
abbrev τ : Topo := Topo.v7x

variable {F : FTy → Type} [FloatOps F]
-- ==== Kernel2.lean ====
abbrev S16384x1024 : Shape := ⟨2, ![16384, 1024]⟩
abbrev S1024x3072 : Shape := ⟨2, ![1024, 3072]⟩
abbrev S16384x3072 : Shape := ⟨2, ![16384, 3072]⟩
abbrev S512x1024 : Shape := ⟨2, ![512, 1024]⟩
abbrev S512x3072 : Shape := ⟨2, ![512, 3072]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x3072, .bf16⟩
  | .hbm, ⟨2, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .bf16⟩
  | .hbm, ⟨2, _⟩ => ⟨S1024x3072, .f32⟩
  | .hbm, ⟨3, _⟩ => ⟨S16384x3072, .f32⟩
  | .hbm, ⟨4, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S16384x512 : Shape := ⟨2, ![16384, 512]⟩
abbrev S16384x1024 : Shape := ⟨2, ![16384, 1024]⟩
abbrev S1x512 : Shape := ⟨2, ![1, 512]⟩
abbrev S1024x1024 : Shape := ⟨2, ![1024, 1024]⟩
abbrev S1x1024 : Shape := ⟨2, ![1, 1024]⟩
abbrev S2x256x2048 : Shape := ⟨3, ![2, 256, 2048]⟩
abbrev S1024x32 : Shape := ⟨2, ![1024, 32]⟩
abbrev S1x32 : Shape := ⟨2, ![1, 32]⟩
abbrev S131072x128 : Shape := ⟨2, ![131072, 128]⟩
abbrev S16384x128 : Shape := ⟨2, ![16384, 128]⟩
abbrev S1x128 : Shape := ⟨2, ![1, 128]⟩
abbrev S512x512 : Shape := ⟨2, ![512, 512]⟩
abbrev S512x1024 : Shape := ⟨2, ![512, 1024]⟩
abbrev S1x256x2048 : Shape := ⟨3, ![1, 256, 2048]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S512x32 : Shape := ⟨2, ![512, 32]⟩
abbrev S128 : Shape := ⟨1, ![128]⟩

abbrev nBuf : Space → Nat
  | .hbm => 19
  | .vmem => 26
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1x512, .f32⟩
  | .hbm, ⟨4, _⟩ => ⟨S1x512, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S2x256x2048, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1024x32, .bf16⟩
  | .hbm, ⟨14, _⟩ => ⟨S1x32, .f32⟩
  | .hbm, ⟨15, _⟩ => ⟨S131072x128, .f32⟩
  | .hbm, ⟨16, _⟩ => ⟨S16384x128, .i32⟩
  | .hbm, ⟨17, _⟩ => ⟨S16384x128, .f32⟩
  | .hbm, ⟨18, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x256x2048, .bf16⟩
  | .local _ .vmem, ⟨13, _⟩ => ⟨S1x256x2048, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x32, .bf16⟩
  | .local _ .vmem, ⟨18, _⟩ => ⟨S1x32, .f32⟩
  | .local _ .vmem, ⟨19, _⟩ => ⟨S4096x128, .f32⟩
  | .local _ .vmem, ⟨20, _⟩ => ⟨S4096x128, .f32⟩
  | .local _ .vmem, ⟨21, _⟩ => ⟨S512x128, .i32⟩
  | .local _ .vmem, ⟨22, _⟩ => ⟨S512x128, .i32⟩
  | .local _ .vmem, ⟨23, _⟩ => ⟨S512x128, .f32⟩
  | .local _ .vmem, ⟨24, _⟩ => ⟨S512x128, .f32⟩
  | .local _ .vmem, ⟨25, _⟩ => ⟨S1x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x32 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S4096x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== Reference3Ideal.lean ====
abbrev S16384x512 : Shape := ⟨2, ![16384, 512]⟩
abbrev S16384x1024 : Shape := ⟨2, ![16384, 1024]⟩
abbrev S1x512 : Shape := ⟨2, ![1, 512]⟩
abbrev S1024x1024 : Shape := ⟨2, ![1024, 1024]⟩
abbrev S1x1024 : Shape := ⟨2, ![1, 1024]⟩
abbrev S2x256x2048 : Shape := ⟨3, ![2, 256, 2048]⟩
abbrev S1024x32 : Shape := ⟨2, ![1024, 32]⟩
abbrev S1x32 : Shape := ⟨2, ![1, 32]⟩
abbrev S_ : Shape := ⟨0, ![]⟩
abbrev S16384 : Shape := ⟨1, ![16384]⟩
abbrev S16384x1 : Shape := ⟨2, ![16384, 1]⟩
abbrev S2x8192x4x256 : Shape := ⟨4, ![2, 8192, 4, 256]⟩
abbrev S2x256x1024 : Shape := ⟨3, ![2, 256, 1024]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S131072x128 : Shape := ⟨2, ![131072, 128]⟩

abbrev nBuf : Space → Nat
  | .hbm => 150
  | .vmem => 0
  | .smem => 0
  | _ => 0

abbrev hbmTy0_0 (i : Nat) : BufTy := match i % 128 with
  | 0 => ⟨S16384x512, .bf16⟩
  | 1 => ⟨S16384x512, .bf16⟩
  | 2 => ⟨S16384x1024, .f32⟩
  | 3 => ⟨S1x512, .f32⟩
  | 4 => ⟨S1x512, .f32⟩
  | 5 => ⟨S1024x1024, .bf16⟩
  | 6 => ⟨S1x1024, .f32⟩
  | 7 => ⟨S1x1024, .f32⟩
  | 8 => ⟨S1024x1024, .bf16⟩
  | 9 => ⟨S2x256x2048, .bf16⟩
  | 10 => ⟨S1024x1024, .bf16⟩
  | 11 => ⟨S1x1024, .f32⟩
  | 12 => ⟨S1x1024, .f32⟩
  | 13 => ⟨S1024x32, .bf16⟩
  | 14 => ⟨S1x32, .f32⟩
  | 15 => ⟨S16384x512, .f32⟩
  | 16 => ⟨S16384x512, .f32⟩
  | 17 => ⟨S1024x1024, .f32⟩
  | 18 => ⟨S1024x1024, .f32⟩
  | 19 => ⟨S2x256x2048, .f32⟩
  | 20 => ⟨S1024x1024, .f32⟩
  | 21 => ⟨S16384x512, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S_, .f32⟩
  | 29 => ⟨S16384x1, .f32⟩
  | 30 => ⟨S16384x1, .f32⟩
  | 31 => ⟨S16384x1, .f32⟩
  | 32 => ⟨S16384x512, .f32⟩
  | 33 => ⟨S16384x512, .f32⟩
  | 34 => ⟨S16384x512, .f32⟩
  | 35 => ⟨S16384x512, .f32⟩
  | 36 => ⟨S16384x512, .f32⟩
  | 37 => ⟨S_, .f32⟩
  | 38 => ⟨S16384, .f32⟩
  | 39 => ⟨S16384x1, .f32⟩
  | 40 => ⟨S_, .f32⟩
  | 41 => ⟨S16384x1, .f32⟩
  | 42 => ⟨S16384x1, .f32⟩
  | 43 => ⟨S_, .f32⟩
  | 44 => ⟨S16384x1, .f32⟩
  | 45 => ⟨S16384x1, .f32⟩
  | 46 => ⟨S16384x1, .f32⟩
  | 47 => ⟨S16384x512, .f32⟩
  | 48 => ⟨S16384x512, .f32⟩
  | 49 => ⟨S16384x512, .f32⟩
  | 50 => ⟨S16384x512, .f32⟩
  | 51 => ⟨S16384x1024, .f32⟩
  | 52 => ⟨S16384x1024, .bf16⟩
  | 53 => ⟨S16384x1024, .f32⟩
  | 54 => ⟨S_, .f32⟩
  | 55 => ⟨S16384x1024, .f32⟩
  | 56 => ⟨S16384x1024, .f32⟩
  | 57 => ⟨S16384x1024, .f32⟩
  | 58 => ⟨S16384x1024, .f32⟩
  | 59 => ⟨S_, .f32⟩
  | 60 => ⟨S16384, .f32⟩
  | 61 => ⟨S16384x1, .f32⟩
  | 62 => ⟨S_, .f32⟩
  | 63 => ⟨S16384x1, .f32⟩
  | 64 => ⟨S16384x1, .f32⟩
  | 65 => ⟨S16384x1024, .f32⟩
  | 66 => ⟨S16384x1024, .f32⟩
  | 67 => ⟨S16384x1024, .f32⟩
  | 68 => ⟨S_, .f32⟩
  | 69 => ⟨S16384, .f32⟩
  | 70 => ⟨S16384x1, .f32⟩
  | 71 => ⟨S_, .f32⟩
  | 72 => ⟨S16384x1, .f32⟩
  | 73 => ⟨S16384x1, .f32⟩
  | 74 => ⟨S16384x1024, .f32⟩
  | 75 => ⟨S16384x1024, .f32⟩
  | 76 => ⟨S_, .f32⟩
  | 77 => ⟨S16384x1, .f32⟩
  | 78 => ⟨S16384x1, .f32⟩
  | 79 => ⟨S16384x1, .f32⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S16384x1024, .f32⟩
  | 86 => ⟨S16384x1024, .f32⟩
  | 87 => ⟨S16384x1024, .bf16⟩
  | 88 => ⟨S16384x1024, .f32⟩
  | 89 => ⟨S2x8192x4x256, .f32⟩
  | 90 => ⟨S2x256x1024, .f32⟩
  | 91 => ⟨S2x256x1024, .f32⟩
  | 92 => ⟨S2x256x4x256, .f32⟩
  | 93 => ⟨S2x256x4x256, .f32⟩
  | 94 => ⟨S2x4x8192x256, .f32⟩
  | 95 => ⟨S_, .f32⟩
  | 96 => ⟨S2x4x8192x256, .f32⟩
  | 97 => ⟨S2x4x8192x256, .f32⟩
  | 98 => ⟨S_, .f32⟩
  | 99 => ⟨S2x4x8192, .f32⟩
  | 100 => ⟨S_, .f32⟩
  | 101 => ⟨S2x4x8192, .f32⟩
  | 102 => ⟨S2x4x8192, .f32⟩
  | 103 => ⟨S2x4x8192x1, .f32⟩
  | 104 => ⟨S2x4x8192x256, .f32⟩
  | 105 => ⟨S2x4x8192x256, .f32⟩
  | 106 => ⟨S2x4x8192x256, .f32⟩
  | 107 => ⟨S_, .f32⟩
  | 108 => ⟨S2x4x8192, .f32⟩
  | 109 => ⟨S2x4x8192x1, .f32⟩
  | 110 => ⟨S2x4x8192x256, .f32⟩
  | 111 => ⟨S2x4x8192x256, .f32⟩
  | 112 => ⟨S2x4x256x8192, .f32⟩
  | 113 => ⟨S2x8192x4x256, .f32⟩
  | 114 => ⟨S16384x1024, .f32⟩
  | 115 => ⟨S_, .f32⟩
  | 116 => ⟨S16384x1024, .f32⟩
  | 117 => ⟨S16384x1024, .f32⟩
  | 118 => ⟨S16384x1024, .bf16⟩
  | 119 => ⟨S16384x1024, .f32⟩
  | 120 => ⟨S16384x1024, .f32⟩
  | 121 => ⟨S16384x1024, .f32⟩
  | 122 => ⟨S_, .f32⟩
  | 123 => ⟨S16384, .f32⟩
  | 124 => ⟨S16384x1, .f32⟩
  | 125 => ⟨S_, .f32⟩
  | 126 => ⟨S16384x1, .f32⟩
  | 127 => ⟨S16384x1, .f32⟩
  | _ => ⟨S16384x512, .bf16⟩

abbrev hbmTy0_1 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S16384, .f32⟩
  | 5 => ⟨S16384x1, .f32⟩
  | 6 => ⟨S_, .f32⟩
  | 7 => ⟨S16384x1, .f32⟩
  | 8 => ⟨S16384x1, .f32⟩
  | 9 => ⟨S16384x1024, .f32⟩
  | 10 => ⟨S16384x1024, .f32⟩
  | 11 => ⟨S_, .f32⟩
  | 12 => ⟨S16384x1, .f32⟩
  | 13 => ⟨S16384x1, .f32⟩
  | 14 => ⟨S16384x1, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S131072x128, .f32⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_15 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_16 : Ref sig .tc := ⟨.hbm, 122, rfl⟩
abbrev main_v90 : Ref sig .tc := ⟨.hbm, 123, rfl⟩
abbrev main_v91 : Ref sig .tc := ⟨.hbm, 124, rfl⟩
abbrev main_cst_17 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_18 : Ref sig .tc := ⟨.hbm, 131, rfl⟩
abbrev main_v97 : Ref sig .tc := ⟨.hbm, 132, rfl⟩
abbrev main_v98 : Ref sig .tc := ⟨.hbm, 133, rfl⟩
abbrev main_cst_19 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_20 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩

abbrev nD : Nat := 1
abbrev τ : Topo := Topo.v7x

variable {F : FTy → Type} [FloatOps F]
-- ==== Kernel4.lean ====
abbrev S512x1024 : Shape := ⟨2, ![512, 1024]⟩
abbrev S1024x2048 : Shape := ⟨2, ![1024, 2048]⟩
abbrev S512x2048 : Shape := ⟨2, ![512, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024x2048, .bf16⟩
  | .hbm, ⟨2, _⟩ => ⟨S512x2048, .bf16⟩
  | .local _ .vmem, ⟨0, _⟩ => ⟨S512x1024, .f32⟩
  | .local _ .vmem, ⟨1, _⟩ => ⟨S1024x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x2048, .bf16⟩
  | .hbm, ⟨2, _⟩ => ⟨S1024x2048, .f32⟩
  | .hbm, ⟨3, _⟩ => ⟨S512x2048, .f32⟩
  | .hbm, ⟨4, _⟩ => ⟨S512x2048, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S2x8192x3072 : Shape := ⟨3, ![2, 8192, 3072]⟩
abbrev S8x257 : Shape := ⟨2, ![8, 257]⟩
abbrev S1536 : Shape := ⟨1, ![1536]⟩
abbrev S_ : Shape := ⟨0, ![]⟩
abbrev S1536x1 : Shape := ⟨2, ![1536, 1]⟩
abbrev S8x1536 : Shape := ⟨2, ![8, 1536]⟩
abbrev S8x1x1536 : Shape := ⟨3, ![8, 1, 1536]⟩
abbrev S3x8x256x768 : Shape := ⟨4, ![3, 8, 256, 768]⟩
abbrev S1x1x1536 : Shape := ⟨3, ![1, 1, 1536]⟩
abbrev S3x1x256x768 : Shape := ⟨4, ![3, 1, 256, 768]⟩
abbrev S1x1536 : Shape := ⟨2, ![1, 1536]⟩
abbrev S1x512 : Shape := ⟨2, ![1, 512]⟩
abbrev S1x2048 : Shape := ⟨2, ![1, 2048]⟩
abbrev S256x2048 : Shape := ⟨2, ![256, 2048]⟩
abbrev S256x1536 : Shape := ⟨2, ![256, 1536]⟩
abbrev S256x768 : Shape := ⟨2, ![256, 768]⟩
abbrev S1x1x256x768 : Shape := ⟨4, ![1, 1, 256, 768]⟩
abbrev S2x8192x512 : Shape := ⟨3, ![2, 8192, 512]⟩
abbrev S1x512x256 : Shape := ⟨3, ![1, 512, 256]⟩
abbrev S1x4x256x768 : Shape := ⟨4, ![1, 4, 256, 768]⟩
abbrev S1x512x64 : Shape := ⟨3, ![1, 512, 64]⟩
abbrev S512x64 : Shape := ⟨2, ![512, 64]⟩
abbrev S1024x64 : Shape := ⟨2, ![1024, 64]⟩
abbrev S1x256x64 : Shape := ⟨3, ![1, 256, 64]⟩
abbrev S256x64 : Shape := ⟨2, ![256, 64]⟩
abbrev S768x64 : Shape := ⟨2, ![768, 64]⟩
abbrev S256 : Shape := ⟨1, ![256]⟩
abbrev S256x1 : Shape := ⟨2, ![256, 1]⟩

abbrev nBuf : Space → Nat
  | .hbm => 36
  | .vmem => 20
  | .smem => 0
  | _ => 0

abbrev bufTy : (tb : Table) → Fin (tcTables nBuf tb) → BufTy
  | .hbm, ⟨0, _⟩ => ⟨S2x8192x3072, .bf16⟩
  | .hbm, ⟨1, _⟩ => ⟨S8x257, .f32⟩
  | .hbm, ⟨2, _⟩ => ⟨S1536, .i32⟩
  | .hbm, ⟨3, _⟩ => ⟨S_, .i32⟩
  | .hbm, ⟨4, _⟩ => ⟨S1536, .i32⟩
  | .hbm, ⟨5, _⟩ => ⟨S1536, .i1⟩
  | .hbm, ⟨6, _⟩ => ⟨S_, .i32⟩
  | .hbm, ⟨7, _⟩ => ⟨S1536, .i32⟩
  | .hbm, ⟨8, _⟩ => ⟨S1536, .i32⟩
  | .hbm, ⟨9, _⟩ => ⟨S_, .i32⟩
  | .hbm, ⟨10, _⟩ => ⟨S1536, .i32⟩
  | .hbm, ⟨11, _⟩ => ⟨S1536, .i32⟩
  | .hbm, ⟨12, _⟩ => ⟨S1536, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1536, .i32⟩
  | .hbm, ⟨17, _⟩ => ⟨S1536, .i32⟩
  | .hbm, ⟨18, _⟩ => ⟨S_, .i32⟩
  | .hbm, ⟨19, _⟩ => ⟨S1536, .i32⟩
  | .hbm, ⟨20, _⟩ => ⟨S1536, .i32⟩
  | .hbm, ⟨21, _⟩ => ⟨S_, .i32⟩
  | .hbm, ⟨22, _⟩ => ⟨S1536, .i32⟩
  | .hbm, ⟨23, _⟩ => ⟨S1536, .i32⟩
  | .hbm, ⟨24, _⟩ => ⟨S_, .i32⟩
  | .hbm, ⟨25, _⟩ => ⟨S1536, .i32⟩
  | .hbm, ⟨26, _⟩ => ⟨S1536, .i1⟩
  | .hbm, ⟨27, _⟩ => ⟨S_, .i32⟩
  | .hbm, ⟨28, _⟩ => ⟨S1536, .i32⟩
  | .hbm, ⟨29, _⟩ => ⟨S1536, .i32⟩
  | .hbm, ⟨30, _⟩ => ⟨S1536, .i32⟩
  | .hbm, ⟨31, _⟩ => ⟨S1536x1, .i32⟩
  | .hbm, ⟨32, _⟩ => ⟨S8x1536, .f32⟩
  | .hbm, ⟨33, _⟩ => ⟨S8x1x1536, .f32⟩
  | .hbm, ⟨34, _⟩ => ⟨S3x8x256x768, .f32⟩
  | .hbm, ⟨35, _⟩ => ⟨S2x8192x512, .bf16⟩
  | .local _ .vmem, ⟨0, _⟩ => ⟨S1x1x1536, .f32⟩
  | .local _ .vmem, ⟨1, _⟩ => ⟨S1x1x1536, .f32⟩
  | .local _ .vmem, ⟨2, _⟩ => ⟨S3x1x256x768, .f32⟩
  | .local _ .vmem, ⟨3, _⟩ => ⟨S3x1x256x768, .f32⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x4x256x768, .f32⟩
  | .local _ .vmem, ⟨15, _⟩ => ⟨S1x4x256x768, .f32⟩
  | .local _ .vmem, ⟨16, _⟩ => ⟨S1x4x256x768, .f32⟩
  | .local _ .vmem, ⟨17, _⟩ => ⟨S1x4x256x768, .f32⟩
  | .local _ .vmem, ⟨18, _⟩ => ⟨S1x512x256, .bf16⟩
  | .local _ .vmem, ⟨19, _⟩ => ⟨S1x512x256, .bf16⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_c_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_c_5 : Ref sig .tc := ⟨.hbm, 24, rfl⟩
abbrev main_v11 : Ref sig .tc := ⟨.hbm, 25, rfl⟩
abbrev main_v12 : Ref sig .tc := ⟨.hbm, 26, rfl⟩
abbrev main_c_6 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![2, 2, 16], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.addi c2_i32 arg1
  let c0_i32_0 : BitVec 32 := 0#32
  ![arg0.toNat, v1.toNat, v2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c4_i32 : BitVec 32 := 4#32
  let v2 : BitVec 32 := Scalar.addi c4_i32 arg1
  let c0_i32_0 : BitVec 32 := 0#32
  ![arg0.toNat, v1.toNat, v2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  ![v1.toNat, arg1.toNat, c0_i32_1.toNat, c0_i32_2.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c2_i32 : BitVec 32 := 2#32
  let c0_i32_0 : BitVec 32 := 0#32
  let v1 : BitVec 32 := Scalar.select v0 c2_i32 c0_i32_0
  let c0_i32_1 : BitVec 32 := 0#32
  let c0_i32_2 : BitVec 32 := 0#32
  let c0_i32_3 : BitVec 32 := 0#32
  ![v1.toNat, arg1.toNat, c0_i32_1.toNat, c0_i32_2.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x512x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x4x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, true]

abbrev stage1_6 : Fin 2 → Memref sig .tc .vmem S1x4x256x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, true]

abbrev stage1_7 : Fin 2 → Memref sig .tc .vmem S1x512x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]
-- ==== Kernel5Ideal.lean ====
variable {F : FTy → Type} [FloatOps F] [Named F]
def κ : String → Option EReal := fun
  | "masked" => some ⊥
  | _ => none
-- ==== Reference5Ideal.lean ====
abbrev S2x8192x3072 : Shape := ⟨3, ![2, 8192, 3072]⟩
abbrev S8x257 : Shape := ⟨2, ![8, 257]⟩
abbrev S2x8192x1536 : Shape := ⟨3, ![2, 8192, 1536]⟩
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S8192 : Shape := ⟨1, ![8192]⟩
abbrev S128 : Shape := ⟨1, ![128]⟩
abbrev S128x1 : Shape := ⟨2, ![128, 1]⟩
abbrev S128x64 : Shape := ⟨2, ![128, 64]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2x8x8192x8192 : Shape := ⟨4, ![2, 8, 8192, 8192]⟩
abbrev S8192x8192x1 : Shape := ⟨3, ![8192, 8192, 1]⟩
abbrev S8x8192x8192 : Shape := ⟨3, ![8, 8192, 8192]⟩
abbrev S1x8x8192x8192 : Shape := ⟨4, ![1, 8, 8192, 8192]⟩
abbrev S2x8x8192 : Shape := ⟨3, ![2, 8, 8192]⟩
abbrev S2x8x8192x1 : Shape := ⟨4, ![2, 8, 8192, 1]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x3072, .bf16⟩
  | .hbm, ⟨1, _⟩ => ⟨S8x257, .f32⟩
  | .hbm, ⟨2, _⟩ => ⟨S2x8192x1536, .bf16⟩
  | .hbm, ⟨3, _⟩ => ⟨S2x8192x512, .bf16⟩
  | .hbm, ⟨4, _⟩ => ⟨S2x8192x512, .bf16⟩
  | .hbm, ⟨5, _⟩ => ⟨S2x8192x512, .bf16⟩
  | .hbm, ⟨6, _⟩ => ⟨S2x8192x512, .f32⟩
  | .hbm, ⟨7, _⟩ => ⟨S2x8192x8x64, .f32⟩
  | .hbm, ⟨8, _⟩ => ⟨S2x8x8192x64, .f32⟩
  | .hbm, ⟨9, _⟩ => ⟨S2x8192x512, .f32⟩
  | .hbm, ⟨10, _⟩ => ⟨S2x8192x8x64, .f32⟩
  | .hbm, ⟨11, _⟩ => ⟨S2x8x8192x64, .f32⟩
  | .hbm, ⟨12, _⟩ => ⟨S2x8192x512, .f32⟩
  | .hbm, ⟨13, _⟩ => ⟨S2x8192x8x64, .f32⟩
  | .hbm, ⟨14, _⟩ => ⟨S2x8x8192x64, .f32⟩
  | .hbm, ⟨15, _⟩ => ⟨S8192, .i32⟩
  | .hbm, ⟨16, _⟩ => ⟨S128, .i32⟩
  | .hbm, ⟨17, _⟩ => ⟨S128x1, .i32⟩
  | .hbm, ⟨18, _⟩ => ⟨S128x64, .i32⟩
  | .hbm, ⟨19, _⟩ => ⟨S8192, .i32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i32⟩
  | .hbm, ⟨25, _⟩ => ⟨S8192x1, .i32⟩
  | .hbm, ⟨26, _⟩ => ⟨S1x8192, .i32⟩
  | .hbm, ⟨27, _⟩ => ⟨S8192x8192, .i32⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S_, .i32⟩
  | .hbm, ⟨36, _⟩ => ⟨S8192x8192, .i32⟩
  | .hbm, ⟨37, _⟩ => ⟨S8192x8192, .i32⟩
  | .hbm, ⟨38, _⟩ => ⟨S_, .i32⟩
  | .hbm, ⟨39, _⟩ => ⟨S8192x8192, .i32⟩
  | .hbm, ⟨40, _⟩ => ⟨S8192x8192, .i32⟩
  | .hbm, ⟨41, _⟩ => ⟨S2x8x8192x8192, .f32⟩
  | .hbm, ⟨42, _⟩ => ⟨S_, .i32⟩
  | .hbm, ⟨43, _⟩ => ⟨S8192x8192, .i32⟩
  | .hbm, ⟨44, _⟩ => ⟨S8192x8192, .i1⟩
  | .hbm, ⟨45, _⟩ => ⟨S_, .i32⟩
  | .hbm, ⟨46, _⟩ => ⟨S8192x8192, .i32⟩
  | .hbm, ⟨47, _⟩ => ⟨S8192x8192, .i32⟩
  | .hbm, ⟨48, _⟩ => ⟨S8192x8192, .i32⟩
  | .hbm, ⟨49, _⟩ => ⟨S8192x8192x1, .i32⟩
  | .hbm, ⟨50, _⟩ => ⟨S8x8192x8192, .f32⟩
  | .hbm, ⟨51, _⟩ => ⟨S1x8x8192x8192, .f32⟩
  | .hbm, ⟨52, _⟩ => ⟨S2x8x8192x8192, .f32⟩
  | .hbm, ⟨53, _⟩ => ⟨S2x8x8192x8192, .f32⟩
  | .hbm, ⟨54, _⟩ => ⟨S_, .i32⟩
  | .hbm, ⟨55, _⟩ => ⟨S8192x8192, .i32⟩
  | .hbm, ⟨56, _⟩ => ⟨S8192x8192, .i1⟩
  | .hbm, ⟨57, _⟩ => ⟨S_, .i32⟩
  | .hbm, ⟨58, _⟩ => ⟨S8192x8192, .i32⟩
  | .hbm, ⟨59, _⟩ => ⟨S8192x8192, .i1⟩
  | .hbm, ⟨60, _⟩ => ⟨S8192x8192, .i1⟩
  | .hbm, ⟨61, _⟩ => ⟨S_, .f32⟩
  | .hbm, ⟨62, _⟩ => ⟨S_, .f32⟩
  | .hbm, ⟨63, _⟩ => ⟨S2x8x8192x8192, .i1⟩
  | .hbm, ⟨64, _⟩ => ⟨S2x8x8192x8192, .f32⟩
  | .hbm, ⟨65, _⟩ => ⟨S2x8x8192x8192, .f32⟩
  | .hbm, ⟨66, _⟩ => ⟨S_, .f32⟩
  | .hbm, ⟨67, _⟩ => ⟨S2x8x8192, .f32⟩
  | .hbm, ⟨68, _⟩ => ⟨S_, .f32⟩
  | .hbm, ⟨69, _⟩ => ⟨S2x8x8192, .f32⟩
  | .hbm, ⟨70, _⟩ => ⟨S2x8x8192, .f32⟩
  | .hbm, ⟨71, _⟩ => ⟨S2x8x8192x1, .f32⟩
  | .hbm, ⟨72, _⟩ => ⟨S2x8x8192x8192, .f32⟩
  | .hbm, ⟨73, _⟩ => ⟨S2x8x8192x8192, .f32⟩
  | .hbm, ⟨74, _⟩ => ⟨S2x8x8192x8192, .f32⟩
  | .hbm, ⟨75, _⟩ => ⟨S_, .f32⟩
  | .hbm, ⟨76, _⟩ => ⟨S2x8x8192, .f32⟩
  | .hbm, ⟨77, _⟩ => ⟨S2x8x8192x1, .f32⟩
  | .hbm, ⟨78, _⟩ => ⟨S2x8x8192x8192, .f32⟩
  | .hbm, ⟨79, _⟩ => ⟨S2x8x8192x8192, .f32⟩
  | .hbm, ⟨80, _⟩ => ⟨S2x8x8192x64, .f32⟩
  | .hbm, ⟨81, _⟩ => ⟨S2x8192x8x64, .f32⟩
  | .hbm, ⟨82, _⟩ => ⟨S2x8192x512, .f32⟩
  | .hbm, ⟨83, _⟩ => ⟨S2x8192x512, .bf16⟩
  | _, _ => ⟨S2x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_c : Ref sig .tc := ⟨.hbm, 30, rfl⟩
abbrev main_c_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v28 : Ref sig .tc := ⟨.hbm, 37, rfl⟩
abbrev main_c_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Proof.Sb.Fn.lean ====
/-
  The stick-breaking attention kernel as pure functions.

  One grid point works on four tiles of 256 queries and two heads: eight chains, chain `c` being tile `c / 2` of the four
  and head `c % 2`.  A chain walks the key tiles from its own tile downwards and carries `later`, the sum over the keys
  already visited of `softplus` of the scores (one value per query), and the weighted sum of value rows.  The
  functions here are the ones the printed kernel applies, written once for all chains, at any float values and for any
  two constants: `ne`, the factor of the exponent in `softplus`, and `thr`, the bound that ends the walk.
-/
module

public import proofs.«01_k».proof.Proof.Gen.Kernel
public import Idealize.ShloMosaic.Lib.Pipeline.FrameBody

@[expose] public section

noncomputable section

namespace Cert.Sb

open Idealize.ShloMosaic Cert.Kernel Cert.Kernel.Gen

variable {F : FTy → Type} [FloatOps F]

/-- A staged block: `n` rows of two heads' 64 lanes. -/
abbrev Blk (n : ℕ) : Shape := ⟨3, ![1, n, 128]⟩

/-- The 256 by 64 tile of a staged block at row `row` and lane `lane`. -/
def tileAt (n row lane : ℕ) (x : Vec F (Blk n) .bf16) : FVec F S256x64 .bf16 :=
  if h : ∀ a, (![0, row, lane] : Fin 3 → ℕ) a + S1x256x64.size a ≤ (Blk n).size a then
    shapeCast S256x64 (View.ld x (Rect.unit (s := Blk n) ![0, row, lane] S1x256x64.size h)
      : Vec F S1x256x64 .bf16) shapeCasts_S1x256x64_S256x64
  else broadcast S256x64 (Scalar.ofBits .bf16 0x0000#16)

/-- Tile `c / 2` of the point's four, as a word. -/
def uW : Fin 8 → BitVec 32 := ![0#32, 0#32, 1#32, 1#32, 2#32, 2#32, 3#32, 3#32]

/-- The first row of the chain's queries in their block, and the first lane of its head. -/
def rowQ : Fin 8 → ℕ := ![0, 0, 256, 256, 512, 512, 768, 768]
def lane : Fin 8 → ℕ := ![0, 64, 0, 64, 0, 64, 0, 64]

/-- The chain's own tile, the point's first being `w`. -/
def tileW (w : BitVec 32) (c : Fin 8) : BitVec 32 := Scalar.addi w (uW c)

/-- The tile the loop's trip at counter `n` visits: two below the own tile less the counter (negative: none). -/
def jW (w n : BitVec 32) (c : Fin 8) : BitVec 32 := Scalar.subi (Scalar.subi (tileW w c) 2#32) n

/-- The first key row of the own tile, of the one before it, and of the loop's tile. -/
def rowD (w : BitVec 32) (c : Fin 8) : ℕ := (Scalar.indexCast (Scalar.muli (tileW w c) 256#32)).toNat
def rowP (w : BitVec 32) (c : Fin 8) : ℕ :=
  (Scalar.indexCast (Scalar.muli (Scalar.maxsi (Scalar.subi (tileW w c) 1#32) 0#32) 256#32)).toNat
def rowL (w n : BitVec 32) (c : Fin 8) : ℕ := (Scalar.indexCast (Scalar.muli (Scalar.maxsi (jW w n c) 0#32) 256#32)).toNat

/-- Ones on and below the diagonal: the product by it adds up the columns from the right. -/
def tri : FVec F S256x256 .bf16 :=
  truncf .bf16 (select (cmpi .sge (iota .tc S256x256 32 [0] iota_S256x256_d0_w32) (iota .tc S256x256 32 [1] iota_S256x256_d1_w32))
    (broadcast S256x256 (Scalar.ofBits .f32 0x3F800000#32)) (broadcast S256x256 (Scalar.ofBits .f32 0x00000000#32))) bitsLt_bf16_f32

/-- Key before query, inside the diagonal tile. -/
def caus : IVec S256x256 1 :=
  cmpi .slt (iota .tc S256x256 32 [1] iota_S256x256_d1_w32) (iota .tc S256x256 32 [0] iota_S256x256_d0_w32)

/-- The scores of a tile of queries against a tile of keys. -/
def zOf (q k : FVec F S256x64 .bf16) : FVec F S256x256 .f32 :=
  matmul dot_S256x64_S256x64_S256x256_1_1_0_0_n_n none q k (constant S256x256 .f32 0x00000000#32)

/-- `softplus` of the scores. -/
def spOf (ne : F .f32) (z : FVec F S256x256 .f32) : FVec F S256x256 .f32 :=
  addf (maximumf z (broadcast S256x256 (Scalar.ofBits .f32 0x00000000#32)))
    (log (addf (broadcast S256x256 (Scalar.ofBits .f32 0x3F800000#32)) (exp2 (mulf (absf z) (broadcast S256x256 ne)))))

/-- The sum of `sp` over the columns from each one to the right, above what `later` holds. -/
def csumOf (sp : FVec F S256x256 .f32) (later : FVec F S256x1 .f32) : FVec F S256x256 .f32 :=
  addf (matmul dot_S256x256_S256x256_S256x256_1_0_0_1_n_n none (truncf .bf16 sp bitsLt_bf16_f32) tri (constant S256x256 .f32 0x00000000#32))
    (broadcastTo S256x256 later broadcasts_S256x1_S256x256)

/-- The first column: the sum over the whole tile and all after it. -/
def laterOf (cs : FVec F S256x256 .f32) : FVec F S256x1 .f32 :=
  extractStridedSlice S256x1 ![0, 0] cs slices_S256x256_o0_0_S256x1

/-- Weights times value rows. -/
def pvOf (wgt : FVec F S256x256 .f32) (v : FVec F S256x64 .bf16) : FVec F S256x64 .f32 :=
  matmul dot_S256x256_S256x64_S256x64_1_0_0_1_n_n none (truncf .bf16 wgt bitsLt_bf16_f32) v (constant S256x64 .f32 0x00000000#32)

/-- The running sums on the diagonal tile, where only the earlier keys count. -/
def diagSum (ne : F .f32) (q k : FVec F S256x64 .bf16) : FVec F S256x256 .f32 :=
  csumOf (select caus (spOf ne (zOf q k)) (broadcast S256x256 (Scalar.ofBits .f32 0x00000000#32)))
    (broadcast S256x1 (Scalar.ofBits .f32 0x00000000#32))

/-- A chain's state: `later` and the weighted sum. -/
abbrev Ch (F : FTy → Type) : Type := FVec F S256x1 .f32 × FVec F S256x64 .f32

/-- The diagonal tile. -/
def diagCh (ne : F .f32) (q k v : FVec F S256x64 .bf16) : Ch F :=
  (laterOf (diagSum ne q k),
   pvOf (select caus (exp (subf (zOf q k) (diagSum ne q k))) (broadcast S256x256 (Scalar.ofBits .f32 0x00000000#32))) v)

/-- The running sums on an earlier tile. -/
def tileSum (ne : F .f32) (q k : FVec F S256x64 .bf16) (later : FVec F S256x1 .f32) : FVec F S256x256 .f32 :=
  csumOf (spOf ne (zOf q k)) later

/-- An earlier tile, taken when `b` holds. -/
def tileCh (ne : F .f32) (b : BitVec 1) (q k v : FVec F S256x64 .bf16) (st : Ch F) : Ch F :=
  (Scalar.select b (laterOf (tileSum ne q k st.1)) st.1,
   addf st.2 (Scalar.select b (pvOf (exp (subf (zOf q k) (tileSum ne q k st.1))) v)
    (broadcast S256x64 (Scalar.ofBits .f32 0x00000000#32))))

/-- The least of a column. -/
def minOf (later : FVec F S256x1 .f32) : F .f32 :=
  extractAt ![0, 0, 0] (shapeCast S1x1x1 (multiReduction .minimumf [1, 2] S1
    (shapeCast S1x256x1 later shapeCasts_S256x1_S1x256x1) 0x7F800000#32 reduces_S1x256x1_S1 (.inl rfl) rfl) shapeCasts_S1_S1x1x1)
    inpos_S1x1x1_p0_0_0

/-- The eight chains' states. -/
abbrev St (F : FTy → Type) : Type := Fin 8 → Ch F

/-- The chains' queries. -/
def qs (x : Vec F (Blk 1024) .bf16) (c : Fin 8) : FVec F S256x64 .bf16 := tileAt 1024 (rowQ c) (lane c) x

/-- The states before the loop: the own tile, then the one before it where there is one. -/
def init (ne : F .f32) (w : BitVec 32) (q : Fin 8 → FVec F S256x64 .bf16) (K V : Vec F (Blk 8192) .bf16) : St F := fun c =>
  tileCh ne (Scalar.cmpi .sge (tileW w c) 1#32) (q c) (tileAt 8192 (rowP w c) (lane c) K) (tileAt 8192 (rowP w c) (lane c) V)
    (diagCh ne (q c) (tileAt 8192 (rowD w c) (lane c) K) (tileAt 8192 (rowD w c) (lane c) V))

/-- One trip of the loop. -/
def step (ne : F .f32) (w : BitVec 32) (q : Fin 8 → FVec F S256x64 .bf16) (K V : Vec F (Blk 8192) .bf16) (n : BitVec 32)
    (st : St F) : St F := fun c =>
  tileCh ne (Scalar.cmpi .sge (jW w n c) 0#32) (q c) (tileAt 8192 (rowL w n c) (lane c) K) (tileAt 8192 (rowL w n c) (lane c) V) (st c)

/-- Whether chain `c` still has a tile to visit that can count. -/
def pendC (thr : F .f32) (w n : BitVec 32) (st : St F) (c : Fin 8) : BitVec 1 :=
  Scalar.andi (Scalar.cmpi .sge (jW w n c) 0#32) (Scalar.cmpf .olt (minOf (st c).1) thr)

/-- The loop's test: some chain has. -/
def pend (thr : F .f32) (w n : BitVec 32) (st : St F) : BitVec 1 :=
  Scalar.ori (Scalar.ori (Scalar.ori (Scalar.ori (Scalar.ori (Scalar.ori (Scalar.ori (Scalar.ori 0#1 (pendC thr w n st 0)) (pendC thr w n st 1))
    (pendC thr w n st 2)) (pendC thr w n st 3)) (pendC thr w n st 4)) (pendC thr w n st 5)) (pendC thr w n st 6)) (pendC thr w n st 7)

/-- At most `k` trips from counter `n`. -/
def loop (ne thr : F .f32) (w : BitVec 32) (q : Fin 8 → FVec F S256x64 .bf16) (K V : Vec F (Blk 8192) .bf16) :
    ℕ → BitVec 32 → St F → BitVec 32 × St F
  | 0, n, st => (n, st)
  | k + 1, n, st => if pend thr w n st = 1#1 then loop ne thr w q K V k (Scalar.addi n 1#32) (step ne w q K V n st) else (n, st)

/-- What is stored of a chain. -/
def outTile (st : Ch F) : FVec F S1x256x64 .bf16 :=
  shapeCast S1x256x64 (truncf .bf16 st.2 bitsLt_bf16_f32) shapeCasts_S256x64_S1x256x64

/-- The chains' final states at the point whose first tile is `w`, from its block of queries and the keys and values. -/
def final (ne thr : F .f32) (w : BitVec 32) (k : ℕ) (X : Vec F (Blk 1024) .bf16) (K V : Vec F (Blk 8192) .bf16) : St F :=
  (loop ne thr w (qs X) K V k 0#32 (init ne w (qs X) K V)).2

/-- A tile read in bounds. -/
theorem tileAt_eq {n row lane : ℕ} (x : Vec F (Blk n) .bf16)
    (h : ∀ a, (![0, row, lane] : Fin 3 → ℕ) a + S1x256x64.size a ≤ (Blk n).size a) :
    tileAt n row lane x = shapeCast S256x64 (View.ld x (Rect.unit (s := Blk n) ![0, row, lane] S1x256x64.size h)
      : Vec F S1x256x64 .bf16) shapeCasts_S1x256x64_S256x64 := dif_pos h

/-! ### The trip count -/

/-- A chain whose next tile is negative asks for nothing. -/
theorem pendC_done (thr : F .f32) (w n : BitVec 32) (st : St F) (c : Fin 8) (h : Scalar.cmpi .sge (jW w n c) 0#32 = 0#1) :
    pendC thr w n st c = 0#1 := by
  unfold pendC; rw [h]; exact BitVec.zero_and

/-- When every chain's next tile is negative the walk is over. -/
theorem pend_done (thr : F .f32) (w n : BitVec 32) (st : St F) (h : ∀ c, Scalar.cmpi .sge (jW w n c) 0#32 = 0#1) :
    pend thr w n st = 0#1 := by
  unfold pend; simp only [pendC_done thr w n st _ (h _)]; rfl

end Cert.Sb
-- ==== Proof.KI.Body.lean ====
/-
  The body of the KernelIdeal program's kernel, run: the loop's label against a specification, and the whole body
  from staging buffers at given contents to the pieces it stores.
-/
module

public import proofs.«01_k».proof.Proof.Sb.Fn
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KI

open Cert.KernelIdeal Cert.KernelIdeal.Gen
open Cert.Sb (Blk Ch St tileAt tileAt_eq qs final loop step pend outTile tri caus)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The kernel's two constants. -/
def ne : F .f32 := Named.named κ "neg_log2e" 0xBFB8AA3B#32
def thr : F .f32 := Named.named κ "never" 0x42DC0000#32

/-- The point's first tile, as the kernel computes it. -/
def wOf (i : grid0.Coords) : BitVec 32 := Scalar.muli (BitVec.ofNat 32 (i 2).val) 4#32

/-- The trips that the walk can take from counter 0: after them every chain is past tile 0. -/
def fuel (i : grid0.Coords) : ℕ := 4 * (i 2).val + 2

/-- A point with a given last coordinate. -/
def at2 (x : Fin 8) : grid0.Coords := fun | 0 => (0 : Fin 2) | 1 => (0 : Fin 4) | 2 => x

set_option maxRecDepth 65536 in
/-- The rows a trip loads are inside the arrays, at every counter the walk reaches. -/
theorem chk_at : ∀ x : Fin 8, ∀ n : Fin 32, k0_chk1 (at2 x) (BitVec.ofNat 32 n.val) := by decide +kernel

theorem chk_of_lt (i : grid0.Coords) (n : ℕ) (h : n < 32) : k0_chk1 i (BitVec.ofNat 32 n) := chk_at (i 2) ⟨n, h⟩

theorem done_at : ∀ x : Fin 8, ∀ c : Fin 8,
    Scalar.cmpi .sge (Sb.jW (wOf (at2 x)) (BitVec.ofNat 32 (fuel (at2 x))) c) 0#32 = 0#1 := by decide +kernel

/-- At the last counter no chain has a tile left. -/
theorem done_of (i : grid0.Coords) (c : Fin 8) :
    Scalar.cmpi .sge (Sb.jW (wOf i) (BitVec.ofNat 32 (fuel i)) c) 0#32 = 0#1 := done_at (i 2) c

section Label

variable (c : Dev nD) (i : grid0.Coords)
  (arg4 : Memref sig .tc .vmem S1x8192x128 .bf16) (harg4 : arg4.IsWhole) (arg5 : Memref sig .tc .vmem S1x8192x128 .bf16) (harg5 : arg5.IsWhole)
  (q : Fin 8 → FVec F S256x64 .bf16) (x1 x2 : Vec F S1x8192x128 .bf16)

/-- What the loop is called with. -/
def argsOf (n : BitVec 32) (st : St F) : Cc0While1 F :=
  ⟨i, arg4, harg4, arg5, harg5, q 0, tri, q 1, q 2, q 3, q 4, q 5, q 6, q 7, n, (st 0).1, (st 0).2, (st 1).1, (st 1).2,
    (st 2).1, (st 2).2, (st 3).1, (st 3).2, (st 4).1, (st 4).2, (st 5).1, (st 5).2, (st 6).1, (st 6).2, (st 7).1, (st 7).2⟩

/-- What it returns. -/
abbrev Res (F : FTy → Type) : Type := BitVec 32 × FVec F S256x1 .f32 × FVec F S256x64 .f32 × FVec F S256x1 .f32 × FVec F S256x64 .f32 × FVec F S256x1 .f32 × FVec F S256x64 .f32 × FVec F S256x1 .f32 × FVec F S256x64 .f32 × FVec F S256x1 .f32 × FVec F S256x64 .f32 × FVec F S256x1 .f32 × FVec F S256x64 .f32 × FVec F S256x1 .f32 × FVec F S256x64 .f32 × FVec F S256x1 .f32 × FVec F S256x64 .f32

def resOf (r : BitVec 32 × St F) : Res F :=
  (r.1, (r.2 0).1, (r.2 0).2, (r.2 1).1, (r.2 1).2, (r.2 2).1, (r.2 2).2, (r.2 3).1, (r.2 3).2,
    (r.2 4).1, (r.2 4).2, (r.2 5).1, (r.2 5).2, (r.2 6).1, (r.2 6).2, (r.2 7).1, (r.2 7).2)

/-- The keys' and values' staging buffers, which the loop only reads. -/
def held : sProp 𝕄 :=
  iprop((arg4.view.loc (c : Thread nD τ) ↦[arg4.view.set]{fullShare} harg4.unread x1)
    ∗ (arg5.view.loc (c : Thread nD τ) ↦[arg5.view.set]{fullShare} harg5.unread x2))

/-- The loop's specification with at most `k` trips to go: it returns what `loop` computes, the buffers as they were. -/
def spec (k : ℕ) (n : BitVec 32) (st : St F) : sWPT 𝕄 (Res F) := do
  sWPT.consume (held c arg4 harg4 arg5 harg5 x1 x2)
  sWPT.produce (held c arg4 harg4 arg5 harg5 x1 x2)
  pure (resOf (loop ne thr (wOf i) q x1 x2 k n st))

theorem spec_apply (k : ℕ) (n : BitVec 32) (st : St F) (K : Res F → sProp 𝕄) :
    spec c i arg4 harg4 arg5 harg5 q x1 x2 k n st K
      = iprop(held c arg4 harg4 arg5 harg5 x1 x2
          ∗ (held c arg4 harg4 arg5 harg5 x1 x2 -∗ K (resOf (loop ne thr (wOf i) q x1 x2 k n st)))) := rfl

/-- A trip's rows are inside the arrays. -/
theorem inL (n : ℕ) (h : k0_chk1 i (BitVec.ofNat 32 n)) : ∀ c' : Fin 8, ∀ a,
    (![0, Sb.rowL (wOf i) (BitVec.ofNat 32 n) c', Sb.lane c'] : Fin 3 → ℕ) a + S1x256x64.size a ≤ (Blk 8192).size a
  | 0 => k0_off5_inb i _ h 0
  | 1 => k0_off6_inb i _ h 0
  | 2 => k0_off5_inb i _ h 1
  | 3 => k0_off6_inb i _ h 1
  | 4 => k0_off5_inb i _ h 2
  | 5 => k0_off6_inb i _ h 2
  | 6 => k0_off5_inb i _ h 3
  | 7 => k0_off6_inb i _ h 3

/-- A trip over what the loads read. -/
theorem step_read (n : ℕ) (h : k0_chk1 i (BitVec.ofNat 32 n)) (st : St F) (c' : Fin 8) :
    step ne (wOf i) q x1 x2 (BitVec.ofNat 32 n) st c'
      = Sb.tileCh ne (Scalar.cmpi .sge (Sb.jW (wOf i) (BitVec.ofNat 32 n) c') 0#32) (q c')
          (shapeCast S256x64 (View.readAt (Elt F) arg4.view (Rect.unit (s := S1x8192x128)
            ![0, Sb.rowL (wOf i) (BitVec.ofNat 32 n) c', Sb.lane c'] S1x256x64.size (inL i n h c')).toLoadRect (harg4.unread x1)
            : Vec F S1x256x64 .bf16) shapeCasts_S1x256x64_S256x64)
          (shapeCast S256x64 (View.readAt (Elt F) arg5.view (Rect.unit (s := S1x8192x128)
            ![0, Sb.rowL (wOf i) (BitVec.ofNat 32 n) c', Sb.lane c'] S1x256x64.size (inL i n h c')).toLoadRect (harg5.unread x2)
            : Vec F S1x256x64 .bf16) shapeCasts_S1x256x64_S256x64) (st c') := by
  unfold step
  rw [tileAt_eq x1 (inL i n h c'), tileAt_eq x2 (inL i n h c')]
  conv_lhs => rw [← harg4.read_unread x1, ← harg5.read_unread x2]
  rfl

/-- The call of the label at the next counter, answered by the specification. -/
theorem call_step (E : Set ℕ) (k n : ℕ) (st st' : St F) (a : Cc0While1 F) (K : Res F → sProp 𝕄)
    (ih : ∀ (st : St F) K, spec c i arg4 harg4 arg5 harg5 q x1 x2 k (BitVec.ofNat 32 n) st K
      ⊢ wp frame (wpE (defs₀ (F := F)) Variants.nat (c : Thread nD τ) (some k)) E
          (defs₀ (F := F) .tc 1 (argsOf i arg4 harg4 arg5 harg5 q (BitVec.ofNat 32 n) st)) K)
    (ha : a = argsOf i arg4 harg4 arg5 harg5 q (BitVec.ofNat 32 n) st') :
    spec c i arg4 harg4 arg5 harg5 q x1 x2 k (BitVec.ofNat 32 n) st' K
      ⊢ wp frame (wpE (defs₀ (F := F)) Variants.nat (c : Thread nD τ) (some (k + 1))) E (Prog.op (.call (1 : (Λ₀ F).Label) a) Prog.ret) K := by
  subst ha
  refine BIBase.Entails.trans ?_ (wp_call_spec Variants.nat (c : Thread nD τ) (some (k + 1)) E
    (spec c i arg4 harg4 arg5 harg5 q x1 x2 k (BitVec.ofNat 32 n) st') k (fun u hu => by cases hu; exact Nat.lt_succ_self k) (ih st'))
  rw [spec_apply, spec_apply]
  iintro ⟨H, Hk⟩
  isplitl [H]; · iexact H
  iintro H
  rw [wp_ret]; imodintro
  iapply Hk; iexact H

theorem counter_succ (n : ℕ) : Scalar.addi (BitVec.ofNat 32 n) 1#32 = BitVec.ofNat 32 (n + 1) :=
  BitVec.eq_of_toNat_eq (by simp [Scalar.addi, IntOp.addi])

set_option maxHeartbeats 4000000 in
/-- The loop's body meets it. -/
theorem spec_le (E : Set ℕ) : ∀ k n, n + k = fuel i → ∀ (st : St F) K,
    spec c i arg4 harg4 arg5 harg5 q x1 x2 k (BitVec.ofNat 32 n) st K
      ⊢ wp frame (wpE (defs₀ (F := F)) Variants.nat (c : Thread nD τ) (some k)) E
          (defs₀ (F := F) .tc 1 (argsOf i arg4 harg4 arg5 harg5 q (BitVec.ofNat 32 n) st)) K := by
  intro k
  induction k with
  | zero =>
    intro n hn st K
    rw [spec_apply]
    show _ ⊢ wp frame (wpE (defs₀ (F := F)) Variants.nat (c : Thread nD τ) (some 0)) E
      (cc0_while1 i arg4 harg4 arg5 harg5 (q 0) tri (q 1) (q 2) (q 3) (q 4) (q 5) (q 6) (q 7) (BitVec.ofNat 32 n) (st 0).1 (st 0).2 (st 1).1 (st 1).2
        (st 2).1 (st 2).2 (st 3).1 (st 3).2 (st 4).1 (st 4).2 (st 5).1 (st 5).2 (st 6).1 (st 6).2 (st 7).1 (st 7).2) K
    have hp : pend thr (wOf i) (BitVec.ofNat 32 n) st = 0#1 := by
      rw [show n = fuel i from hn]; exact Sb.pend_done _ _ _ _ (done_of i)
    simp only [cc0_while1_eq_skeleton]; unfold cc0_while1_skel
    simp only [k0_part16_eq_skeleton, k0_part17_eq_skeleton, k0_part16_skel, k0_part17_skel, Prog.pure_eq_ret, Prog.bind_ret]
    split
    · rename_i h
      exact absurd ((show pend thr (wOf i) (BitVec.ofNat 32 n) st = 1#1 from h).symm.trans hp) (by decide)
    unfold held
    iintro ⟨⟨H1, H2⟩, Hk⟩
    rw [wp_ret]; imodintro
    simp only [loop, resOf]
    iapply Hk
    isplitl [H1]; · iexact H1
    iexact H2
  | succ k ih =>
    intro n hn st K
    rw [spec_apply]
    show _ ⊢ wp frame (wpE (defs₀ (F := F)) Variants.nat (c : Thread nD τ) (some (k + 1))) E
      (cc0_while1 i arg4 harg4 arg5 harg5 (q 0) tri (q 1) (q 2) (q 3) (q 4) (q 5) (q 6) (q 7) (BitVec.ofNat 32 n) (st 0).1 (st 0).2 (st 1).1 (st 1).2
        (st 2).1 (st 2).2 (st 3).1 (st 3).2 (st 4).1 (st 4).2 (st 5).1 (st 5).2 (st 6).1 (st 6).2 (st 7).1 (st 7).2) K
    have hchk : k0_chk1 i (BitVec.ofNat 32 n) := chk_of_lt i n (by have := (i 2).isLt; unfold fuel at hn; have h8 : (i 2).val < 8 := this; omega)
    simp only [cc0_while1_eq_skeleton]; unfold cc0_while1_skel
    simp only [k0_part16_eq_skeleton, k0_part17_eq_skeleton, k0_part16_skel, k0_part17_skel, Prog.pure_eq_ret, Prog.bind_ret]
    split
    · rename_i h
      have hp : pend thr (wOf i) (BitVec.ofNat 32 n) st = 1#1 := h
      simp only [k0_part18_eq_skeleton, k0_part19_eq_skeleton, k0_part20_eq_skeleton, k0_part21_eq_skeleton, k0_part22_eq_skeleton,
        k0_part23_eq_skeleton, k0_part24_eq_skeleton]
      unfold held
      iintro ⟨⟨H1, H2⟩, Hk⟩
      sl_exec
      iapply (call_step c i arg4 harg4 arg5 harg5 q x1 x2 E k (n + 1) st (step ne (wOf i) q x1 x2 (BitVec.ofNat 32 n) st) _ K
        (ih (n + 1) (by omega)) ?_)
      rotate_left
      · rw [spec_apply]
        unfold held
        isplitl [H1 H2]
        · isplitl [H1]; · iexact H1
          iexact H2
        iintro ⟨H1, H2⟩
        rw [show loop ne thr (wOf i) q x1 x2 (k + 1) (BitVec.ofNat 32 n) st
            = loop ne thr (wOf i) q x1 x2 k (BitVec.ofNat 32 (n + 1)) (step ne (wOf i) q x1 x2 (BitVec.ofNat 32 n) st) from
          (if_pos hp).trans (by rw [counter_succ])]
        iapply Hk
        isplitl [H1]; · iexact H1
        iexact H2
      · skip
        unfold argsOf
        rw [step_read i arg4 harg4 arg5 harg5 q x1 x2 n hchk st 0, step_read i arg4 harg4 arg5 harg5 q x1 x2 n hchk st 1,
          step_read i arg4 harg4 arg5 harg5 q x1 x2 n hchk st 2, step_read i arg4 harg4 arg5 harg5 q x1 x2 n hchk st 3,
          step_read i arg4 harg4 arg5 harg5 q x1 x2 n hchk st 4, step_read i arg4 harg4 arg5 harg5 q x1 x2 n hchk st 5,
          step_read i arg4 harg4 arg5 harg5 q x1 x2 n hchk st 6, step_read i arg4 harg4 arg5 harg5 q x1 x2 n hchk st 7,
          ← counter_succ]
        rfl
    · rename_i h
      have hp : ¬pend thr (wOf i) (BitVec.ofNat 32 n) st = 1#1 := h
      unfold held
      iintro ⟨⟨H1, H2⟩, Hk⟩
      rw [wp_ret]; imodintro
      rw [show loop ne thr (wOf i) q x1 x2 (k + 1) (BitVec.ofNat 32 n) st = (BitVec.ofNat 32 n, st) from if_neg hp]
      simp only [resOf]
      iapply Hk
      isplitl [H1]; · iexact H1
      iexact H2

/-- The call of the label from the body, answered by the specification. -/
theorem call_first (E : Set ℕ) (st : St F) {α : Type} (a : Cc0While1 F) (kt : Res F → Prog (TpuEff nD τ sig (Elt F) (Λ₀ F) .tc) α)
    (Q : α → sProp 𝕄) (ha : a = argsOf i arg4 harg4 arg5 harg5 q 0#32 st) :
    spec c i arg4 harg4 arg5 harg5 q x1 x2 (fuel i) 0#32 st
        (fun r => wp frame (wpE (defs₀ (F := F)) Variants.nat (c : Thread nD τ) none) E (kt r) Q)
      ⊢ wp frame (wpE (defs₀ (F := F)) Variants.nat (c : Thread nD τ) none) E (Prog.op (.call (1 : (Λ₀ F).Label) a) kt) Q := by
  subst ha
  have h : spec c i arg4 harg4 arg5 harg5 q x1 x2 (fuel i) 0#32 st
      ≤ wp frame (wpE (defs₀ (F := F)) Variants.nat (c : Thread nD τ) (some (fuel i))) E (defs₀ (F := F) .tc 1 (argsOf i arg4 harg4 arg5 harg5 q 0#32 st)) :=
    fun K => spec_le c i arg4 harg4 arg5 harg5 q x1 x2 E (fuel i) 0 (Nat.zero_add _) st K
  refine BIBase.Entails.trans ?_ (wp_call_spec Variants.nat (c : Thread nD τ) none E
    (spec c i arg4 harg4 arg5 harg5 q x1 x2 (fuel i) 0#32 st) (fuel i) (fun u hu => nomatch hu) h)
  exact BIBase.Entails.rfl

/-! ### Before the loop -/

/-- The rows of the own tile, and of the one before it, are inside the arrays. -/
theorem inD : ∀ c' : Fin 8, ∀ a,
    (![0, Sb.rowD (wOf i) c', Sb.lane c'] : Fin 3 → ℕ) a + S1x256x64.size a ≤ (Blk 8192).size a
  | 0 => k0_off1_inb i 0
  | 1 => k0_off3_inb i 0
  | 2 => k0_off1_inb i 1
  | 3 => k0_off3_inb i 1
  | 4 => k0_off1_inb i 2
  | 5 => k0_off3_inb i 2
  | 6 => k0_off1_inb i 3
  | 7 => k0_off3_inb i 3

theorem inP : ∀ c' : Fin 8, ∀ a,
    (![0, Sb.rowP (wOf i) c', Sb.lane c'] : Fin 3 → ℕ) a + S1x256x64.size a ≤ (Blk 8192).size a
  | 0 => k0_off2_inb i 0
  | 1 => k0_off4_inb i 0
  | 2 => k0_off2_inb i 1
  | 3 => k0_off4_inb i 1
  | 4 => k0_off2_inb i 2
  | 5 => k0_off4_inb i 2
  | 6 => k0_off2_inb i 3
  | 7 => k0_off4_inb i 3

theorem inQ (c' : Fin 8) : ∀ a, (![0, Sb.rowQ c', Sb.lane c'] : Fin 3 → ℕ) a + S1x256x64.size a ≤ (Blk 1024).size a := by
  revert c'; decide +kernel

/-- A load of the keys' or the values' buffer. -/
abbrev ldKV (arg : Memref sig .tc .vmem S1x8192x128 .bf16) (harg : arg.IsWhole) (x : Vec F S1x8192x128 .bf16) (off : Fin 3 → ℕ)
    (h : ∀ a, off a + S1x256x64.size a ≤ S1x8192x128.size a) : FVec F S256x64 .bf16 :=
  shapeCast S256x64 (View.readAt (Elt F) arg.view (Rect.unit (s := S1x8192x128) off S1x256x64.size h).toLoadRect (harg.unread x)
    : Vec F S1x256x64 .bf16) shapeCasts_S1x256x64_S256x64

/-- The states before the loop, over what the loads read. -/
theorem init_read (c' : Fin 8) :
    Sb.init ne (wOf i) q x1 x2 c'
      = Sb.tileCh ne (Scalar.cmpi .sge (Sb.tileW (wOf i) c') 1#32) (q c') (ldKV arg4 harg4 x1 _ (inP i c')) (ldKV arg5 harg5 x2 _ (inP i c'))
          (Sb.diagCh ne (q c') (ldKV arg4 harg4 x1 _ (inD i c')) (ldKV arg5 harg5 x2 _ (inD i c'))) := by
  unfold Sb.init
  rw [tileAt_eq x1 (inP i c'), tileAt_eq x2 (inP i c'), tileAt_eq x1 (inD i c'), tileAt_eq x2 (inD i c')]
  conv_lhs => rw [← harg4.read_unread x1, ← harg5.read_unread x2]
  rfl

end Label

theorem qs_read (arg3 : Memref sig .tc .vmem S1x1024x128 .bf16) (harg3 : arg3.IsWhole) (x0 : Vec F S1x1024x128 .bf16) (c' : Fin 8) :
    qs x0 c' = shapeCast S256x64 (View.readAt (Elt F) arg3.view (Rect.unit (s := S1x1024x128)
      ![0, Sb.rowQ c', Sb.lane c'] S1x256x64.size (inQ c')).toLoadRect (harg3.unread x0) : Vec F S1x256x64 .bf16) shapeCasts_S1x256x64_S256x64 := by
  unfold qs
  rw [tileAt_eq x0 (inQ c')]
  conv_lhs => rw [← harg3.read_unread x0]
  rfl

/-- The stores of the chains' results, the last first. -/
def pieces (st : St F) : List (View.Piece (Elt F) S1x1024x128 .bf16) :=
  [⟨Rect.unit (s := S1x1024x128) ![0, 768, 64] S1x256x64.size inb_S1x1024x128_S1x256x64_0_768_64, outTile (st 7)⟩,
   ⟨Rect.unit (s := S1x1024x128) ![0, 768, 0] S1x256x64.size inb_S1x1024x128_S1x256x64_0_768_0, outTile (st 6)⟩,
   ⟨Rect.unit (s := S1x1024x128) ![0, 512, 64] S1x256x64.size inb_S1x1024x128_S1x256x64_0_512_64, outTile (st 5)⟩,
   ⟨Rect.unit (s := S1x1024x128) ![0, 512, 0] S1x256x64.size inb_S1x1024x128_S1x256x64_0_512_0, outTile (st 4)⟩,
   ⟨Rect.unit (s := S1x1024x128) ![0, 256, 64] S1x256x64.size inb_S1x1024x128_S1x256x64_0_256_64, outTile (st 3)⟩,
   ⟨Rect.unit (s := S1x1024x128) ![0, 256, 0] S1x256x64.size inb_S1x1024x128_S1x256x64_0_256_0, outTile (st 2)⟩,
   ⟨Rect.unit (s := S1x1024x128) ![0, 0, 64] S1x256x64.size inb_S1x1024x128_S1x256x64_0_0_64, outTile (st 1)⟩,
   ⟨Rect.unit (s := S1x1024x128) ![0, 0, 0] S1x256x64.size inb_S1x1024x128_S1x256x64_0_0_0, outTile (st 0)⟩]

/-- A point's final states from its three input blocks. -/
def finalAt (i : grid0.Coords) (x0 : Vec F S1x1024x128 .bf16) (x1 x2 : Vec F S1x8192x128 .bf16) : St F :=
  final ne thr (wOf i) (fuel i) x0 x1 x2

set_option maxHeartbeats 4000000 in
/-- The body on whole staging buffers: the inputs are left as they were, the output gets its pieces. -/
theorem body_run (c : Dev nD) (i : grid0.Coords) (arg3 : Memref sig .tc .vmem S1x1024x128 .bf16) (harg3 : arg3.IsWhole)
    (arg4 : Memref sig .tc .vmem S1x8192x128 .bf16) (harg4 : arg4.IsWhole) (arg5 : Memref sig .tc .vmem S1x8192x128 .bf16) (harg5 : arg5.IsWhole)
    (arg6 : Memref sig .tc .vmem S1x1024x128 .bf16) (harg6 : arg6.IsWhole)
    (x0 : Vec F S1x1024x128 .bf16) (x1 x2 : Vec F S1x8192x128 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ (∃ f, arg6.view.loc (c : Thread nD τ) ↦[arg6.view.set]{fullShare} arg6.view.writes (Elt F) f (pieces (finalAt i x0 x1 x2)))) -∗ K ⟨⟩))
      ⊢ wp frame (wpE (defs₀ (F := F)) Variants.nat c none) E (cc0_sb_attn i arg3 harg3 arg4 harg4 arg5 harg5 arg6 harg6) K := by
  simp only [cc0_sb_attn_eq_skeleton]; unfold cc0_sb_attn_skel
  simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%d3, %f3, -, H3⟩, Hk⟩
  obtain rfl := harg3.eq_unread hf0; obtain rfl := harg4.eq_unread hf1; obtain rfl := harg5.eq_unread hf2
  sl_exec
  iapply (call_first c i arg4 harg4 arg5 harg5 (qs x0) x1 x2 E (Sb.init ne (wOf i) (qs x0) x1 x2) _ _ _ ?_)
  rotate_left
  · rw [spec_apply]
    unfold held
    isplitl [H1 H2]
    · isplitl [H1]; · iexact H1
      iexact H2
    iintro ⟨H1, H2⟩
    simp only [resOf]
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists f3
    iexact H3
  · unfold argsOf
    rw [init_read i arg4 harg4 arg5 harg5 (qs x0) x1 x2 0, init_read i arg4 harg4 arg5 harg5 (qs x0) x1 x2 1, init_read i arg4 harg4 arg5 harg5 (qs x0) x1 x2 2, init_read i arg4 harg4 arg5 harg5 (qs x0) x1 x2 3, init_read i arg4 harg4 arg5 harg5 (qs x0) x1 x2 4, init_read i arg4 harg4 arg5 harg5 (qs x0) x1 x2 5, init_read i arg4 harg4 arg5 harg5 (qs x0) x1 x2 6, init_read i arg4 harg4 arg5 harg5 (qs x0) x1 x2 7,
      qs_read arg3 harg3 x0 0, qs_read arg3 harg3 x0 1, qs_read arg3 harg3 x0 2, qs_read arg3 harg3 x0 3, qs_read arg3 harg3 x0 4, qs_read arg3 harg3 x0 5, qs_read arg3 harg3 x0 6, qs_read arg3 harg3 x0 7]
    rfl

end Cert.Proof.KI
-- ==== Proof.KI.Run.lean ====
/-
  The KernelIdeal program run from launch to end: the pipeline's proof data, its body obligation, and the final memory.
-/
module

public import proofs.«01_k».proof.Proof.KI.Body
public import Idealize.ShloMosaic.Lib.Claim
public import Idealize.ShloMosaic.Lib.Pipeline.Value

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arrays at the region's entry: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point, cut from its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

section Before
variable {m} {c : Dev nD} (dat : Dat τ (Elt F) Unit ℕ (UR sig nD τ) ℕ (cfg0 (F := F)) c)

/-- An input's staging buffer holds its block before every point. -/
theorem before_0 (hA : dat.A 0 = V m c (Pipeline.arrRef spec0 0)) (h : ∀ t, dat.after 0 t = iblk m c 0 t) (t : Fin (cfg0 (F := F)).N) (d) :
    dat.before 0 t d = iblk m c 0 t :=
  (dat.before_in_eq_fetched 0 rfl (fun _ => rfl) (fun _ _ _ => rfl) (fun t => by rw [h]; unfold Dat.blockOf iblk; rw [hA]; try rfl) t d).trans
    (by unfold Dat.fetched Dat.blockOf iblk; rw [hA]; try rfl)
theorem before_1 (hA : dat.A 1 = V m c (Pipeline.arrRef spec0 1)) (h : ∀ t, dat.after 1 t = iblk m c 1 t) (t : Fin (cfg0 (F := F)).N) (d) :
    dat.before 1 t d = iblk m c 1 t :=
  (dat.before_in_eq_fetched 1 rfl (fun _ => rfl) (fun _ _ _ => rfl) (fun t => by rw [h]; unfold Dat.blockOf iblk; rw [hA]; try rfl) t d).trans
    (by unfold Dat.fetched Dat.blockOf iblk; rw [hA]; try rfl)
theorem before_2 (hA : dat.A 2 = V m c (Pipeline.arrRef spec0 2)) (h : ∀ t, dat.after 2 t = iblk m c 2 t) (t : Fin (cfg0 (F := F)).N) (d) :
    dat.before 2 t d = iblk m c 2 t :=
  (dat.before_in_eq_fetched 2 rfl (fun _ => rfl) (fun _ _ _ => rfl) (fun t => by rw [h]; unfold Dat.blockOf iblk; rw [hA]; try rfl) t d).trans
    (by unfold Dat.fetched Dat.blockOf iblk; rw [hA]; try rfl)
end Before

/-- One output buffer, through which the output's contents are stated. -/
abbrev VO : View sig .tc .vmem S1x1024x128 .bf16 := (Memref.whole cc0_stg3_0 : Memref sig .tc .vmem S1x1024x128 .bf16).view
/-- The windows' staging memrefs at a point. -/
abbrev ms0 (t : Fin (cfg0 (F := F)).N) : Memref sig .tc .vmem S1x1024x128 .bf16 := win0_0.stage ((cfg0 (F := F)).slots t 0)
abbrev ms1 (t : Fin (cfg0 (F := F)).N) : Memref sig .tc .vmem S1x8192x128 .bf16 := win0_1.stage ((cfg0 (F := F)).slots t 1)
abbrev ms2 (t : Fin (cfg0 (F := F)).N) : Memref sig .tc .vmem S1x8192x128 .bf16 := win0_2.stage ((cfg0 (F := F)).slots t 2)
abbrev ms3 (t : Fin (cfg0 (F := F)).N) : Memref sig .tc .vmem S1x1024x128 .bf16 := win0_3.stage ((cfg0 (F := F)).slots t 3)

/-- The pieces tile the output block. -/
theorem pieces_cover (st : Sb.St F) (y : S1x1024x128.Idx) : ∃ pc ∈ pieces st, y ∈ pc.1.set :=
  View.cover_of_tiledL (pieces st) S1x256x64.size (by sl_kernel_rfl) y

/-- The pieces read back: the output block of the final states. -/
def outBlk (st : Sb.St F) : Vec F S1x1024x128 .bf16 := VO.read (Elt F) (VO.writes (Elt F) VO.junk (pieces st))

/-- The output block after a point. -/
def outsAt (c : Dev nD) (t : Fin (cfg0 (F := F)).N) : Vec F S1x1024x128 .bf16 :=
  outBlk (finalAt (grid0.coords t) (iblk m c 0 t) (iblk m c 1 t) (iblk m c 2 t))

/-- The pipeline's proof data. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]
theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = (outsAt m c t) := by dsimp only [dats]; rfl
theorem held_0 (c : Dev nD) (t : Fin (cfg0 (F := F)).N) (d) : (dats m 0 c).before 0 t d = iblk m c 0 t := before_0 (dats m 0 c) (A_eq m c 0) (after_0 m c) t d
theorem held_1 (c : Dev nD) (t : Fin (cfg0 (F := F)).N) (d) : (dats m 0 c).before 1 t d = iblk m c 1 t := before_1 (dats m 0 c) (A_eq m c 1) (after_1 m c) t d
theorem held_2 (c : Dev nD) (t : Fin (cfg0 (F := F)).N) (d) : (dats m 0 c).before 2 t d = iblk m c 2 t := before_2 (dats m 0 c) (A_eq m c 2) (after_2 m c) t d

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it gives back. -/
def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

/-- The body at any point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [held_0, held_1, held_2]
  rw [show (dats m 0 c).Φ t.succ = (dats m 0 c).Φ t.castSucc from rfl,
    show (dats m 0 c).owesAt () t.succ = (dats m 0 c).owesAt () t.castSucc from rfl,
    after_0, after_1, after_2, after_3]
  unfold outsAt
  unfold outBlk
  iintro ⟨HΦ, Ho, ⟨%d0, H0⟩, ⟨%d1, H1⟩, ⟨%d2, H2⟩, ⟨%d3, H3⟩⟩
  iapply (body_run c (grid0.coords t) _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (pieces_cover _)

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
/-- The program's run: it ends, the arrays are what the proof data says, and every counter is back at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

/-- The argument as launched at the end. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 2).trans (((dats m 0 c).arrAt_in 2 rfl _).trans ((A_eq m c 2).trans rfl))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨kept m r h.1, h.2⟩) (run_main m ρ)

/-- The run with the output's array named. -/
theorem run_out : θ_run defs (onTc (τ := τ) (main (F := F))) ⟨m, fun _ => 0, ρ⟩ (fun r => ∀ c : Dev nD,
      r.2.mem ((c.tc : Thread nD τ).loc main_v0) = (dats m 0 c).arrAt 3 (cfg0 (F := F)).N
      ∧ r.2.mem ((c.tc : Thread nD τ).loc main_arg0) = m ((c.tc : Thread nD τ).loc main_arg0)) :=
  (θ_run defs _ _).mono (fun r h c => ⟨(h.1 c).1 3, kept m r h.1 c⟩) (run_main m ρ)

/-- No two points write one block. -/
theorem idx_inj : ∀ t t' : Fin (cfg0 (F := F)).N, win0_3.index t = win0_3.index t' → t = t' :=
  (by decide +kernel : ∀ t t' : Fin grid0.N, win0_3.index t = win0_3.index t' → t = t')

/-- A point's block of the final array is what the point leaves. -/
theorem block_final (c : Dev nD) (t : Fin (cfg0 (F := F)).N) :
    (((cfg0 (F := F)).win 3).blk t).view.read (Elt F) ((dats m 0 c).arrAt 3 (cfg0 (F := F)).N) = ((cfg0 (F := F)).win 3).cut (grid0.coords t) (outsAt m c t) := by
  rw [(dats m 0 c).read_blk_arrAt_eq_flushed 3 (fun t t' _ _ hne => ((cfg0 (F := F)).win 3).disjoint_blk fun h => hne (idx_inj t t' h)) (cfg0 (F := F)).N t t.isLt (flush0_3 t)]
  show ((cfg0 (F := F)).win 3).cut (grid0.coords t) ((dats m 0 c).after 3 t) = _
  rw [after_3]

end Cert.Proof.KI

end
-- ==== Proof.Sb.Math.lean ====
/-
  Stick-breaking attention of one query over the real numbers.

  `z s` is the query's score against key `s`.  Key `s` breaks off the share `σ (z s)` of what the later keys left, so
  its weight is `σ (z s) · ∏ (1 - σ (z j))` over the keys `j` after it and before the query, which is
  `exp (z s - ∑ softplus (z j))` with the sum from `s` itself on.
-/
module

public import Mathlib.Analysis.SpecialFunctions.Log.Basic
public import Mathlib.Algebra.BigOperators.Intervals

@[expose] public section

noncomputable section

namespace Cert.Sb

/-- `log (1 + exp z)`, in the form that does not overflow. -/
def softplus (z : ℝ) : ℝ := max z 0 + Real.log (1 + Real.exp (-|z|))

theorem softplus_neg (z : ℝ) : softplus (-z) = softplus z - z := by
  unfold softplus
  rw [abs_neg]
  rcases le_total 0 z with h | h
  · rw [max_eq_right (by linarith), max_eq_left h]; ring
  · rw [max_eq_left (by linarith), max_eq_right h]; ring

/-- The sum of `softplus` over the keys from `a` up to the query `t`. -/
def tail (z : ℕ → ℝ) (t a : ℕ) : ℝ := ∑ s ∈ Finset.Ico a t, softplus (z s)

/-- The weighted sum over the keys from `a` up to the query `t`. -/
def part (z v : ℕ → ℝ) (t a : ℕ) : ℝ := ∑ s ∈ Finset.Ico a t, Real.exp (z s - tail z t s) * v s

theorem tail_split (z : ℕ → ℝ) {t a b : ℕ} (h : a ≤ b) (h' : b ≤ t) :
    tail z t a = ∑ s ∈ Finset.Ico a b, softplus (z s) + tail z t b :=
  (Finset.sum_Ico_consecutive _ h h').symm

theorem part_split (z v : ℕ → ℝ) {t a b : ℕ} (h : a ≤ b) (h' : b ≤ t) :
    part z v t a = ∑ s ∈ Finset.Ico a b, Real.exp (z s - tail z t s) * v s + part z v t b :=
  (Finset.sum_Ico_consecutive _ h h').symm

/-- A sum over the rows of a block, from row `c` on, is a sum over an interval. -/
theorem sum_block (f : ℕ → ℝ) (n a c : ℕ) :
    (∑ x : Fin n, if c ≤ x.val then f (a + x.val) else 0) = ∑ s ∈ Finset.Ico (a + c) (a + n), f s := by
  rw [Fin.sum_univ_eq_sum_range (fun i => if c ≤ i then f (a + i) else 0) n, ← Finset.sum_filter,
    show (Finset.range n).filter (fun i => c ≤ i) = Finset.Ico c n by ext i; simp [and_comm],
    Finset.sum_Ico_add f c n a]
  rw [add_comm c a, add_comm n a]

theorem sum_block_all (f : ℕ → ℝ) (n a : ℕ) : (∑ x : Fin n, f (a + x.val)) = ∑ s ∈ Finset.Ico a (a + n), f s := by
  have := sum_block f n a 0
  simpa using this

/-- The same with the rows before `r` only. -/
theorem sum_block_lt (f : ℕ → ℝ) (n a c r : ℕ) (hr : r ≤ n) :
    (∑ x : Fin n, if c ≤ x.val then (if x.val < r then f (a + x.val) else 0) else 0) = ∑ s ∈ Finset.Ico (a + c) (a + r), f s := by
  rw [Fin.sum_univ_eq_sum_range (fun i => if c ≤ i then (if i < r then f (a + i) else 0) else 0) n]
  simp only [← ite_and]
  rw [← Finset.sum_filter,
    show (Finset.range n).filter (fun i => c ≤ i ∧ i < r) = Finset.Ico c r by
      ext i; simp only [Finset.mem_filter, Finset.mem_range, Finset.mem_Ico]; omega,
    Finset.sum_Ico_add f c r a]
  rw [add_comm c a, add_comm r a]

end Cert.Sb

end
-- ==== Proof.Sb.Tile.lean ====
/-
  The kernel's tile functions at the extended reals, on real operands.
-/
module

public import proofs.«01_k».proof.Proof.Sb.Fn
public import proofs.«01_k».proof.Proof.Sb.Math
public import Idealize.ShloMosaic.Lib.Pointwise

@[expose] public section

noncomputable section

namespace Cert.Sb

open Idealize.ShloMosaic Cert.Kernel Cert.Kernel.Gen

/-! ### Extended reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

theorem coe_dot {ι : Type} [Fintype ι] {x y : ι → EReal} {f g : ι → ℝ} (hx : ∀ i, x i = f i) (hy : ∀ i, y i = g i) :
    (∑ i, x i * y i) = ((∑ i, f i * g i : ℝ) : EReal) := by
  rw [← coe_sum]
  exact Finset.sum_congr rfl fun i _ => by rw [hx, hy, EReal.coe_mul]

theorem coe_max_zero (z : ℝ) : max (z : EReal) 0 = ((max z 0 : ℝ) : EReal) := by
  rcases le_total z 0 with h | h
  · rw [max_eq_right h, max_eq_right (by exact_mod_cast h)]; rfl
  · rw [max_eq_left h, max_eq_left (by exact_mod_cast h)]

theorem log_one_add (x : ℝ) : Ideal.log (1 + ((Real.exp x : ℝ) : EReal)) = ((Real.log (1 + Real.exp x) : ℝ) : EReal) := by
  have h : (1 : EReal) + ((Real.exp x : ℝ) : EReal) = ((1 + Real.exp x : ℝ) : EReal) := by rw [EReal.coe_add]; rfl
  rw [h]
  exact if_neg (by have := Real.exp_pos x; linarith)

theorem absf_coe (z : ℝ) : FloatOps.absf (F := Ideal) (φ := .f32) (z : EReal) = ((|z| : ℝ) : EReal) := by
  show max (z : EReal) (-(z : EReal)) = _
  rw [← EReal.coe_neg]
  rcases le_total 0 z with h | h
  · rw [abs_of_nonneg h, max_eq_left (by exact_mod_cast (by linarith : -z ≤ z))]
  · rw [abs_of_nonpos h, max_eq_right (by exact_mod_cast (by linarith : z ≤ -z))]

/-- The exponent's factor: base two in place of the natural base. -/
theorem exp2_log (x : ℝ) : FloatOps.exp2 (F := Ideal) (φ := .f32) ((x : EReal) * ((-((Real.log 2)⁻¹) : ℝ) : EReal)) = ((Real.exp (-x) : ℝ) : EReal) := by
  rw [← EReal.coe_mul]
  show ((Real.rpow 2 (x * -(Real.log 2)⁻¹) : ℝ) : EReal) = _
  have h2 : Real.log 2 ≠ 0 := (Real.log_pos (by norm_num)).ne'
  have : Real.rpow 2 (x * -(Real.log 2)⁻¹) = Real.exp (-x) := by
    show (2 : ℝ) ^ (x * -(Real.log 2)⁻¹) = Real.exp (-x)
    rw [Real.rpow_def_of_pos (by norm_num)]
    congr 1
    field_simp
  rw [this]

theorem exp_sub_coe (a b : ℝ) : Ideal.exp ((a : EReal) - (b : EReal)) = ((Real.exp (a - b) : ℝ) : EReal) := by
  rw [← EReal.coe_sub]; rfl

/-- A comparison of small words, as a condition. -/
theorem cmp_sge {a b : ℕ} (ha : a < 2 ^ 31) (hb : b < 2 ^ 31) :
    IntOp.cmpi .sge (BitVec.ofNat 32 a) (BitVec.ofNat 32 b) = if b ≤ a then 1#1 else 0#1 := by
  unfold IntOp.cmpi
  have h1 : (BitVec.ofNat 32 a).toInt = a := by rw [BitVec.toInt_eq_toNat_cond, BitVec.toNat_ofNat]; split <;> omega
  have h2 : (BitVec.ofNat 32 b).toInt = b := by rw [BitVec.toInt_eq_toNat_cond, BitVec.toNat_ofNat]; split <;> omega
  simp only [BitVec.sle, h1, h2]
  by_cases h : b ≤ a <;> simp [h]

theorem cmp_slt {a b : ℕ} (ha : a < 2 ^ 31) (hb : b < 2 ^ 31) :
    IntOp.cmpi .slt (BitVec.ofNat 32 a) (BitVec.ofNat 32 b) = if a < b then 1#1 else 0#1 := by
  unfold IntOp.cmpi
  have h1 : (BitVec.ofNat 32 a).toInt = a := by rw [BitVec.toInt_eq_toNat_cond, BitVec.toNat_ofNat]; split <;> omega
  have h2 : (BitVec.ofNat 32 b).toInt = b := by rw [BitVec.toInt_eq_toNat_cond, BitVec.toNat_ofNat]; split <;> omega
  simp only [BitVec.slt, h1, h2]
  by_cases h : a < b <;> simp [h]

theorem select_ite {α : Type} (p : Prop) [Decidable p] (x y : α) :
    Scalar.select (if p then 1#1 else 0#1) x y = if p then x else y := by
  split
  · exact if_pos rfl
  · exact if_neg (by decide)

/-! ### The tile functions -/

/-- The factor of the exponent, named. -/
abbrev neR : Ideal .f32 := ((-((Real.log 2)⁻¹) : ℝ) : EReal)

theorem zOf_apply {q k : FVec Ideal S256x64 .bf16} {qf kf : Fin 256 → Fin 64 → ℝ} (hq : ∀ r d, q (ix2 r d) = (qf r d : EReal))
    (hk : ∀ r d, k (ix2 r d) = (kf r d : EReal)) (r c : Fin 256) : zOf q k (ix2 r c) = ((∑ d, qf r d * kf c d : ℝ) : EReal) := by
  pointwise [zOf]
  exact coe_dot (hq r) (hk c)

theorem spOf_apply {z : FVec Ideal S256x256 .f32} {r c : Fin 256} {x : ℝ} (h : z (ix2 r c) = (x : EReal)) :
    spOf neR z (ix2 r c) = ((softplus x : ℝ) : EReal) := by
  pointwise [spOf]
  rw [h, absf_coe, exp2_log, log_one_add, coe_max_zero, ← EReal.coe_add]
  rfl

theorem csumOf_apply {sp : FVec Ideal S256x256 .f32} {later : FVec Ideal S256x1 .f32} {r c : Fin 256} {f : Fin 256 → ℝ} {l : ℝ}
    (h : ∀ x, sp (ix2 r x) = (f x : EReal)) (hl : later (ix2 r 0) = (l : EReal)) :
    csumOf sp later (ix2 r c) = (((∑ x : Fin 256, if c.val ≤ x.val then f x else 0) + l : ℝ) : EReal) := by
  pointwise [csumOf, tri]
  rw [hl, EReal.coe_add, ← coe_sum]
  congr 1
  refine Finset.sum_congr rfl fun x _ => ?_
  rw [cmp_sge (by omega) (by omega), select_ite, h]
  split <;> rfl

theorem pvOf_apply {w : FVec Ideal S256x256 .f32} {v : FVec Ideal S256x64 .bf16} {r : Fin 256} {d : Fin 64} {f g : Fin 256 → ℝ}
    (h : ∀ x, w (ix2 r x) = (f x : EReal)) (hv : ∀ x, v (ix2 x d) = (g x : EReal)) :
    pvOf w v (ix2 r d) = ((∑ x, f x * g x : ℝ) : EReal) := by
  pointwise [pvOf]
  exact coe_dot h hv

theorem laterOf_apply (cs : FVec Ideal S256x256 .f32) (r : Fin 256) : laterOf cs (ix2 r 0) = cs (ix2 r 0) := by
  pointwise [laterOf]

/-- The least of a column of reals is below `⊤`. -/
theorem minOf_lt {later : FVec Ideal S256x1 .f32} {l : ℝ} (h : later (ix2 0 0) = (l : EReal)) : minOf later < (⊤ : EReal) := by
  pointwise [minOf]
  exact (Finset.fold_min_lt _).mpr (.inr ⟨((0 : Fin 256), (0 : Fin 1)), Finset.mem_univ _, by rw [show later _ = _ from h]; exact EReal.coe_lt_top l⟩)

/-! ### A chain's state -/

variable (Qf Kf Vf : ℕ → Fin 64 → ℝ)

/-- The score of query `t` against key `s`. -/
def score (t s : ℕ) : ℝ := ∑ d, Qf t d * Kf s d

/-- A tile of 256 rows from row `a` on. -/
def IsTile (x : FVec Ideal S256x64 .bf16) (f : ℕ → Fin 64 → ℝ) (a : ℕ) : Prop := ∀ r d, x (ix2 r d) = ((f (a + r.val) d : ℝ) : EReal)

/-- The state of a chain whose queries start at row `T`, the keys from `a` on visited. -/
def Holds (T a : ℕ) (st : Ch Ideal) : Prop :=
  (∀ r : Fin 256, st.1 (ix2 r 0) = ((tail (score Qf Kf (T + r.val)) (T + r.val) a : ℝ) : EReal))
  ∧ ∀ (r : Fin 256) (d : Fin 64), st.2 (ix2 r d) = ((part (score Qf Kf (T + r.val)) (fun s => Vf s d) (T + r.val) a : ℝ) : EReal)

variable {Qf Kf Vf}

theorem diagSum_apply {q k : FVec Ideal S256x64 .bf16} {T : ℕ} (hq : IsTile q Qf T) (hk : IsTile k Kf T) (r c : Fin 256)
    (h : c.val ≤ r.val) : diagSum neR q k (ix2 r c) = ((tail (score Qf Kf (T + r.val)) (T + r.val) (T + c.val) : ℝ) : EReal) := by
  unfold diagSum
  rw [csumOf_apply (f := fun x => if x.val < r.val then softplus (score Qf Kf (T + r.val) (T + x.val)) else 0) (l := 0)]
  · rw [sum_block_lt (fun s => softplus (score Qf Kf (T + r.val) s)) 256 T c.val r.val (by omega), add_zero]
    rfl
  · intro x
    pointwise [caus]
    rw [cmp_slt (by omega) (by omega), select_ite, spOf_apply (zOf_apply hq hk r x)]
    split <;> rfl
  · pointwise
    rfl

theorem diag_holds {q k v : FVec Ideal S256x64 .bf16} {T : ℕ} (hq : IsTile q Qf T) (hk : IsTile k Kf T) (hv : IsTile v Vf T) :
    Holds Qf Kf Vf T T (diagCh neR q k v) := by
  refine ⟨fun r => ?_, fun r d => ?_⟩
  · show laterOf (diagSum neR q k) (ix2 r 0) = _
    rw [laterOf_apply, diagSum_apply hq hk r 0 (Nat.zero_le _)]
    rfl
  · show pvOf _ _ _ = _
    rw [pvOf_apply (f := fun x => if x.val < r.val then Real.exp (score Qf Kf (T + r.val) (T + x.val)
      - tail (score Qf Kf (T + r.val)) (T + r.val) (T + x.val)) else 0) (g := fun x => Vf (T + x.val) d) ?_ (fun x => hv x d)]
    · have := sum_block_lt (fun s => Real.exp (score Qf Kf (T + r.val) s
        - tail (score Qf Kf (T + r.val)) (T + r.val) s) * Vf s d) 256 T 0 r.val (by omega)
      simp only [Nat.zero_le, if_true, Nat.add_zero] at this
      rw [part, ← this]
      simp only [ite_mul, zero_mul]
    · intro x
      pointwise [caus]
      rw [cmp_slt (by omega) (by omega), select_ite]
      split
      · rename_i hx
        rw [zOf_apply hq hk r x, diagSum_apply hq hk r x (by omega)]
        exact exp_sub_coe _ _
      · rfl

/-- A tile taken. -/
theorem tile_holds {q k v : FVec Ideal S256x64 .bf16} {T a : ℕ} {st : Ch Ideal} (hq : IsTile q Qf T) (hk : IsTile k Kf a)
    (hv : IsTile v Vf a) (h : a + 256 ≤ T) (hs : Holds Qf Kf Vf T (a + 256) st) : Holds Qf Kf Vf T a (tileCh neR 1#1 q k v st) := by
  have hsum : ∀ r c : Fin 256, tileSum neR q k st.1 (ix2 r c)
      = ((tail (score Qf Kf (T + r.val)) (T + r.val) (a + c.val) : ℝ) : EReal) := by
    intro r c
    unfold tileSum
    rw [csumOf_apply (fun x => spOf_apply (zOf_apply hq hk r x)) (hs.1 r),
      tail_split (score Qf Kf (T + r.val)) (a := a + c.val) (b := a + 256) (by omega) (by omega),
      ← sum_block (fun s => softplus (score Qf Kf (T + r.val) s)) 256 a c.val]
    rfl
  refine ⟨fun r => ?_, fun r d => ?_⟩
  · show laterOf (tileSum neR q k st.1) (ix2 r 0) = _
    rw [laterOf_apply, hsum r 0]
    rfl
  · show st.2 _ + pvOf _ _ _ = _
    rw [hs.2 r d, pvOf_apply (f := fun x => Real.exp (score Qf Kf (T + r.val) (a + x.val)
      - tail (score Qf Kf (T + r.val)) (T + r.val) (a + x.val))) (g := fun x => Vf (a + x.val) d) ?_ (fun x => hv x d)]
    · rw [← EReal.coe_add, add_comm,
        part_split (score Qf Kf (T + r.val)) (fun s => Vf s d) (a := a) (b := a + 256) (by omega) (by omega),
        ← sum_block_all (fun s => Real.exp (score Qf Kf (T + r.val) s - tail (score Qf Kf (T + r.val)) (T + r.val) s) * Vf s d) 256 a]
    · intro x
      pointwise
      rw [zOf_apply hq hk r x, hsum r x]
      exact exp_sub_coe _ _

/-- A tile passed over. -/
theorem tile_skip {q k v : FVec Ideal S256x64 .bf16} {T a : ℕ} {st : Ch Ideal} (hs : Holds Qf Kf Vf T a st) :
    Holds Qf Kf Vf T a (tileCh neR 0#1 q k v st) := by
  refine ⟨fun r => hs.1 r, fun r d => ?_⟩
  show st.2 _ + broadcast S256x64 (Scalar.ofBits (F := Ideal) .f32 0x00000000#32) (ix2 r d) = _
  rw [hs.2 r d]
  pointwise

end Cert.Sb

end
-- ==== Proof.Sb.Walk.lean ====
/-
  The walk at the extended reals: with the bound that ends it at `⊤`, and on real operands, every chain visits every
  tile of keys up to its own, and ends with the whole weighted sum.
-/
module

public import proofs.«01_k».proof.Proof.Sb.Tile

@[expose] public section

noncomputable section

namespace Cert.Sb

open Idealize.ShloMosaic Cert.Kernel Cert.Kernel.Gen

/-- The first tile of the points whose last coordinate is `x`. -/
def wAt (x : Fin 8) : BitVec 32 := Scalar.muli (BitVec.ofNat 32 x.val) 4#32

/-- The chain's own tile, counted from the array's start. -/
def own (x c : Fin 8) : ℕ := 4 * x.val + c.val / 2

theorem rowQ_eq : ∀ c, rowQ c = 256 * (c.val / 2) := by decide
theorem lane_eq : ∀ c, lane c = 64 * (c.val % 2) := by decide

theorem rowD_eq : ∀ x c, rowD (wAt x) c = 256 * own x c := by decide +kernel
theorem rowP_eq : ∀ x c, rowP (wAt x) c = 256 * (own x c - 1) := by decide +kernel
theorem prev_eq : ∀ x c, Scalar.cmpi .sge (tileW (wAt x) c) 1#32 = if 1 ≤ own x c then 1#1 else 0#1 := by decide +kernel
theorem rowL_at : ∀ (x : Fin 8) (n : Fin 32) (c : Fin 8), rowL (wAt x) (BitVec.ofNat 32 n.val) c = 256 * (own x c - 2 - n.val) := by
  decide +kernel
theorem take_at : ∀ (x : Fin 8) (n : Fin 32) (c : Fin 8), Scalar.cmpi .sge (jW (wAt x) (BitVec.ofNat 32 n.val) c) 0#32
    = if 2 + n.val ≤ own x c then 1#1 else 0#1 := by decide +kernel
theorem own_lt (x c : Fin 8) : own x c < 32 := by unfold own; omega

/-- A tile's rows and lanes are inside the block. -/
theorem tile_inb {n row off : ℕ} (hr : row + 256 ≤ n) (hl : off + 64 ≤ 128) (a : Fin 3) :
    (![0, row, off] : Fin 3 → ℕ) a + S1x256x64.size a ≤ (Blk n).size a := by
  match a with
  | ⟨0, _⟩ => exact Nat.le_refl 1
  | ⟨1, _⟩ => exact hr
  | ⟨2, _⟩ => exact hl

theorem dropUnit_apply (y : Vec Ideal S1x256x64 .bf16) (r : Fin 256) (d : Fin 64) :
    shapeCast S256x64 y shapeCasts_S1x256x64_S256x64 (ix2 r d) = y (ix3 (0 : Fin 1) r d) := by
  pointwise

/-- A tile at an index. -/
theorem tileAt_apply {n row off : ℕ} {x : Vec Ideal (Blk n) .bf16} (hr : row + 256 ≤ n) (hl : off + 64 ≤ 128)
   (r : Fin 256) (d : Fin 64) :
    tileAt n row off x (ix2 r d) = x (ix3 (0 : Fin 1) ⟨row + r.val, by omega⟩ ⟨off + d.val, by omega⟩) := by
  rw [tileAt_eq x (tile_inb hr hl), dropUnit_apply]
  show x _ = x _
  congr 1
  funext a
  apply Fin.ext
  match a with
  | ⟨0, _⟩ => rfl
  | ⟨1, _⟩ => exact congrArg (row + ·) (Nat.one_mul r.val)
  | ⟨2, _⟩ => exact congrArg (off + ·) (Nat.one_mul d.val)

/-- A tile of a block of reals. -/
theorem tileAt_isTile {n row off : ℕ} {x : Vec Ideal (Blk n) .bf16} {f : ℕ → ℕ → ℝ} {base : ℕ}
    (hx : ∀ (r : Fin n) (l : Fin 128), x (ix3 (0 : Fin 1) r l) = ((f (base + r.val) l.val : ℝ) : EReal)) (hr : row + 256 ≤ n) (hl : off + 64 ≤ 128) :
    IsTile (tileAt n row off x) (fun s d => f s (off + d.val)) (base + row) := by
  intro r d
  rw [tileAt_apply hr hl, hx, Nat.add_assoc]

section
variable {Qf Kf Vf : ℕ → ℕ → ℝ} (x : Fin 8) {X : Vec Ideal (Blk 1024) .bf16} {K V : Vec Ideal (Blk 8192) .bf16}

/-- The operands' blocks: queries from the point's first row on, all keys and values, two heads of 64 lanes. -/
structure Blocks (Qf Kf Vf : ℕ → ℕ → ℝ) (x : Fin 8) (X : Vec Ideal (Blk 1024) .bf16) (K V : Vec Ideal (Blk 8192) .bf16) : Prop where
  q : ∀ (r : Fin 1024) (l : Fin 128), X (ix3 (0 : Fin 1) r l) = ((Qf (1024 * x.val + r.val) l.val : ℝ) : EReal)
  k : ∀ (r : Fin 8192) (l : Fin 128), K (ix3 (0 : Fin 1) r l) = ((Kf (0 + r.val) l.val : ℝ) : EReal)
  v : ∀ (r : Fin 8192) (l : Fin 128), V (ix3 (0 : Fin 1) r l) = ((Vf (0 + r.val) l.val : ℝ) : EReal)

/-- A chain's state with the keys from `a` on visited. -/
abbrev At (Qf Kf Vf : ℕ → ℕ → ℝ) (x c : Fin 8) (a : ℕ) (st : Ch Ideal) : Prop :=
  Holds (fun s d => Qf s (lane c + d.val)) (fun s d => Kf s (lane c + d.val)) (fun s d => Vf s (lane c + d.val)) (256 * own x c) a st

variable {x}

theorem qs_isTile (hb : Blocks Qf Kf Vf x X K V) (c : Fin 8) : IsTile (qs X c) (fun s d => Qf s (lane c + d.val)) (256 * own x c) := by
  have := tileAt_isTile (row := rowQ c) (off := lane c) hb.q (by rw [rowQ_eq]; omega) (by rw [lane_eq]; omega)
  rw [show 256 * own x c = 1024 * x.val + rowQ c by rw [rowQ_eq]; unfold own; omega]
  exact this

theorem k_isTile (hb : Blocks Qf Kf Vf x X K V) (c : Fin 8) {row : ℕ} (h : row + 256 ≤ 8192) :
    IsTile (tileAt 8192 row (lane c) K) (fun s d => Kf s (lane c + d.val)) row := by
  have := tileAt_isTile (row := row) (off := lane c) hb.k h (by rw [lane_eq]; omega)
  rwa [Nat.zero_add] at this

theorem v_isTile (hb : Blocks Qf Kf Vf x X K V) (c : Fin 8) {row : ℕ} (h : row + 256 ≤ 8192) :
    IsTile (tileAt 8192 row (lane c) V) (fun s d => Vf s (lane c + d.val)) row := by
  have := tileAt_isTile (row := row) (off := lane c) hb.v h (by rw [lane_eq]; omega)
  rwa [Nat.zero_add] at this

/-- Before the loop: the own tile, and the one before it where there is one. -/
theorem init_at (hb : Blocks Qf Kf Vf x X K V) (c : Fin 8) :
    At Qf Kf Vf x c (256 * (own x c - 1)) (init neR (wAt x) (qs X) K V c) := by
  have ho := own_lt x c
  unfold init
  rw [rowD_eq, rowP_eq, prev_eq]
  have hd := diag_holds (qs_isTile hb c) (k_isTile hb c (row := 256 * own x c) (by omega)) (v_isTile hb c (row := 256 * own x c) (by omega))
  split
  · refine tile_holds (qs_isTile hb c) (k_isTile hb c (by omega)) (v_isTile hb c (by omega)) (by omega) ?_
    rw [show 256 * (own x c - 1) + 256 = 256 * own x c by omega]
    exact hd
  · refine tile_skip ?_
    rw [show 256 * (own x c - 1) = 256 * own x c by omega]
    exact hd

/-- One trip. -/
theorem step_at (hb : Blocks Qf Kf Vf x X K V) (c : Fin 8) {n : ℕ} (hn : n < 32) {st : St Ideal}
    (h : At Qf Kf Vf x c (256 * (own x c - 1 - n)) (st c)) :
    At Qf Kf Vf x c (256 * (own x c - 1 - (n + 1))) (step neR (wAt x) (qs X) K V (BitVec.ofNat 32 n) st c) := by
  have ho := own_lt x c
  unfold step
  rw [rowL_at x ⟨n, hn⟩ c, take_at x ⟨n, hn⟩ c]
  simp only
  split
  · rw [show own x c - 1 - (n + 1) = own x c - 2 - n by omega]
    refine tile_holds (qs_isTile hb c) (k_isTile hb c (by omega)) (v_isTile hb c (by omega)) (by omega) ?_
    rw [show 256 * (own x c - 2 - n) + 256 = 256 * (own x c - 1 - n) by omega]
    exact h
  · refine tile_skip ?_
    rw [show own x c - 1 - (n + 1) = own x c - 1 - n by omega]
    exact h

/-- The last chain still has a tile to visit, and its least sum is below `⊤`. -/
theorem pend_at {n : ℕ} (hn : n < 4 * x.val + 2) {st : St Ideal} {l : ℝ} (h : (st 7).1 (ix2 0 0) = (l : EReal)) :
    pend (F := Ideal) (⊤ : EReal) (wAt x) (BitVec.ofNat 32 n) st = 1#1 := by
  have h7 : pendC (F := Ideal) (⊤ : EReal) (wAt x) (BitVec.ofNat 32 n) st 7 = 1#1 := by
    unfold pendC
    rw [take_at x ⟨n, by omega⟩ 7, if_pos (by show 2 + n ≤ 4 * x.val + 7 / 2; omega)]
    have : Scalar.cmpf (F := Ideal) (φ := .f32) .olt (minOf (st 7).1) (⊤ : EReal) = 1#1 := by
      show BitVec.ofBool (decide (minOf (st 7).1 < (⊤ : EReal))) = 1#1
      rw [decide_eq_true (minOf_lt h)]; rfl
    rw [this]; rfl
  unfold pend
  rw [h7]
  exact (by decide : ∀ b : BitVec 1, Scalar.ori b 1#1 = 1#1) _

theorem counter_next (n : ℕ) : Scalar.addi (BitVec.ofNat 32 n) 1#32 = BitVec.ofNat 32 (n + 1) :=
  BitVec.eq_of_toNat_eq (by simp [Scalar.addi, IntOp.addi])

/-- The loop takes every trip. -/
theorem loop_at (hb : Blocks Qf Kf Vf x X K V) : ∀ (k n : ℕ) (st : St Ideal), n + k = 4 * x.val + 2 →
    (∀ c, At Qf Kf Vf x c (256 * (own x c - 1 - n)) (st c)) →
    ∀ c, At Qf Kf Vf x c 0 ((loop neR (⊤ : EReal) (wAt x) (qs X) K V k (BitVec.ofNat 32 n) st).2 c)
  | 0, n, st, hn, h, c => by
    have := h c
    rw [show 256 * (own x c - 1 - n) = 0 by unfold own; omega] at this
    exact this
  | k + 1, n, st, hn, h, c => by
    unfold loop
    rw [if_pos (pend_at (by omega) ((h 7).1 0)), counter_next]
    exact loop_at hb k (n + 1) _ (by omega) (fun c => step_at hb c (by omega) (h c)) c

/-- The chains' ends. -/
theorem final_at (hb : Blocks Qf Kf Vf x X K V) (c : Fin 8) :
    At Qf Kf Vf x c 0 (final neR (⊤ : EReal) (wAt x) (4 * x.val + 2) X K V c) :=
  loop_at hb (4 * x.val + 2) 0 _ (by omega) (fun c => init_at hb c) c

end

end Cert.Sb

end
-- ==== Proof.KI.Value.lean ====
/-
  The idealized kernel's value: what a point's blocks hold of the argument, what it leaves of its output block, and
  with that the whole result by index.
-/
module

public import proofs.«01_k».proof.Proof.KI.Run
public import proofs.«01_k».proof.Proof.Sb.Walk

@[expose] public section

noncomputable section

namespace Cert.Proof.KI

open Idealize Idealize.ShloMosaic Cert.KernelIdeal Cert.KernelIdeal.Gen Cert.Sb

variable (m : (ℓ : Loc nD τ sig) → Buf (Elt Ideal) ℓ)

/-- The argument on a device. -/
abbrev arg (c : Dev nD) : FVec Ideal S2x8192x3072 .bf16 := m ((c.tc : Thread nD τ).loc main_arg0)

/-! ## Where a point's blocks lie -/

theorem index0 : ∀ t : Fin grid0.N, win0_0.index t 0 = t.val / 32 ∧ win0_0.index t 1 = t.val % 8 ∧ win0_0.index t 2 = 12 + t.val / 8 % 4 := by
  decide +kernel
theorem index1 : ∀ t : Fin grid0.N, win0_1.index t 0 = t.val / 32 ∧ win0_1.index t 1 = 0 ∧ win0_1.index t 2 = 16 + t.val / 8 % 4 := by
  decide +kernel
theorem index2 : ∀ t : Fin grid0.N, win0_2.index t 0 = t.val / 32 ∧ win0_2.index t 1 = 0 ∧ win0_2.index t 2 = 20 + t.val / 8 % 4 := by
  decide +kernel
theorem index3 : ∀ t : Fin grid0.N, win0_3.index t 0 = t.val / 32 ∧ win0_3.index t 1 = t.val % 8 ∧ win0_3.index t 2 = t.val / 8 % 4 := by
  decide +kernel
theorem coord2 : ∀ t : Fin grid0.N, (grid0.coords t 2).val = t.val % 8 := by decide +kernel

theorem lt64 (t : Fin grid0.N) : t.val < 64 := t.isLt

theorem iblk0_apply (c : Dev nD) (t : Fin grid0.N) (r : Fin 1024) (l : Fin 128) :
    iblk m c 0 t (ix3 0 r l) = arg m c (ix3 ⟨t.val / 32, by have := lt64 t; omega⟩ ⟨1024 * (t.val % 8) + r.val, by omega⟩ ⟨1536 + (128 * (t.val / 8 % 4) + l.val), by omega⟩) := by
  obtain ⟨h0, h1, h2⟩ := index0 t
  show arg m c (((cfg0 (F := Ideal)).win 0).blk t |>.view.emb (ix3 0 r l)) = _
  congr 1
  funext a
  apply Fin.ext
  match a with
  | ⟨0, _⟩ => show win0_0.index t 0 * 1 + 1 * 0 = t.val / 32; omega
  | ⟨1, _⟩ => show win0_0.index t 1 * 1024 + 1 * r.val = 1024 * (t.val % 8) + r.val; omega
  | ⟨2, _⟩ => show win0_0.index t 2 * 128 + 1 * l.val = 1536 + (128 * (t.val / 8 % 4) + l.val); omega

theorem iblk1_apply (c : Dev nD) (t : Fin grid0.N) (r : Fin 8192) (l : Fin 128) :
    iblk m c 1 t (ix3 0 r l) = arg m c (ix3 ⟨t.val / 32, by have := lt64 t; omega⟩ ⟨0 + r.val, by omega⟩ ⟨2048 + (128 * (t.val / 8 % 4) + l.val), by omega⟩) := by
  obtain ⟨h0, h1, h2⟩ := index1 t
  show arg m c (((cfg0 (F := Ideal)).win 1).blk t |>.view.emb (ix3 0 r l)) = _
  congr 1
  funext a
  apply Fin.ext
  match a with
  | ⟨0, _⟩ => show win0_1.index t 0 * 1 + 1 * 0 = t.val / 32; omega
  | ⟨1, _⟩ => show win0_1.index t 1 * 8192 + 1 * r.val = 0 + r.val; omega
  | ⟨2, _⟩ => show win0_1.index t 2 * 128 + 1 * l.val = 2048 + (128 * (t.val / 8 % 4) + l.val); omega

theorem iblk2_apply (c : Dev nD) (t : Fin grid0.N) (r : Fin 8192) (l : Fin 128) :
    iblk m c 2 t (ix3 0 r l) = arg m c (ix3 ⟨t.val / 32, by have := lt64 t; omega⟩ ⟨0 + r.val, by omega⟩ ⟨2560 + (128 * (t.val / 8 % 4) + l.val), by omega⟩) := by
  obtain ⟨h0, h1, h2⟩ := index2 t
  show arg m c (((cfg0 (F := Ideal)).win 2).blk t |>.view.emb (ix3 0 r l)) = _
  congr 1
  funext a
  apply Fin.ext
  match a with
  | ⟨0, _⟩ => show win0_2.index t 0 * 1 + 1 * 0 = t.val / 32; omega
  | ⟨1, _⟩ => show win0_2.index t 1 * 8192 + 1 * r.val = 0 + r.val; omega
  | ⟨2, _⟩ => show win0_2.index t 2 * 128 + 1 * l.val = 2560 + (128 * (t.val / 8 % 4) + l.val); omega

/-! ## What a point leaves -/

set_option maxRecDepth 16384 in
theorem outTile_apply (st : Ch Ideal) (r : Fin 256) (d : Fin 64) : outTile st (ix3 0 r d) = st.2 (ix2 r d) := by
  pointwise [outTile]

/-- The output block by index: the chain whose tile holds the index, at the index's place in the tile. -/
def outIdx (st : St Ideal) (y : S1x1024x128.Idx) : Ideal .f32 :=
  (st ⟨2 * ((y 1).val / 256) + (y 2).val / 64, by
    have h1 : (y 1).val < 1024 := (y 1).isLt
    have h2 : (y 2).val < 128 := (y 2).isLt
    omega⟩).2 (ix2 ⟨(y 1).val % 256, Nat.mod_lt _ (by decide)⟩ ⟨(y 2).val % 64, Nat.mod_lt _ (by decide)⟩)

theorem outTile_idx (st : St Ideal) (ch : Fin 8) (x : S1x256x64.Idx) (y : S1x1024x128.Idx)
    (h1 : (y 1).val = 256 * (ch.val / 2) + (x 1).val) (h2 : (y 2).val = 64 * (ch.val % 2) + (x 2).val) :
    outTile (st ch) x = outIdx st y := by
  have l1 : (x 1).val < 256 := (x 1).isLt
  have l2 : (x 2).val < 64 := (x 2).isLt
  have hx : x = ix3 (0 : Fin 1) (x 1 : Fin 256) (x 2 : Fin 64) := by
    funext a
    match a with
    | ⟨0, _⟩ => exact Subsingleton.elim (α := Fin 1) _ _
    | ⟨1, _⟩ => rfl
    | ⟨2, _⟩ => rfl
  refine ((congrArg (outTile (st ch)) hx).trans (outTile_apply (st ch) (x 1) (x 2))).trans ?_
  unfold outIdx
  have e : (⟨2 * ((y 1).val / 256) + (y 2).val / 64, by omega⟩ : Fin 8) = ch := Fin.ext (by show 2 * ((y 1).val / 256) + (y 2).val / 64 = ch.val; omega)
  have e1 : (⟨(y 1).val % 256, Nat.mod_lt _ (by decide)⟩ : Fin 256) = x 1 := Fin.ext (by show (y 1).val % 256 = (x 1).val; omega)
  have e2 : (⟨(y 2).val % 64, Nat.mod_lt _ (by decide)⟩ : Fin 64) = x 2 := Fin.ext (by show (y 2).val % 64 = (x 2).val; omega)
  rw [e, e1, e2]

theorem outBlk_eq (st : St Ideal) (y : S1x1024x128.Idx) : outBlk st y = outIdx st y := by
  refine View.read_writes_apply_of_pieces _ _ (outIdx st) (pieces st) (fun p hp x => ?_) y (pieces_cover st y)
  simp only [pieces, List.mem_cons, List.not_mem_nil, or_false] at hp
  rcases hp with rfl | rfl | rfl | rfl | rfl | rfl | rfl | rfl
  · exact outTile_idx st 7 x _ (show 768 + 1 * (x 1).val = 768 + (x 1).val by omega) (show 64 + 1 * (x 2).val = 64 + (x 2).val by omega)
  · exact outTile_idx st 6 x _ (show 768 + 1 * (x 1).val = 768 + (x 1).val by omega) (show 0 + 1 * (x 2).val = 0 + (x 2).val by omega)
  · exact outTile_idx st 5 x _ (show 512 + 1 * (x 1).val = 512 + (x 1).val by omega) (show 64 + 1 * (x 2).val = 64 + (x 2).val by omega)
  · exact outTile_idx st 4 x _ (show 512 + 1 * (x 1).val = 512 + (x 1).val by omega) (show 0 + 1 * (x 2).val = 0 + (x 2).val by omega)
  · exact outTile_idx st 3 x _ (show 256 + 1 * (x 1).val = 256 + (x 1).val by omega) (show 64 + 1 * (x 2).val = 64 + (x 2).val by omega)
  · exact outTile_idx st 2 x _ (show 256 + 1 * (x 1).val = 256 + (x 1).val by omega) (show 0 + 1 * (x 2).val = 0 + (x 2).val by omega)
  · exact outTile_idx st 1 x _ (show 0 + 1 * (x 1).val = 0 + (x 1).val by omega) (show 64 + 1 * (x 2).val = 64 + (x 2).val by omega)
  · exact outTile_idx st 0 x _ (show 0 + 1 * (x 1).val = 0 + (x 1).val by omega) (show 0 + 1 * (x 2).val = 0 + (x 2).val by omega)

/-! ## The result -/

/-- The weighted sum a result entry is, from the argument's real values. -/
abbrev entry (xf : Fin 2 → ℕ → ℕ → ℝ) (b : Fin 2) (t : ℕ) (hd d : ℕ) : ℝ :=
  part (score (fun s e => xf b s (1536 + (hd * 64 + e.val))) (fun s e => xf b s (2048 + (hd * 64 + e.val))) t)
    (fun s => xf b s (2560 + (hd * 64 + d))) t 0

theorem ne_eq : ne (F := Ideal) = neR := IdealRules.named_const.ideal_named_scalar _ _ _ _ rfl
theorem thr_eq : thr (F := Ideal) = (⊤ : EReal) := IdealRules.named_const.ideal_named_scalar _ _ _ _ rfl

section

variable {m}
variable {c : Dev nD} {xf : Fin 2 → ℕ → ℕ → ℝ} (hX : ∀ b t l, arg m c (ix3 b t l) = ((xf b t.val l.val : ℝ) : EReal))

include hX

theorem blocks (t : Fin grid0.N) :
    Blocks (fun s l => xf ⟨t.val / 32, by have := lt64 t; omega⟩ s (1536 + (128 * (t.val / 8 % 4) + l)))
      (fun s l => xf ⟨t.val / 32, by have := lt64 t; omega⟩ s (2048 + (128 * (t.val / 8 % 4) + l)))
      (fun s l => xf ⟨t.val / 32, by have := lt64 t; omega⟩ s (2560 + (128 * (t.val / 8 % 4) + l)))
      (⟨t.val % 8, Nat.mod_lt _ (by decide)⟩ : Fin 8) (iblk m c 0 t) (iblk m c 1 t) (iblk m c 2 t) where
  q r l := (iblk0_apply m c t r l).trans (hX _ _ _)
  k r l := (iblk1_apply m c t r l).trans (hX _ _ _)
  v r l := (iblk2_apply m c t r l).trans (hX _ _ _)

theorem chain_out (t : Fin grid0.N) (ch : Fin 8) (r : Fin 256) (d : Fin 64) :
    (finalAt (grid0.coords t) (iblk m c 0 t) (iblk m c 1 t) (iblk m c 2 t) ch).2 (ix2 r d)
      = ((entry xf ⟨t.val / 32, by have := lt64 t; omega⟩ (1024 * (t.val % 8) + 256 * (ch.val / 2) + r.val) (2 * (t.val / 8 % 4) + ch.val % 2) d.val : ℝ) : EReal) := by
  have hf := (final_at (blocks hX t) ch).2 r d
  have hc : (grid0.coords t 2).val = t.val % 8 := coord2 t
  have e : finalAt (grid0.coords t) (iblk m c 0 t) (iblk m c 1 t) (iblk m c 2 t)
      = final neR (⊤ : EReal) (wAt ⟨t.val % 8, Nat.mod_lt _ (by decide)⟩) (4 * (t.val % 8) + 2) (iblk m c 0 t) (iblk m c 1 t) (iblk m c 2 t) := by
    unfold finalAt wOf fuel wAt
    rw [hc, ne_eq, thr_eq]
  rw [e]
  refine hf.trans (congrArg Real.toEReal ?_)
  rw [lane_eq]
  unfold own entry
  simp only
  rw [show 256 * (4 * (t.val % 8) + ch.val / 2) + r.val = 1024 * (t.val % 8) + 256 * (ch.val / 2) + r.val by omega]
  have hl : ∀ n e : ℕ, n + (128 * (t.val / 8 % 4) + (64 * (ch.val % 2) + e)) = n + ((2 * (t.val / 8 % 4) + ch.val % 2) * 64 + e) := fun n e => by omega
  simp only [hl]

/-- The result by index. -/
theorem result_apply (b : Fin 2) (t : Fin 8192) (h : Fin 8) (d : Fin 64) :
    (dats m 0 c).arrAt 3 (cfg0 (F := Ideal)).N (ix3 b t ⟨h.val * 64 + d.val, by omega⟩) = ((entry xf b t.val h.val d.val : ℝ) : EReal) := by
  obtain ⟨p, hp⟩ : ∃ p : Fin grid0.N, p.val = 32 * b.val + 8 * (h.val / 2) + t.val / 1024 :=
    ⟨⟨32 * b.val + 8 * (h.val / 2) + t.val / 1024, show _ < 64 by omega⟩, rfl⟩
  have hb := congrFun (block_final m c p) (ix3 (0 : Fin 1) ⟨t.val % 1024, Nat.mod_lt _ (by decide)⟩ ⟨64 * (h.val % 2) + d.val, by omega⟩)
  obtain ⟨h0, h1, h2⟩ := index3 p
  have he : (((cfg0 (F := Ideal)).win 3).blk p).view.emb (ix3 (0 : Fin 1) ⟨t.val % 1024, Nat.mod_lt _ (by decide)⟩ ⟨64 * (h.val % 2) + d.val, by omega⟩)
      = (ix3 b t ⟨h.val * 64 + d.val, by omega⟩ : S2x8192x512.Idx) := by
    funext a
    apply Fin.ext
    match a with
    | ⟨0, _⟩ => show win0_3.index p 0 * 1 + 1 * 0 = b.val; omega
    | ⟨1, _⟩ => show win0_3.index p 1 * 1024 + 1 * (t.val % 1024) = t.val; omega
    | ⟨2, _⟩ => show win0_3.index p 2 * 128 + 1 * (64 * (h.val % 2) + d.val) = h.val * 64 + d.val; omega
  rw [← he]
  refine hb.trans ?_
  show outBlk (finalAt (grid0.coords p) (iblk m c 0 p) (iblk m c 1 p) (iblk m c 2 p)) (ix3 (0 : Fin 1) (⟨t.val % 1024, Nat.mod_lt _ (by decide)⟩ : Fin 1024) (⟨64 * (h.val % 2) + d.val, by omega⟩ : Fin 128)) = _
  rw [outBlk_eq]
  refine (chain_out hX p _ _ _).trans (congrArg Real.toEReal ?_)
  have eb : (⟨p.val / 32, by have := lt64 p; omega⟩ : Fin 2) = b := Fin.ext (by show p.val / 32 = b.val; omega)
  have et : 1024 * (p.val % 8) + 256 * ((2 * ((t.val % 1024) / 256) + (64 * (h.val % 2) + d.val) / 64) / 2) + (t.val % 1024) % 256 = t.val := by omega
  have eh : 2 * (p.val / 8 % 4) + (2 * ((t.val % 1024) / 256) + (64 * (h.val % 2) + d.val) / 64) % 2 = h.val := by omega
  have ed : (64 * (h.val % 2) + d.val) % 64 = d.val := by omega
  show entry xf ⟨p.val / 32, _⟩ (1024 * (p.val % 8) + 256 * ((2 * ((t.val % 1024) / 256) + (64 * (h.val % 2) + d.val) / 64) / 2) + (t.val % 1024) % 256)
    (2 * (p.val / 8 % 4) + (2 * ((t.val % 1024) / 256) + (64 * (h.val % 2) + d.val) / 64) % 2) ((64 * (h.val % 2) + d.val) % 64) = _
  rw [eb, et, eh, ed]

end

end Cert.Proof.KI

end
-- ==== Proof.R.Value.lean ====
/-
  The reference's value: its composed term in stages, each read at an index on real inputs. The result at row `t`
  of head `h` is the weighted sum over the earlier keys that the kernel's walk ends with.
-/
module

public import proofs.«01_k».proof.Proof.Sb.Tile
public import proofs.«01_k».proof.Proof.Gen.ReferenceIdeal.Run

@[expose] public section

noncomputable section

namespace Cert.Ref

open Idealize.ShloMosaic Cert.ReferenceIdeal Cert.ReferenceIdeal.Gen Cert.Sb

/-! ## The stages -/

abbrev Score : Type := FVec Ideal S2x8x8192x8192 .f32

abbrev rest (X : FVec Ideal S2x8192x3072 .bf16) : FVec Ideal S2x8192x1536 .f32 :=
  extractStridedSlice S2x8192x1536 ![0, 0, 1536] (extf .f32 X bitsLt_bf16_f32) slices_S2x8192x3072_S2x8192x1536_0_0_1536

def heads (x : FVec Ideal S2x8192x512 .f32) : FVec Ideal S2x8x8192x64 .f32 :=
  transpose S2x8x8192x64 [0, 2, 1, 3] (shapeCast S2x8192x8x64 x shapeCasts_S2x8192x512_S2x8192x8x64) transposes_S2x8192x8x64_S2x8x8192x64_0_2_1_3

def qr (X : FVec Ideal S2x8192x3072 .bf16) : FVec Ideal S2x8x8192x64 .f32 := heads (extractStridedSlice S2x8192x512 ![0, 0, 0] (rest X) slices_S2x8192x1536_S2x8192x512_0_0_0)
def kr (X : FVec Ideal S2x8192x3072 .bf16) : FVec Ideal S2x8x8192x64 .f32 := heads (extractStridedSlice S2x8192x512 ![0, 0, 512] (rest X) slices_S2x8192x1536_S2x8192x512_0_0_512)
def vr (X : FVec Ideal S2x8192x3072 .bf16) : FVec Ideal S2x8x8192x64 .f32 := heads (extractStridedSlice S2x8192x512 ![0, 0, 1024] (rest X) slices_S2x8192x1536_S2x8192x512_0_0_1024)

def dots (q k : FVec Ideal S2x8x8192x64 .f32) : Score :=
  Host.dotGeneral dot_S2x8x8192x64_S2x8x8192x64_S2x8x8192x8192_3_3_2_2_01_01 none q k

def earlier : IVec S2x8x8192x8192 1 :=
  broadcastInDim S2x8x8192x8192 ![2, 3] bcast_S8192x8192_S2x8x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

abbrev zeros : Score := broadcastInDim S2x8x8192x8192 ![] bcast_S_S2x8x8192x8192 (constant (F := Ideal) S_ .f32 0x00000000#32)

def plus (x : Score) : Score :=
  select (cmpf .une (subf x zeros) (subf x zeros)) (addf x zeros)
    (addf (maximumf x zeros) (Host.log1p (Host.exp (Host.negf (Host.absf (subf x zeros))))))

def masked (x : Score) : Score :=
  select earlier x (broadcastInDim S2x8x8192x8192 ![] bcast_S_S2x8x8192x8192 (id (constant (F := Ideal) S_ .f32 0x00000000#32)))

def after (x : Score) : Score :=
  Host.reduceWindowAdd ![1, 1, 1, 8192] ![1, 1, 1, 1] ![0, 0, 0, 0] ![0, 0, 0, 8191] x
    (broadcastInDim S_ ![] bcast_S_S_ (constant S_ .f32 0x00000000#32)) reduceWindows_S2x8x8192x8192_S2x8x8192x8192_w1s1p0_0_w1s1p0_0_w1s1p0_0_w8192s1p0_8191 h_S_

def rests (z : Score) : Score := masked (Host.negf (plus (Host.negf (Host.negf z))))

def weights (z : Score) : Score :=
  masked (Host.exp (addf (Host.negf (plus (Host.negf z))) (subf (after (rests z)) (rests z))))

def summed (w : Score) (v : FVec Ideal S2x8x8192x64 .f32) : FVec Ideal S2x8x8192x64 .f32 :=
  Host.dotGeneral dot_S2x8x8192x8192_S2x8x8192x64_S2x8x8192x64_3_2_2_3_01_01 none w v

def joined (x : FVec Ideal S2x8x8192x64 .f32) : FVec Ideal S2x8192x512 .bf16 :=
  truncf .bf16 (shapeCast S2x8192x512 (transpose S2x8192x8x64 [0, 2, 1, 3] x transposes_S2x8x8192x64_S2x8192x8x64_0_2_1_3) shapeCasts_S2x8192x8x64_S2x8192x512) bitsLt_bf16_f32

theorem res_eq (m : (ℓ : Loc nD τ sig) → Buf (Elt Ideal) ℓ) (c : Dev nD) (X : FVec Ideal S2x8192x3072 .bf16)
    (hX : m ((c.tc : Thread nD τ).loc main_arg0) = X) :
    Value.res_main_v30 m c = joined (summed (weights (dots (qr X) (kr X))) (vr X)) := by
  subst hX; unfold Value.res_main_v30; rfl

/-! ## Each at an index -/

set_option maxRecDepth 16384 in
theorem joined_apply (x : FVec Ideal S2x8x8192x64 .f32) (b : Fin 2) (t : Fin 8192) (h : Fin 8) (d : Fin 64) :
    joined x (ix3 b t ⟨h.val * 64 + d.val, by omega⟩) = x (ix4 b h t d) := by
  pointwise [joined]

set_option maxRecDepth 16384 in
theorem heads_apply (x : FVec Ideal S2x8192x512 .f32) (b : Fin 2) (h : Fin 8) (t : Fin 8192) (d : Fin 64) :
    heads x (ix4 b h t d) = x (ix3 b t ⟨h.val * 64 + d.val, by omega⟩) := by
  pointwise [heads]

set_option maxRecDepth 16384 in
theorem qr_apply (X : FVec Ideal S2x8192x3072 .bf16) (b : Fin 2) (h : Fin 8) (t : Fin 8192) (d : Fin 64) :
    qr X (ix4 b h t d) = X (ix3 b t ⟨1536 + (h.val * 64 + d.val), by omega⟩) := by
  unfold qr; rw [heads_apply]
  pointwise []

set_option maxRecDepth 16384 in
theorem kr_apply (X : FVec Ideal S2x8192x3072 .bf16) (b : Fin 2) (h : Fin 8) (t : Fin 8192) (d : Fin 64) :
    kr X (ix4 b h t d) = X (ix3 b t ⟨2048 + (h.val * 64 + d.val), by omega⟩) := by
  unfold kr; rw [heads_apply]
  pointwise []
  congr 2
  apply Fin.ext
  show 1536 + (512 + (h.val * 64 + d.val)) = 2048 + (h.val * 64 + d.val)
  omega

set_option maxRecDepth 16384 in
theorem vr_apply (X : FVec Ideal S2x8192x3072 .bf16) (b : Fin 2) (h : Fin 8) (t : Fin 8192) (d : Fin 64) :
    vr X (ix4 b h t d) = X (ix3 b t ⟨2560 + (h.val * 64 + d.val), by omega⟩) := by
  unfold vr; rw [heads_apply]
  pointwise []
  congr 2
  apply Fin.ext
  show 1536 + (1024 + (h.val * 64 + d.val)) = 2560 + (h.val * 64 + d.val)
  omega

set_option maxRecDepth 16384 in
theorem dots_apply (q k : FVec Ideal S2x8x8192x64 .f32) (b : Fin 2) (h : Fin 8) (t s : Fin 8192) :
    dots q k (ix4 b h t s) = ∑ d : Fin 64, q (ix4 b h t d) * k (ix4 b h s d) := by
  pointwise [dots]

set_option maxRecDepth 16384 in
theorem summed_apply (w : Score) (v : FVec Ideal S2x8x8192x64 .f32) (b : Fin 2) (h : Fin 8) (t : Fin 8192) (d : Fin 64) :
    summed w v (ix4 b h t d) = ∑ s : Fin 8192, w (ix4 b h t s) * v (ix4 b h s d) := by
  pointwise [summed]

set_option maxRecDepth 16384 in
theorem earlier_apply (b : Fin 2) (h : Fin 8) (t s : Fin 8192) :
    earlier (ix4 b h t s) = if s.val < t.val then 1#1 else 0#1 := by
  pointwise [earlier]
  exact cmp_slt (by omega) (by omega)

set_option maxRecDepth 16384 in
theorem masked_apply (x : Score) (b : Fin 2) (h : Fin 8) (t s : Fin 8192) :
    masked x (ix4 b h t s) = if s.val < t.val then x (ix4 b h t s) else 0 := by
  have e := earlier_apply b h t s
  have h0 : (constant (F := Ideal) S_ .f32 0x00000000#32 ix0 : EReal) = 0 := by
    show Ideal.ofBits .f32 0x00000000#32 = 0
    simp [Ideal.ofBits, Ideal.ieee]
  pointwise [masked]
  rw [e]
  refine (select_ite _ _ _).trans ?_
  rw [show id (constant (F := Ideal) S_ .f32 0x00000000#32) ix0 = (0 : EReal) from h0]

theorem plus_apply (x : Score) (j) {z : ℝ} (h : x j = (z : EReal)) : plus x j = ((softplus z : ℝ) : EReal) := by
  have h0 : (zeros j : EReal) = 0 := by
    show Ideal.ofBits .f32 0x00000000#32 = 0
    simp [Ideal.ofBits, Ideal.ieee]
  have hs : (subf x zeros j : EReal) = (z : EReal) := by
    show (x j : EReal) - zeros j = _
    rw [h0, h, sub_zero]
  have hc : cmpf .une (subf x zeros) (subf x zeros) j = 0#1 := by
    show Ideal.cmp .une (subf x zeros j) (subf x zeros j) = 0#1
    simp [Ideal.cmp]
  show Scalar.select (cmpf .une (subf x zeros) (subf x zeros) j) _ ((max (x j : EReal) (zeros j)) + Ideal.log (1 + Ideal.exp (-(max (subf x zeros j : EReal) (-(subf x zeros j : EReal)))))) = _
  rw [hc, h0, h, hs, coe_max_zero]
  have ha : max (z : EReal) (-(z : EReal)) = ((|z| : ℝ) : EReal) := absf_coe z
  rw [ha, ← EReal.coe_neg]
  show ((max z 0 : ℝ) : EReal) + Ideal.log (1 + ((Real.exp (-|z|) : ℝ) : EReal)) = _
  rw [log_one_add, ← EReal.coe_add]; rfl

/-! ## The sum over a window reaching to the end -/

theorem foldl_eq_sum {N : ℕ} (g : Fin N → EReal) : (List.finRange N).foldl (fun r n => r + g n) 0 = ∑ n, g n := by
  rw [Fin.sum_univ_def, List.sum_eq_foldl, List.foldl_map]

section

variable {B H T n : ℕ}

abbrev Win (n : ℕ) : Shape := ⟨4, ![1, 1, 1, n]⟩

theorem sum_win (g : (Win n).Idx → EReal) : (∑ k : Fin (Win n).numel, g ((Win n).rowMajor.symm k)) = ∑ k : Fin n, g (ix4 0 0 0 k) := by
  rw [Equiv.sum_comp (Win n).rowMajor.symm g]
  refine (Fintype.sum_bijective (fun k : Fin n => (ix4 0 0 0 k : (Win n).Idx)) ⟨fun a b h => ?_, fun y => ⟨y 3, ?_⟩⟩ _ _ fun k => rfl).symm
  · exact congrFun h 3
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem window_sum (x : (⟨4, ![B, H, T, n]⟩ : Shape).Idx → EReal) (m : ℕ)
    (hw : (⟨4, ![B, H, T, n]⟩ : Shape).ReduceWindows ![1, 1, 1, n] ![1, 1, 1, 1] ![0, 0, 0, 0] ![0, 0, 0, m] ⟨4, ![B, H, T, n]⟩)
    (b : Fin B) (h : Fin H) (t : Fin T) (s : Fin n) :
    Ideal.hostReduceWindowAdd ![1, 1, 1, n] ![1, 1, 1, 1] ![0, 0, 0, 0] ![0, 0, 0, m] hw x 0 (ix4 b h t s)
      = ∑ k : Fin n, if hs : s.val + k.val < n then x (ix4 b h t ⟨s.val + k.val, hs⟩) else 0 := by
  unfold Ideal.hostReduceWindowAdd Host.reduceWindow
  dsimp only
  rw [foldl_eq_sum]
  refine (Finset.sum_congr rfl fun k _ => ?_).trans
    (sum_win fun w : (Win n).Idx => if hs : s.val + (w 3).val < n then x (ix4 b h t ⟨s.val + (w 3).val, hs⟩) else 0)
  let w : (Win n).Idx := (Win n).rowMajor.symm k
  have w0 : (w 0).val < 1 := (w 0).isLt
  have w1 : (w 1).val < 1 := (w 1).isLt
  have w2 : (w 2).val < 1 := (w 2).isLt
  show _ = if hs : s.val + (w 3).val < n then x (ix4 b h t ⟨s.val + (w 3).val, hs⟩) else 0
  by_cases hs : s.val + (w 3).val < n
  · rw [dif_pos hs, dif_pos]
    · congr 1
      funext a
      apply Fin.ext
      match a with
      | ⟨0, _⟩ => show b.val * 1 + (w 0).val - 0 = b.val; omega
      | ⟨1, _⟩ => show h.val * 1 + (w 1).val - 0 = h.val; omega
      | ⟨2, _⟩ => show t.val * 1 + (w 2).val - 0 = t.val; omega
      | ⟨3, _⟩ => show s.val * 1 + (w 3).val - 0 = s.val + (w 3).val; omega
    · intro a
      match a with
      | ⟨0, _⟩ => show 0 ≤ b.val * 1 + (w 0).val ∧ b.val * 1 + (w 0).val - 0 < B; omega
      | ⟨1, _⟩ => show 0 ≤ h.val * 1 + (w 1).val ∧ h.val * 1 + (w 1).val - 0 < H; omega
      | ⟨2, _⟩ => show 0 ≤ t.val * 1 + (w 2).val ∧ t.val * 1 + (w 2).val - 0 < T; omega
      | ⟨3, _⟩ => show 0 ≤ s.val * 1 + (w 3).val ∧ s.val * 1 + (w 3).val - 0 < n; omega
  · rw [dif_neg hs, dif_neg]
    intro hall
    have h3 : 0 ≤ s.val * 1 + (w 3).val ∧ s.val * 1 + (w 3).val - 0 < n := hall 3
    omega

end

theorem after_apply (x : Score) (b : Fin 2) (h : Fin 8) (t s : Fin 8192) :
    after x (ix4 b h t s) = ∑ n : Fin 8192, if hs : s.val + n.val < 8192 then x (ix4 b h t ⟨s.val + n.val, hs⟩) else 0 := by
  have h0 : (broadcastInDim S_ ![] bcast_S_S_ (constant (F := Ideal) S_ .f32 0x00000000#32) (Shape.Idx.first h_S_) : EReal) = 0 := by
    show Ideal.ofBits .f32 0x00000000#32 = 0
    simp [Ideal.ofBits, Ideal.ieee]
  unfold after Host.reduceWindowAdd
  rw [Ideal.hostReduceWindowAdd_def, h0]
  exact window_sum x 8191 _ b h t s

/-! ## The value -/

section

variable {q k v : FVec Ideal S2x8x8192x64 .f32} {Qf Kf Vf : ℕ → Fin 64 → ℝ} {b : Fin 2} {h : Fin 8}

theorem dots_real (hq : ∀ t d, q (ix4 b h t d) = ((Qf t.val d : ℝ) : EReal)) (hk : ∀ t d, k (ix4 b h t d) = ((Kf t.val d : ℝ) : EReal))
    (t s : Fin 8192) : dots q k (ix4 b h t s) = ((score Qf Kf t.val s.val : ℝ) : EReal) :=
  (dots_apply q k b h t s).trans (coe_dot (fun d => hq t d) fun d => hk s d)

variable {z : Score} {t : Fin 8192} {zf : ℕ → ℝ}

theorem rests_real (hz : ∀ s : Fin 8192, z (ix4 b h t s) = ((zf s.val : ℝ) : EReal)) (s : Fin 8192) :
    rests z (ix4 b h t s) = ((if s.val < t.val then -softplus (zf s.val) else 0 : ℝ) : EReal) := by
  unfold rests
  rw [masked_apply]
  have hn : Host.negf (Host.negf z) (ix4 b h t s) = ((zf s.val : ℝ) : EReal) := by
    show -(-(z (ix4 b h t s) : EReal)) = _
    rw [neg_neg, hz]
  by_cases hs : s.val < t.val
  · rw [if_pos hs, if_pos hs]
    show -(plus (Host.negf (Host.negf z)) (ix4 b h t s) : EReal) = _
    rw [plus_apply _ _ hn, EReal.coe_neg]
  · rw [if_neg hs, if_neg hs]; rfl

theorem after_real (hz : ∀ s : Fin 8192, z (ix4 b h t s) = ((zf s.val : ℝ) : EReal)) (s : Fin 8192) (hst : s.val < t.val) :
    after (rests z) (ix4 b h t s) = ((-tail zf t.val s.val : ℝ) : EReal) := by
  rw [after_apply]
  have e : ∀ n : Fin 8192, (if hs : s.val + n.val < 8192 then rests z (ix4 b h t ⟨s.val + n.val, hs⟩) else 0)
      = ((if n.val < t.val - s.val then -softplus (zf (s.val + n.val)) else 0 : ℝ) : EReal) := fun n => by
    have ht := t.isLt
    by_cases hs : s.val + n.val < 8192
    · rw [dif_pos hs, rests_real hz]
      congr 1
      by_cases hn : n.val < t.val - s.val
      · rw [if_pos hn, if_pos (show s.val + n.val < t.val by omega)]
      · rw [if_neg hn, if_neg (show ¬ s.val + n.val < t.val by omega)]
    · rw [dif_neg hs, if_neg (by omega)]; rfl
  rw [Finset.sum_congr rfl fun n _ => e n, coe_sum]
  have hb := sum_block_lt (fun s => -softplus (zf s)) 8192 s.val 0 (t.val - s.val) (by omega)
  simp only [Nat.zero_le, if_true] at hb
  rw [hb]
  unfold tail
  rw [show s.val + 0 = s.val from rfl, show s.val + (t.val - s.val) = t.val by omega, Finset.sum_neg_distrib]

theorem weights_real (hz : ∀ s : Fin 8192, z (ix4 b h t s) = ((zf s.val : ℝ) : EReal)) (s : Fin 8192) :
    weights z (ix4 b h t s) = ((if s.val < t.val then Real.exp (zf s.val - tail zf t.val s.val) else 0 : ℝ) : EReal) := by
  unfold weights
  rw [masked_apply]
  by_cases hs : s.val < t.val
  · rw [if_pos hs, if_pos hs]
    have hn : Host.negf z (ix4 b h t s) = ((-zf s.val : ℝ) : EReal) := by
      show -(z (ix4 b h t s) : EReal) = _
      rw [hz, EReal.coe_neg]
    show Ideal.exp (-(plus (Host.negf z) (ix4 b h t s) : EReal) + ((after (rests z) (ix4 b h t s) : EReal) - (rests z (ix4 b h t s) : EReal))) = _
    rw [plus_apply _ _ hn, after_real hz s hs, rests_real hz, if_pos hs, ← EReal.coe_neg, ← EReal.coe_sub, ← EReal.coe_add]
    show ((Real.exp _ : ℝ) : EReal) = _
    congr 2
    rw [softplus_neg]; ring
  · rw [if_neg hs, if_neg hs]; rfl

theorem summed_real (hz : ∀ s : Fin 8192, z (ix4 b h t s) = ((zf s.val : ℝ) : EReal)) {d : Fin 64} {vf : ℕ → ℝ}
    (hv : ∀ s : Fin 8192, v (ix4 b h s d) = ((vf s.val : ℝ) : EReal)) :
    summed (weights z) v (ix4 b h t d) = ((part zf vf t.val 0 : ℝ) : EReal) := by
  rw [summed_apply, coe_dot (fun s => weights_real hz s) fun s => hv s]
  refine congrArg Real.toEReal ?_
  have hb := sum_block_lt (fun s => Real.exp (zf s - tail zf t.val s) * vf s) 8192 0 0 t.val (by omega)
  simp only [Nat.zero_le, if_true, Nat.zero_add] at hb
  unfold part
  rw [← hb]
  refine Finset.sum_congr rfl fun s _ => ?_
  rw [ite_mul, zero_mul]

end

/-- The reference's result on real inputs. -/
theorem value {X : FVec Ideal S2x8192x3072 .bf16} {xf : Fin 2 → ℕ → ℕ → ℝ}
    (hX : ∀ b t l, X (ix3 b t l) = ((xf b t.val l.val : ℝ) : EReal)) (b : Fin 2) (t : Fin 8192) (h : Fin 8) (d : Fin 64) :
    joined (summed (weights (dots (qr X) (kr X))) (vr X)) (ix3 b t ⟨h.val * 64 + d.val, by omega⟩)
      = ((part (score (fun s d => xf b s (1536 + (h.val * 64 + d.val))) (fun s d => xf b s (2048 + (h.val * 64 + d.val))) t.val)
          (fun s => xf b s (2560 + (h.val * 64 + d.val))) t.val 0 : ℝ) : EReal) := by
  rw [joined_apply]
  exact summed_real (fun s => dots_real (fun t d => (qr_apply X b h t d).trans (hX _ _ _)) (fun t d => (kr_apply X b h t d).trans (hX _ _ _)) t s)
    fun s => (vr_apply X b h s d).trans (hX _ _ _)

end Cert.Ref

end
-- ==== Proof.Mm.Value.lean ====
/-
  The projection's value: a point's block of the result is its rows of the first argument times the second.
-/
module

public import proofs.«01_k».proof.Defs
public import proofs.«01_k».proof.Proof.Gen.Kernel2Ideal.Value
public import proofs.«01_k».proof.Proof.Gen.Reference2Ideal.Run
public import Idealize.ShloMosaic.Lib.Quiescent
public import Idealize.ShloMosaic.Lib.Pipeline.ValueKit
public import Idealize.ShloMosaic.Lib.Pointwise

@[expose] public section

noncomputable section

namespace Cert.Proof.Mm

open Idealize Idealize.ShloMosaic Idealize.SL.Sem Cert.Kernel2Ideal Cert.Kernel2Ideal.Gen

variable (m : (ℓ : Loc nD τ sig) → Buf (Elt Ideal) ℓ)

abbrev argX (c : Dev nD) : FVec Ideal S16384x1024 .f32 := m ((c.tc : Thread nD τ).loc main_arg0)
abbrev argW (c : Dev nD) : FVec Ideal S1024x3072 .bf16 := m ((c.tc : Thread nD τ).loc main_arg1)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

theorem lt32 (t : Fin grid0.N) : t.val < 32 := t.isLt

theorem iblk0_apply (c : Dev nD) (t : Fin grid0.N) (r : Fin 512) (k : Fin 1024) :
    iblk m c 0 t (ix2 r k) = argX m c (ix2 ⟨512 * t.val + r.val, by have := lt32 t; omega⟩ k) := by
  obtain ⟨h0, h1⟩ := index0 t
  show argX m c ((cfg0.win 0).blk t |>.view.emb (ix2 r k)) = _
  congr 1
  funext a
  apply Fin.ext
  match a with
  | ⟨0, _⟩ => show win0_0.index t 0 * 512 + 1 * r.val = 512 * t.val + r.val; omega
  | ⟨1, _⟩ => show win0_0.index t 1 * 1024 + 1 * k.val = k.val; omega

theorem iblk1_apply (c : Dev nD) (t : Fin grid0.N) (k : Fin 1024) (j : Fin 3072) :
    iblk m c 1 t (ix2 k j) = argW m c (ix2 k j) := by
  obtain ⟨h0, h1⟩ := index1 t
  show argW m c ((cfg0.win 1).blk t |>.view.emb (ix2 k j)) = _
  congr 1
  funext a
  apply Fin.ext
  match a with
  | ⟨0, _⟩ => show win0_1.index t 0 * 1024 + 1 * k.val = k.val; omega
  | ⟨1, _⟩ => show win0_1.index t 1 * 3072 + 1 * j.val = j.val; omega

set_option maxRecDepth 16384 in
theorem pay_apply (x : FVec Ideal S512x1024 .f32) (w : FVec Ideal S1024x3072 .bf16) (r : Fin 512) (j : Fin 3072) :
    (k0_pay1 (F := Ideal) x w (ix2 r j) : EReal) = ∑ k : Fin 1024, (x (ix2 r k) : EReal) * w (ix2 k j) := by
  pointwise [k0_pay1]

theorem out_apply (x : FVec Ideal S512x1024 .f32) (w : FVec Ideal S1024x3072 .bf16) (r : Fin 512) (j : Fin 3072) :
    (out0_2 (F := Ideal) x w (ix2 r j) : EReal) = ∑ k : Fin 1024, (x (ix2 r k) : EReal) * w (ix2 k j) := by
  unfold out0_2
  rw [View.canon_cons_unit_lit _ _ _ (by decide), View.ld_unit_lit _ _ (by decide), View.ld_unit_lit _ _ (by decide)]
  exact pay_apply x w r j

set_option maxRecDepth 16384 in
theorem ref_apply (x : FVec Ideal Cert.Reference2Ideal.S16384x1024 .f32) (w : FVec Ideal Cert.Reference2Ideal.S1024x3072 .bf16) (i : Fin 16384) (j : Fin 3072) :
    (truncf .bf16 (Host.dotGeneral Cert.Reference2Ideal.dot_S16384x1024_S1024x3072_S16384x3072_1_0_0_1_n_n none x (extf .f32 w Cert.Reference2Ideal.Gen.bitsLt_bf16_f32)) Cert.Reference2Ideal.Gen.bitsLt_bf16_f32) (ix2 i j)
      = (∑ k : Fin 1024, (x (ix2 i k) : EReal) * w (ix2 k j) : EReal) := by
  pointwise []

theorem result_apply (c : Dev nD) (i : Fin 16384) (j : Fin 3072) :
    ((dats m 0 c).arrAt 2 cfg0.N (ix2 i j) : EReal) = ∑ k : Fin 1024, (argX m c (ix2 i k) : EReal) * argW m c (ix2 k j) := by
  obtain ⟨p, hp⟩ : ∃ p : Fin grid0.N, p.val = i.val / 512 := ⟨⟨i.val / 512, show _ < 32 by omega⟩, rfl⟩
  have hb := congrFun ((Value.blocks2 m c p (flush0_2 p)).trans (Value.flushed2 m c p)) (ix2 (⟨i.val % 512, Nat.mod_lt _ (by decide)⟩ : Fin 512) j)
  obtain ⟨h0, h1⟩ := index2 p
  have he : ((cfg0.win 2).blk p).view.emb (ix2 (⟨i.val % 512, Nat.mod_lt _ (by decide)⟩ : Fin 512) j) = (ix2 i j : S16384x3072.Idx) := by
    funext a
    apply Fin.ext
    match a with
    | ⟨0, _⟩ => show win0_2.index p 0 * 512 + 1 * (i.val % 512) = i.val; omega
    | ⟨1, _⟩ => show win0_2.index p 1 * 3072 + 1 * j.val = j.val; omega
  rw [← he]
  refine hb.trans ?_
  refine (out_apply (iblk m c 0 p) (iblk m c 1 p) ⟨i.val % 512, Nat.mod_lt _ (by decide)⟩ j).trans (Finset.sum_congr rfl fun k _ => ?_)
  rw [iblk0_apply, iblk1_apply]
  have e : (⟨512 * p.val + i.val % 512, by have := lt32 p; omega⟩ : Fin 16384) = i := Fin.ext (by show 512 * p.val + i.val % 512 = i.val; omega)
  exact congrArg (fun q => (argX m c (ix2 q k) : EReal) * argW m c (ix2 k j)) e

theorem algebraic : algebraic_Kernel2Ideal_Reference2Ideal (hKernel2Ideal := Cert.Kernel2Ideal.Gen.facts)
    (hReference2Ideal := Cert.Reference2Ideal.Gen.facts) := by
  intro m ρ m' ρ' _ hagree
  refine ⟨fun c => (dats m 0 c).arrAt 2 cfg0.N, Value.run_blocks m ρ, ?_⟩
  refine (θ_run Cert.Reference2Ideal.defs _ _).mono (fun _ h c => ⟨(h c).1.trans ?_, (h c).2⟩) (Cert.Reference2Ideal.Value.run m' ρ')
  rw [(hagree c).1, (hagree c).2]
  funext y
  have hy : y = (ix2 (y 0 : Fin 16384) (y 1 : Fin 3072)) := by
    funext a
    match a with
    | ⟨0, _⟩ => rfl
    | ⟨1, _⟩ => rfl
  rw [hy]
  exact (ref_apply (argX m c) (argW m c) _ _).trans (result_apply m c _ _).symm

theorem frame_reference : quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩) (Cert.Reference2Ideal.Value.run (F := Ideal) m ρ)

end Cert.Proof.Mm

end
-- ==== Proof.Tb.Spec.lean ====
/-
  The token block by rows: norms, projections, attention over the memory and the residual sums.
-/
module

public import Idealize.ShloMosaic.Lib.Pipeline.ValueKit
public import Idealize.ShloMosaic.Lib.Pointwise

@[expose] public section

noncomputable section

namespace Cert.Proof.Tb

open Idealize Idealize.ShloMosaic

abbrev c512 : EReal := Ideal.ofBits .f32 1140850688#32
abbrev c1024 : EReal := Ideal.ofBits .f32 1149239296#32
abbrev e6 : EReal := Ideal.ofBits .f32 897988541#32
abbrev e5 : EReal := Ideal.ofBits .f32 925353388#32
abbrev alpha : EReal := Ideal.ofBits .f32 1066940400#32
abbrev c16 : EReal := Ideal.ofBits .f32 1031798784#32
abbrev low : EReal := Ideal.ofBits .f32 4286578688#32

/-- A row over its root mean square, scaled. -/
def rms (a g : Fin 512 → EReal) (k : Fin 512) : EReal :=
  a k * Ideal.rsqrt (Ideal.div (∑ j, a j * a j) c512 + e6) * g k

/-- Two normalised rows times the two halves of a matrix. -/
def mix (a b ga gb : Fin 512 → EReal) (wa wb : Fin 512 → Fin 1024 → EReal) (o : Fin 1024) : EReal :=
  ∑ k, rms a ga k * wa k o + ∑ k, rms b gb k * wb k o

/-- The residual sum. -/
def plus (x y : Fin 1024 → EReal) (o : Fin 1024) : EReal := alpha * x o + y o

/-- The mean of a row. -/
def mean (h : Fin 1024 → EReal) : EReal := Ideal.div (∑ j, h j) c1024

/-- A row centred, over its deviation, scaled and shifted. -/
def ln (h g b : Fin 1024 → EReal) (o : Fin 1024) : EReal :=
  (h o - mean h) * Ideal.rsqrt (Ideal.div (∑ j, (h j - mean h) * (h j - mean h)) c1024 + e5) * g o + b o

/-- A row times a matrix. -/
def proj {n : ℕ} (x : Fin 1024 → EReal) (w : Fin 1024 → Fin n → EReal) (o : Fin n) : EReal := ∑ k, x k * w k o

/-- The scores of one head's query against the memory. -/
def scores (q : Fin 256 → EReal) (k : Fin 256 → Fin 256 → EReal) (m : Fin 256) : EReal := (∑ d, q d * k m d) * c16

/-- The same with the scale taken into the query. -/
def scores' (q : Fin 256 → EReal) (k : Fin 256 → Fin 256 → EReal) (m : Fin 256) : EReal :=
  ∑ d, q d * Ideal.ofBits .bf16 15744#16 * k m d

/-- The exponentials of the scores less their greatest. -/
def soft (s : Fin 256 → EReal) (m : Fin 256) : EReal := Ideal.exp (s m - Finset.fold max low s Finset.univ)

/-- One head's weighted values, weights summed to one. -/
def att (s v : Fin 256 → EReal) : EReal := Ideal.div (∑ m, soft s m * v m) (∑ m, soft s m)

/-- The head a column lies in. -/
def headCol (h : Fin 4) (d : Fin 256) : Fin 1024 := ⟨256 * h.val + d.val, by omega⟩

/-- Attention over the memory, all heads side by side. -/
def heads (q : Fin 1024 → EReal) (kk vv : Fin 256 → Fin 1024 → EReal) (o : Fin 1024) : EReal :=
  att (scores (fun d => q (headCol ⟨o.val / 256, by omega⟩ d)) (fun m d => kk m (headCol ⟨o.val / 256, by omega⟩ d))) (fun m => vv m o)

/-- What a token's row needs. -/
structure Row where
  a : Fin 512 → EReal
  b : Fin 512 → EReal
  x : Fin 1024 → EReal
  ga : Fin 512 → EReal
  gb : Fin 512 → EReal
  wa : Fin 512 → Fin 1024 → EReal
  wb : Fin 512 → Fin 1024 → EReal
  g1 : Fin 1024 → EReal
  b1 : Fin 1024 → EReal
  wq : Fin 1024 → Fin 1024 → EReal
  kk : Fin 256 → Fin 1024 → EReal
  vv : Fin 256 → Fin 1024 → EReal
  wo : Fin 1024 → Fin 1024 → EReal
  g2 : Fin 1024 → EReal
  b2 : Fin 1024 → EReal
  wr : Fin 1024 → Fin 32 → EReal
  br : Fin 32 → EReal

def Row.h1 (R : Row) : Fin 1024 → EReal := plus R.x (mix R.a R.b R.ga R.gb R.wa R.wb)
def Row.x1 (R : Row) : Fin 1024 → EReal := ln R.h1 R.g1 R.b1
def Row.q (R : Row) : Fin 1024 → EReal := proj R.x1 R.wq
def Row.o (R : Row) : Fin 1024 → EReal := heads R.q R.kk R.vv
def Row.h2 (R : Row) : Fin 1024 → EReal := plus R.x1 (proj R.o R.wo)
def Row.x2 (R : Row) : Fin 1024 → EReal := ln R.h2 R.g2 R.b2
def Row.lg (R : Row) (j : Fin 32) : EReal := proj R.x2 R.wr j + R.br j

/-- The arguments. -/
structure Args where
  a0 : FVec Ideal (⟨2, ![16384, 512]⟩ : Shape) .bf16
  a1 : FVec Ideal (⟨2, ![16384, 512]⟩ : Shape) .bf16
  a2 : FVec Ideal (⟨2, ![16384, 1024]⟩ : Shape) .f32
  a3 : FVec Ideal (⟨2, ![1, 512]⟩ : Shape) .f32
  a4 : FVec Ideal (⟨2, ![1, 512]⟩ : Shape) .f32
  a5 : FVec Ideal (⟨2, ![1024, 1024]⟩ : Shape) .bf16
  a6 : FVec Ideal (⟨2, ![1, 1024]⟩ : Shape) .f32
  a7 : FVec Ideal (⟨2, ![1, 1024]⟩ : Shape) .f32
  a8 : FVec Ideal (⟨2, ![1024, 1024]⟩ : Shape) .bf16
  a9 : FVec Ideal (⟨3, ![2, 256, 2048]⟩ : Shape) .bf16
  a10 : FVec Ideal (⟨2, ![1024, 1024]⟩ : Shape) .bf16
  a11 : FVec Ideal (⟨2, ![1, 1024]⟩ : Shape) .f32
  a12 : FVec Ideal (⟨2, ![1, 1024]⟩ : Shape) .f32
  a13 : FVec Ideal (⟨2, ![1024, 32]⟩ : Shape) .bf16
  a14 : FVec Ideal (⟨2, ![1, 32]⟩ : Shape) .f32

/-- One token's share of the arguments. -/
def Args.tok (A : Args) (i : Fin 16384) : Row where
  a := fun k => A.a0 (ix2 i k)
  b := fun k => A.a1 (ix2 i k)
  x := fun k => A.a2 (ix2 i k)
  ga := fun k => A.a3 (ix2 0 k)
  gb := fun k => A.a4 (ix2 0 k)
  wa := fun k o => A.a5 (ix2 ⟨k.val, by omega⟩ o)
  wb := fun k o => A.a5 (ix2 ⟨512 + k.val, by omega⟩ o)
  g1 := fun k => A.a6 (ix2 0 k)
  b1 := fun k => A.a7 (ix2 0 k)
  wq := fun k o => A.a8 (ix2 k o)
  kk := fun m k => A.a9 (ix3 ⟨i.val / 8192, by omega⟩ m ⟨k.val, by omega⟩)
  vv := fun m k => A.a9 (ix3 ⟨i.val / 8192, by omega⟩ m ⟨1024 + k.val, by omega⟩)
  wo := fun k o => A.a10 (ix2 k o)
  g2 := fun k => A.a11 (ix2 0 k)
  b2 := fun k => A.a12 (ix2 0 k)
  wr := fun k o => A.a13 (ix2 k o)
  br := fun o => A.a14 (ix2 0 o)

theorem scores'_eq (q : Fin 256 → EReal) (k : Fin 256 → Fin 256 → EReal) : scores' q k = scores q k := by
  have h16 : Ideal.ofBits .bf16 15744#16 = ((1 / 16 : ℝ) : EReal) := by
    simp [Ideal.ofBits, Ideal.ieee]
    rw [← EReal.coe_mul]
    norm_num
  have h32 : c16 = ((1 / 16 : ℝ) : EReal) := by
    simp [c16, Ideal.ofBits, Ideal.ieee]
    rw [← EReal.coe_mul]
    norm_num
  funext m
  unfold scores' scores
  rw [h16, h32]
  induction (Finset.univ : Finset (Fin 256)) using Finset.induction_on with
  | empty => simp
  | insert a s ha ih =>
    rw [Finset.sum_insert ha, Finset.sum_insert ha, ih,
      EReal.right_distrib_of_nonneg_of_ne_top (by exact_mod_cast (by norm_num : (0 : ℝ) ≤ 1 / 16)) (EReal.coe_ne_top _)]
    congr 1
    rw [mul_assoc, mul_assoc, mul_comm (k m a)]

end Cert.Proof.Tb

end
-- ==== Proof.Tb.KI.Pay.lean ====
/-
  What the token block's body computes of the blocks it reads, row by row.
-/
module

public import proofs.«01_k».proof.Proof.Gen.Kernel3Ideal.Skeleton
public import proofs.«01_k».proof.Proof.Tb.Spec
public import Idealize.ShloMosaic.Lib.Pipeline.ValueKit
public import Idealize.ShloMosaic.Lib.Pointwise

@[expose] public section

noncomputable section

namespace Cert.Proof.Tb.KI

open Idealize Idealize.ShloMosaic Cert.Kernel3Ideal Cert.Kernel3Ideal.Gen

/-- A row of a matrix. -/
abbrev row {n k : ℕ} {φ : FTy} (x : FVec Ideal (⟨2, ![n, k]⟩ : Shape) φ) (r : Fin n) : Fin k → EReal := fun j => x (ix2 r j)

/-- A matrix as a function of row and column. -/
abbrev mat {n k : ℕ} {φ : FTy} (x : FVec Ideal (⟨2, ![n, k]⟩ : Shape) φ) : Fin n → Fin k → EReal := fun i j => x (ix2 i j)

set_option maxRecDepth 16384 in
theorem pay4_apply (v0 v18 : FVec Ideal S512x512 .bf16) (v12 v30 : FVec Ideal S1x512 .f32) (v16 v34 : FVec Ideal S512x1024 .bf16)
    (r : Fin 512) (o : Fin 1024) :
    (k0_pay4 (F := Ideal) v0 v12 v16 v18 v30 v34 (ix2 r o) : EReal) = mix (row v0 r) (row v18 r) (row v12 0) (row v30 0) (mat v16) (mat v34) o := by
  pointwise [k0_pay4]
  rfl

set_option maxRecDepth 16384 in
theorem pay5_apply (v36 v37 : FVec Ideal S512x1024 .f32) (v41 v42 : FVec Ideal S1x1024 .f32) (r : Fin 512) (o : Fin 1024) :
    (k0_pay5 (F := Ideal) v36 v37 v41 v42 (ix2 r o) : EReal) = ln (plus (row v37 r) (row v36 r)) (row v41 0) (row v42 0) o := by
  pointwise [k0_pay5]
  rfl

set_option maxRecDepth 16384 in
theorem pay6_apply (v36 v37 : FVec Ideal S512x1024 .f32) (v41 v42 : FVec Ideal S1x1024 .f32) (v64 : FVec Ideal S1024x1024 .bf16)
    (r : Fin 512) (o : Fin 1024) :
    (k0_pay6 (F := Ideal) v36 v37 v41 v42 v64 (ix2 r o) : EReal)
      = proj (fun k => (k0_pay5 (F := Ideal) v36 v37 v41 v42 (ix2 r k) : EReal)) (mat v64) o := by
  generalize h : (fun k => (k0_pay5 (F := Ideal) v36 v37 v41 v42 (ix2 r k) : EReal)) = f
  unfold k0_pay6
  generalize k0_pay5 (F := Ideal) v36 v37 v41 v42 = x at h ⊢
  subst h
  pointwise []
  rfl

/-- The scores of one head as the body takes them. -/
def sc (q : FVec Ideal S512x256 .bf16) (k : FVec Ideal S256x256 .bf16) : FVec Ideal S512x256 .f32 :=
  matmul dot_S512x256_S256x256_S512x256_1_1_0_0_n_n none q k (constant S512x256 .f32 0x00000000#32)

/-- A query scaled. -/
def sq (q : FVec Ideal S512x256 .bf16) : FVec Ideal S512x256 .bf16 :=
  mulf q (broadcast S512x256 (Scalar.ofBits .bf16 0x3D80#16 : Ideal .bf16))

set_option maxRecDepth 16384 in
theorem sc_apply (q : FVec Ideal S512x256 .bf16) (k : FVec Ideal S256x256 .bf16) (r : Fin 512) (o : Fin 256) :
    (sc (sq q) k (ix2 r o) : EReal) = scores' (row q r) (mat k) o := by
  pointwise [sc, sq]
  rfl

set_option maxRecDepth 16384 in
theorem pay9_apply (v73 : FVec Ideal S256x256 .bf16) (v74 : FVec Ideal S512x256 .f32) (r : Fin 512) (o : Fin 256) :
    (k0_pay9 (F := Ideal) v73 v74 (ix2 r o) : EReal) = att (row v74 r) (fun m => v73 (ix2 m o)) := by
  pointwise [k0_pay9]
  rfl

set_option maxRecDepth 16384 in
theorem pay7_apply (v : FVec Ideal S1x256x256 .bf16) (r o : Fin 256) : (k0_pay7 (F := Ideal) v (ix2 r o) : EReal) = v (ix3 0 r o) := by
  pointwise [k0_pay7]

theorem pay12_eq (v : FVec Ideal S1x256x256 .bf16) : k0_pay12 (F := Ideal) v = k0_pay7 (F := Ideal) v := rfl
theorem pay13_eq (v : FVec Ideal S1x256x256 .bf16) : k0_pay13 (F := Ideal) v = k0_pay7 (F := Ideal) v := rfl

theorem pay8_eq (v36 v37 : FVec Ideal S512x1024 .f32) (v41 v42 : FVec Ideal S1x1024 .f32) (v64 : FVec Ideal S1024x1024 .bf16) (v70 : FVec Ideal S1x256x256 .bf16) :
    k0_pay8 (F := Ideal) v36 v37 v41 v42 v64 v70
      = sc (sq (extractStridedSlice S512x256 ![0, 0] (k0_pay6 (F := Ideal) v36 v37 v41 v42 v64) slices_S512x1024_o0_0_S512x256)) (k0_pay7 (F := Ideal) v70) := rfl

theorem pay10_eq (v66 : FVec Ideal S512x1024 .bf16) (v90 v92 : FVec Ideal S1x256x256 .bf16) :
    k0_pay10 (F := Ideal) v66 v90 v92
      = k0_pay9 (F := Ideal) (k0_pay7 (F := Ideal) v92) (sc (sq (extractStridedSlice S512x256 ![0, 256] v66 slices_S512x1024_o0_256_S512x256)) (k0_pay7 (F := Ideal) v90)) := rfl

theorem pay11_eq (v66 : FVec Ideal S512x1024 .bf16) :
    k0_pay11 (F := Ideal) v66 = sq (extractStridedSlice S512x256 ![0, 512] v66 slices_S512x1024_o0_512_S512x256) := rfl

/-- The heads' outputs side by side, projected, and the residual. -/
def outp (v62 : FVec Ideal S512x1024 .f32) (a b c d : FVec Ideal S512x256 .bf16) (v148 : FVec Ideal S1024x1024 .bf16) : FVec Ideal S512x1024 .f32 :=
  addf (mulf (broadcast S512x1024 (Scalar.ofBits .f32 0x3F9837F0#32 : Ideal .f32)) v62)
    (matmul dot_S512x1024_S1024x1024_S512x1024_1_0_0_1_n_n none
      (concatenate S512x1024 1 [⟨S512x256, a⟩, ⟨S512x256, b⟩, ⟨S512x256, c⟩, ⟨S512x256, d⟩] concatenates_S512x256_S512x256_S512x256_S512x256_S512x1024_d1 : FVec Ideal S512x1024 .bf16)
      v148 (constant S512x1024 .f32 0x00000000#32))

theorem pay14_eq (v62 : FVec Ideal S512x1024 .f32) (v66 : FVec Ideal S512x1024 .bf16) (v86 v106 v109 : FVec Ideal S512x256 .bf16)
    (v111 v113 : FVec Ideal S256x256 .bf16) (v130 v132 : FVec Ideal S1x256x256 .bf16) (v148 : FVec Ideal S1024x1024 .bf16) :
    k0_pay14 (F := Ideal) v62 v66 v86 v106 v109 v111 v113 v130 v132 v148
      = outp v62 v86 v106 (k0_pay9 (F := Ideal) v113 (sc v109 v111))
        (k0_pay9 (F := Ideal) (k0_pay7 (F := Ideal) v132) (sc (sq (extractStridedSlice S512x256 ![0, 768] v66 slices_S512x1024_o0_768_S512x256)) (k0_pay7 (F := Ideal) v130)))
        v148 := rfl

set_option maxRecDepth 16384 in
theorem outp_apply (v62 : FVec Ideal S512x1024 .f32) (a b c d : FVec Ideal S512x256 .bf16) (v148 : FVec Ideal S1024x1024 .bf16)
    (g : Fin 512 → Fin 1024 → EReal)
    (ha : ∀ r (o : Fin 256), (a (ix2 r o) : EReal) = g r (headCol 0 o)) (hb : ∀ r (o : Fin 256), (b (ix2 r o) : EReal) = g r (headCol 1 o))
    (hc : ∀ r (o : Fin 256), (c (ix2 r o) : EReal) = g r (headCol 2 o)) (hd : ∀ r (o : Fin 256), (d (ix2 r o) : EReal) = g r (headCol 3 o))
    (r : Fin 512) (o : Fin 1024) :
    (outp v62 a b c d v148 (ix2 r o) : EReal) = plus (row v62 r) (proj (g r) (mat v148)) o := by
  pointwise [outp]
  refine congrArg (fun z => alpha * (v62 (ix2 r o) : EReal) + z) (Finset.sum_congr rfl fun x _ => congrArg (· * (v148 (ix2 x o) : EReal)) ?_)
  split
  · rw [ha]; exact congrArg (g r) (Fin.ext (by simp [headCol]))
  split
  · rw [hb]; exact congrArg (g r) (Fin.ext (by simp [headCol]; omega))
  split
  · rw [hc]; exact congrArg (g r) (Fin.ext (by simp [headCol]; omega))
  · rw [hd]; exact congrArg (g r) (Fin.ext (by simp [headCol]; omega))

set_option maxRecDepth 16384 in
theorem pay15_apply (v152 : FVec Ideal S512x1024 .f32) (v153 v154 : FVec Ideal S1x1024 .f32) (r : Fin 512) (o : Fin 1024) :
    (k0_pay15 (F := Ideal) v152 v153 v154 (ix2 r o) : EReal) = ln (row v152 r) (row v153 0) (row v154 0) o := by
  pointwise [k0_pay15]
  rfl

set_option maxRecDepth 16384 in
theorem slice_apply0 (x : FVec Ideal S512x1024 .bf16) (r : Fin 512) (d : Fin 256) :
    (extractStridedSlice S512x256 ![0, 0] x slices_S512x1024_o0_0_S512x256 (ix2 r d) : EReal) = x (ix2 r (headCol 0 d)) := by
  pointwise [headCol]

set_option maxRecDepth 16384 in
theorem slice_apply1 (x : FVec Ideal S512x1024 .bf16) (r : Fin 512) (d : Fin 256) :
    (extractStridedSlice S512x256 ![0, 256] x slices_S512x1024_o0_256_S512x256 (ix2 r d) : EReal) = x (ix2 r (headCol 1 d)) := by
  pointwise [headCol]

set_option maxRecDepth 16384 in
theorem slice_apply2 (x : FVec Ideal S512x1024 .bf16) (r : Fin 512) (d : Fin 256) :
    (extractStridedSlice S512x256 ![0, 512] x slices_S512x1024_o0_512_S512x256 (ix2 r d) : EReal) = x (ix2 r (headCol 2 d)) := by
  pointwise [headCol]

set_option maxRecDepth 16384 in
theorem slice_apply3 (x : FVec Ideal S512x1024 .bf16) (r : Fin 512) (d : Fin 256) :
    (extractStridedSlice S512x256 ![0, 768] x slices_S512x1024_o0_768_S512x256 (ix2 r d) : EReal) = x (ix2 r (headCol 3 d)) := by
  pointwise [headCol]

end Cert.Proof.Tb.KI

end
-- ==== Proof.Tb.KI.Body.lean ====
/-
  The token block's body as one function of the blocks it reads, and its rows.
-/
module

public import proofs.«01_k».proof.Proof.Tb.KI.Pay

@[expose] public section

noncomputable section

namespace Cert.Proof.Tb.KI

open Idealize Idealize.ShloMosaic Cert.Kernel3Ideal Cert.Kernel3Ideal.Gen

/-- The blocks a grid point reads. -/
structure Blk where
  x0 : FVec Ideal S512x512 .bf16
  x1 : FVec Ideal S512x512 .bf16
  x2 : FVec Ideal S512x1024 .f32
  x3 : FVec Ideal S1x512 .f32
  x4 : FVec Ideal S1x512 .f32
  x5 : FVec Ideal S1024x1024 .bf16
  x6 : FVec Ideal S1x1024 .f32
  x7 : FVec Ideal S1x1024 .f32
  x8 : FVec Ideal S1024x1024 .bf16
  x9 : FVec Ideal S1x256x2048 .bf16
  x10 : FVec Ideal S1024x1024 .bf16
  x11 : FVec Ideal S1x1024 .f32
  x12 : FVec Ideal S1x1024 .f32
  x13 : FVec Ideal S1024x32 .bf16
  x14 : FVec Ideal S1x32 .f32

namespace Blk

variable (X : Blk)

abbrev top : FVec Ideal S512x1024 .bf16 := View.ld (Val := Elt Ideal) (e' := .bf16) X.x5 (Rect.unit ![0, 0] S512x1024.size inb_S1024x1024_S512x1024_0_0)
abbrev bot : FVec Ideal S512x1024 .bf16 := View.ld (Val := Elt Ideal) (e' := .bf16) X.x5 (Rect.unit ![512, 0] S512x1024.size inb_S1024x1024_S512x1024_512_0)
abbrev k0 : FVec Ideal S1x256x256 .bf16 := View.ld (Val := Elt Ideal) (e' := .bf16) X.x9 (Rect.unit ![0, 0, 0] S1x256x256.size inb_S1x256x2048_S1x256x256_0_0_0)
abbrev k1 : FVec Ideal S1x256x256 .bf16 := View.ld (Val := Elt Ideal) (e' := .bf16) X.x9 (Rect.unit ![0, 0, 256] S1x256x256.size inb_S1x256x2048_S1x256x256_0_0_256)
abbrev k2 : FVec Ideal S1x256x256 .bf16 := View.ld (Val := Elt Ideal) (e' := .bf16) X.x9 (Rect.unit ![0, 0, 512] S1x256x256.size inb_S1x256x2048_S1x256x256_0_0_512)
abbrev k3 : FVec Ideal S1x256x256 .bf16 := View.ld (Val := Elt Ideal) (e' := .bf16) X.x9 (Rect.unit ![0, 0, 768] S1x256x256.size inb_S1x256x2048_S1x256x256_0_0_768)
abbrev v0 : FVec Ideal S1x256x256 .bf16 := View.ld (Val := Elt Ideal) (e' := .bf16) X.x9 (Rect.unit ![0, 0, 1024] S1x256x256.size inb_S1x256x2048_S1x256x256_0_0_1024)
abbrev v1 : FVec Ideal S1x256x256 .bf16 := View.ld (Val := Elt Ideal) (e' := .bf16) X.x9 (Rect.unit ![0, 0, 1280] S1x256x256.size inb_S1x256x2048_S1x256x256_0_0_1280)
abbrev v2 : FVec Ideal S1x256x256 .bf16 := View.ld (Val := Elt Ideal) (e' := .bf16) X.x9 (Rect.unit ![0, 0, 1536] S1x256x256.size inb_S1x256x2048_S1x256x256_0_0_1536)
abbrev v3 : FVec Ideal S1x256x256 .bf16 := View.ld (Val := Elt Ideal) (e' := .bf16) X.x9 (Rect.unit ![0, 0, 1792] S1x256x256.size inb_S1x256x2048_S1x256x256_0_0_1792)

def mixed : FVec Ideal S512x1024 .f32 := k0_pay4 (F := Ideal) X.x0 X.x3 X.top X.x1 X.x4 X.bot
def first : FVec Ideal S512x1024 .f32 := k0_pay5 (F := Ideal) X.mixed X.x2 X.x6 X.x7
def query : FVec Ideal S512x1024 .bf16 := k0_pay6 (F := Ideal) X.mixed X.x2 X.x6 X.x7 X.x8
def second : FVec Ideal S512x1024 .f32 :=
  k0_pay14 (F := Ideal) X.first X.query
    (k0_pay9 (F := Ideal) (k0_pay7 (F := Ideal) X.v0) (k0_pay8 (F := Ideal) X.mixed X.x2 X.x6 X.x7 X.x8 X.k0))
    (k0_pay10 (F := Ideal) X.query X.k1 X.v1) (k0_pay11 (F := Ideal) X.query) (k0_pay12 (F := Ideal) X.k2) (k0_pay13 (F := Ideal) X.v2) X.k3 X.v3 X.x10
def out : FVec Ideal S512x1024 .f32 := k0_pay15 (F := Ideal) X.second X.x11 X.x12

/-- One token's share of the blocks. -/
def tok (r : Fin 512) : Row where
  a := row X.x0 r
  b := row X.x1 r
  x := row X.x2 r
  ga := row X.x3 0
  gb := row X.x4 0
  wa := fun k o => X.x5 (ix2 ⟨k.val, by omega⟩ o)
  wb := fun k o => X.x5 (ix2 ⟨512 + k.val, by omega⟩ o)
  g1 := row X.x6 0
  b1 := row X.x7 0
  wq := mat X.x8
  kk := fun m k => X.x9 (ix3 0 m ⟨k.val, by omega⟩)
  vv := fun m k => X.x9 (ix3 0 m ⟨1024 + k.val, by omega⟩)
  wo := mat X.x10
  g2 := row X.x11 0
  b2 := row X.x12 0
  wr := mat X.x13
  br := row X.x14 0

theorem top_apply (k : Fin 512) (o : Fin 1024) : X.top (ix2 k o) = X.x5 (ix2 ⟨k.val, by omega⟩ o) :=
  View.ld_unit_apply_of _ _ _ _ _ _ fun a => match a with
    | ⟨0, _⟩ => (Nat.zero_add _).symm
    | ⟨1, _⟩ => (Nat.zero_add _).symm

theorem bot_apply (k : Fin 512) (o : Fin 1024) : X.bot (ix2 k o) = X.x5 (ix2 ⟨512 + k.val, by omega⟩ o) :=
  View.ld_unit_apply_of _ _ _ _ _ _ fun a => match a with
    | ⟨0, _⟩ => rfl
    | ⟨1, _⟩ => (Nat.zero_add _).symm

theorem mem_apply (n : ℕ) (inb) (m d : Fin 256) (h : n + d.val < 2048) :
    View.ld (Val := Elt Ideal) (e' := .bf16) X.x9 (Rect.unit ![0, 0, n] S1x256x256.size inb) (ix3 0 m d) = X.x9 (ix3 0 m ⟨n + d.val, h⟩) :=
  View.ld_unit_apply_of _ _ _ _ _ _ fun a => match a with
    | ⟨0, _⟩ => rfl
    | ⟨1, _⟩ => (Nat.zero_add _).symm
    | ⟨2, _⟩ => rfl

theorem mixed_apply (r : Fin 512) (o : Fin 1024) :
    (X.mixed (ix2 r o) : EReal) = mix (X.tok r).a (X.tok r).b (X.tok r).ga (X.tok r).gb (X.tok r).wa (X.tok r).wb o := by
  refine (pay4_apply X.x0 X.x1 X.x3 X.x4 X.top X.bot r o).trans ?_
  have ht : mat X.top = (X.tok r).wa := funext fun k => funext fun o => X.top_apply k o
  have hb : mat X.bot = (X.tok r).wb := funext fun k => funext fun o => X.bot_apply k o
  rw [ht, hb]
  rfl

theorem first_apply (r : Fin 512) (o : Fin 1024) : (X.first (ix2 r o) : EReal) = (X.tok r).x1 o := by
  refine (pay5_apply X.mixed X.x2 X.x6 X.x7 r o).trans ?_
  rw [show row X.mixed r = mix (X.tok r).a (X.tok r).b (X.tok r).ga (X.tok r).gb (X.tok r).wa (X.tok r).wb from funext fun k => X.mixed_apply r k]
  rfl

theorem query_apply (r : Fin 512) (o : Fin 1024) : (X.query (ix2 r o) : EReal) = (X.tok r).q o := by
  refine (pay6_apply X.mixed X.x2 X.x6 X.x7 X.x8 r o).trans ?_
  rw [show (fun k => (k0_pay5 (F := Ideal) X.mixed X.x2 X.x6 X.x7 (ix2 r k) : EReal)) = (X.tok r).x1 from funext fun k => X.first_apply r k]
  rfl

/-- One head's attention from its query and its two blocks of the memory. -/
theorem head_apply (h : Fin 4) (q : FVec Ideal S512x256 .bf16) (k v : FVec Ideal S1x256x256 .bf16)
    (hq : ∀ (r : Fin 512) (d : Fin 256), (q (ix2 r d) : EReal) = X.query (ix2 r (headCol h d)))
    (hk : ∀ m d : Fin 256, (k (ix3 0 m d) : EReal) = X.x9 (ix3 0 m ⟨(headCol h d).val, by omega⟩))
    (hv : ∀ m d : Fin 256, (v (ix3 0 m d) : EReal) = X.x9 (ix3 0 m ⟨1024 + (headCol h d).val, by omega⟩)) (r : Fin 512) (o : Fin 256) :
    (k0_pay9 (F := Ideal) (k0_pay7 (F := Ideal) v) (sc (sq q) (k0_pay7 (F := Ideal) k)) (ix2 r o) : EReal) = (X.tok r).o (headCol h o) := by
  refine (pay9_apply _ _ r o).trans ?_
  have hs : row (sc (sq q) (k0_pay7 (F := Ideal) k)) r
      = scores (fun d => (X.tok r).q (headCol h d)) (fun m d => (X.tok r).kk m (headCol h d)) := by
    rw [← scores'_eq]
    funext m
    refine (sc_apply q (k0_pay7 (F := Ideal) k) r m).trans ?_
    congr 1
    · funext d; exact (hq r d).trans (X.query_apply r _)
    · funext m d; exact (pay7_apply k m d).trans (hk m d)
  rw [hs]
  have he : (⟨(headCol h o).val / 256, by omega⟩ : Fin 4) = h := Fin.ext (by show (256 * h.val + o.val) / 256 = h.val; omega)
  show _ = att (scores (fun d => (X.tok r).q (headCol ⟨(headCol h o).val / 256, by omega⟩ d)) (fun m d => (X.tok r).kk m (headCol ⟨(headCol h o).val / 256, by omega⟩ d)))
    (fun m => (X.tok r).vv m (headCol h o))
  rw [he]
  congr 1
  funext m
  exact (pay7_apply v m o).trans (hv m o)

theorem second_apply (r : Fin 512) (o : Fin 1024) : (X.second (ix2 r o) : EReal) = (X.tok r).h2 o := by
  unfold second
  rw [pay14_eq, pay10_eq, pay8_eq, pay11_eq, pay12_eq, pay13_eq]
  refine (outp_apply _ _ _ _ _ _ (fun r => (X.tok r).o) ?_ ?_ ?_ ?_ r o).trans ?_
  · exact X.head_apply 0 _ _ _ (fun r d => slice_apply0 X.query r d)
      (fun m d => (X.mem_apply 0 _ m d (by omega)).trans (congrArg (fun z => X.x9 (ix3 0 m z)) (Fin.ext (by simp [headCol]))))
      (fun m d => (X.mem_apply 1024 _ m d (by omega)).trans (congrArg (fun z => X.x9 (ix3 0 m z)) (Fin.ext (by simp [headCol]))))
  · exact X.head_apply 1 _ _ _ (fun r d => slice_apply1 X.query r d)
      (fun m d => (X.mem_apply 256 _ m d (by omega)).trans (congrArg (fun z => X.x9 (ix3 0 m z)) (Fin.ext (by simp [headCol]))))
      (fun m d => (X.mem_apply 1280 _ m d (by omega)).trans (congrArg (fun z => X.x9 (ix3 0 m z)) (Fin.ext (by simp [headCol]; omega))))
  · exact X.head_apply 2 _ _ _ (fun r d => slice_apply2 X.query r d)
      (fun m d => (X.mem_apply 512 _ m d (by omega)).trans (congrArg (fun z => X.x9 (ix3 0 m z)) (Fin.ext (by simp [headCol]))))
      (fun m d => (X.mem_apply 1536 _ m d (by omega)).trans (congrArg (fun z => X.x9 (ix3 0 m z)) (Fin.ext (by simp [headCol]; omega))))
  · exact X.head_apply 3 _ _ _ (fun r d => slice_apply3 X.query r d)
      (fun m d => (X.mem_apply 768 _ m d (by omega)).trans (congrArg (fun z => X.x9 (ix3 0 m z)) (Fin.ext (by simp [headCol]))))
      (fun m d => (X.mem_apply 1792 _ m d (by omega)).trans (congrArg (fun z => X.x9 (ix3 0 m z)) (Fin.ext (by simp [headCol]; omega))))
  · rw [show row X.first r = (X.tok r).x1 from funext fun k => X.first_apply r k]
    rfl

theorem out_apply (r : Fin 512) (o : Fin 1024) : (X.out (ix2 r o) : EReal) = (X.tok r).x2 o := by
  refine (pay15_apply X.second X.x11 X.x12 r o).trans ?_
  rw [show row X.second r = (X.tok r).h2 from funext fun k => X.second_apply r k]
  rfl

end Blk

end Cert.Proof.Tb.KI

end
-- ==== Proof.Tb.KI.Runs.lean ====
/-
  What the runs of the token block share: the windows' blocks, the staging buffers, the branch condition.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Tb.KI

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1140000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c)))⟩) h

abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 32 = 0)

/-- A piece's rectangle by its numbers. -/
def key (p : View.Piece (Elt F) S4096x128 .f32) : List ℕ × List ℕ × List ℕ := (List.ofFn p.1.off, List.ofFn p.1.size, List.ofFn p.1.stride)

/-- Eight row sets, one for each remainder by eight, cover the block. -/
theorem rows_cover (L : List (View.Piece (Elt F) S4096x128 .f32))
    (h : L.map key = [7, 6, 5, 4, 3, 2, 1, 0].map fun k => ([k, 0], [512, 128], [8, 1])) (y : S4096x128.Idx) :
    ∃ pc ∈ L, y ∈ pc.1.set := by
  have hk : ((y 0).val % 8) ∈ [7, 6, 5, 4, 3, 2, 1, 0] := by
    have : (y 0).val % 8 < 8 := Nat.mod_lt _ (by decide)
    simp only [List.mem_cons, List.not_mem_nil, or_false]
    omega
  have hm := List.mem_map_of_mem (f := fun k => (([k, 0], [512, 128], [8, 1]) : List ℕ × List ℕ × List ℕ)) hk
  rw [← h] at hm
  obtain ⟨pc, hpc, he⟩ := List.mem_map.mp hm
  refine ⟨pc, hpc, pc.1.mem_set.mpr fun a => ?_⟩
  simp only [key, Prod.mk.injEq] at he
  obtain ⟨ho, hs, ht⟩ := he
  have h0 : (y 0).val < 4096 := (y 0).isLt
  have h1 : (y 1).val < 128 := (y 1).isLt
  have eo : pc.1.off = ![(y 0).val % 8, 0] := List.ofFn_inj.mp (ho.trans rfl)
  have es : pc.1.size = ![512, 128] := List.ofFn_inj.mp (hs.trans rfl)
  have et : pc.1.stride = ![8, 1] := List.ofFn_inj.mp (ht.trans rfl)
  rw [eo, es, et]
  match a with
  | ⟨0, _⟩ => exact ⟨(y 0).val / 8, by show _ < 512; omega, by show (y 0).val = (y 0).val % 8 + 8 * _; omega⟩
  | ⟨1, _⟩ => exact ⟨(y 1).val, by show _ < 128; omega, by show (y 1).val = 0 + 1 * _; omega⟩

abbrev VO0_15 : View sig .tc .vmem S4096x128 .f32 := (Memref.whole cc0_stg15_0 : Memref sig .tc .vmem S4096x128 .f32).view
abbrev VO0_16 : View sig .tc .vmem S512x128 .i32 := (Memref.whole cc0_stg16_0 : Memref sig .tc .vmem S512x128 .i32).view
abbrev VO0_17 : View sig .tc .vmem S512x128 .f32 := (Memref.whole cc0_stg17_0 : Memref sig .tc .vmem S512x128 .f32).view
abbrev VO0_18 : View sig .tc .vmem S1x128 .f32 := (Memref.whole cc0_stg18_0 : Memref sig .tc .vmem S1x128 .f32).view
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x32 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x32 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4096x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x128 .i32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128 .f32 := win0_18.stage (cfg0.slots t 18)
abbrev hs0_18 (t : Fin cfg0.N) : (ms0_18 t).IsWhole := hstage0_18 ((cfg0.slots t 18).cast nbuf0_18)

end Cert.Proof.Tb.KI

end
-- ==== Proof.Tb.KI.RunA.lean ====
/-
  The token block's body at the first grid point, where the counts are cleared.
-/
module

public import proofs.«01_k».proof.Proof.Tb.KI.Runs

@[expose] public section

set_option maxRecDepth 16384

noncomputable section

namespace Cert.Proof.Tb.KI

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) :
    Σ' (L15 : List (View.Piece (Elt F) S4096x128 .f32)), Σ' (L16 : List (View.Piece (Elt F) S512x128 .i32)), Σ' (L17 : List (View.Piece (Elt F) S512x128 .f32)), { L18 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18)) -∗ K ⟨⟩))
          ⊢ wp frame (wpE (defs₀ (F := F)) Variants.none c none) E (cc0_token_block i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_token_block_eq_skeleton]; unfold cc0_token_block_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    iexists _; iexact H18

end Cert.Proof.Tb.KI

end
-- ==== Proof.Tb.KI.RunB.lean ====
/-
  The token block's body at the other grid points.
-/
module

public import proofs.«01_k».proof.Proof.Tb.KI.RunA

@[expose] public section

set_option maxRecDepth 16384

noncomputable section

namespace Cert.Proof.Tb.KI

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : ¬cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (xo18 : Vec F S1x128 .f32) :
    Σ' (L15 : List (View.Piece (Elt F) S4096x128 .f32)), Σ' (L16 : List (View.Piece (Elt F) S512x128 .i32)), Σ' (L17 : List (View.Piece (Elt F) S512x128 .f32)), { L18 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xo18
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18)) -∗ K ⟨⟩))
          ⊢ wp frame (wpE (defs₀ (F := F)) Variants.none c none) E (cc0_token_block i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_token_block_eq_skeleton]; unfold cc0_token_block_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%f18, %hf18, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg20.eq_unread hf18
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    iexists _; iexact H18

end Cert.Proof.Tb.KI

end
-- ==== Proof.Tb.KI.Frame.lean ====
/-
  The token block run from launch to end: what each point leaves, the body obligation, the final memory.
-/
module

public import proofs.«01_k».proof.Proof.Tb.KI.RunB
public import Idealize.ShloMosaic.Lib.Claim

@[expose] public section

set_option maxRecDepth 16384

noncomputable section

namespace Cert.Proof.Tb.KI

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_15 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).1, y ∈ pc.1.set :=
  rows_cover _ (by rfl) y

def out0_A_15 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) : Vec F S4096x128 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).1)

theorem cover0_A_16 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (y : S512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.1 S512x128.size (by sl_kernel_rfl) y

def out0_A_16 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) : Vec F S512x128 .i32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.1)

theorem cover0_A_17 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (y : S512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.1 S512x128.size (by sl_kernel_rfl) y

def out0_A_17 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) : Vec F S512x128 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.1)

theorem cover0_A_18 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.2.1 S1x128.size (by sl_kernel_rfl) y

def out0_A_18 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) : Vec F S1x128 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14).2.2.2.1)

theorem cover0_B_15 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : ¬cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (xo18 : Vec F S1x128 .f32) (y : S4096x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18).1, y ∈ pc.1.set :=
  rows_cover _ (by rfl) y

def out0_B_15 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : ¬cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (xo18 : Vec F S1x128 .f32) : Vec F S4096x128 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18).1)

theorem cover0_B_16 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : ¬cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (xo18 : Vec F S1x128 .f32) (y : S512x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18).2.1 S512x128.size (by sl_kernel_rfl) y

def out0_B_16 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : ¬cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (xo18 : Vec F S1x128 .f32) : Vec F S512x128 .i32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18).2.1)

theorem cover0_B_17 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : ¬cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (xo18 : Vec F S1x128 .f32) (y : S512x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18).2.2.1 S512x128.size (by sl_kernel_rfl) y

def out0_B_17 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : ¬cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (xo18 : Vec F S1x128 .f32) : Vec F S512x128 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18).2.2.1)

theorem cover0_B_18 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : ¬cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (xo18 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18).2.2.2.1 S1x128.size (by sl_kernel_rfl) y

def out0_B_18 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : ¬cond0_0 i)
    (x0 : Vec F S512x512 .bf16) (x1 : Vec F S512x512 .bf16) (x2 : Vec F S512x1024 .f32) (x3 : Vec F S1x512 .f32) (x4 : Vec F S1x512 .f32) (x5 : Vec F S1024x1024 .bf16) (x6 : Vec F S1x1024 .f32) (x7 : Vec F S1x1024 .f32) (x8 : Vec F S1024x1024 .bf16) (x9 : Vec F S1x256x2048 .bf16) (x10 : Vec F S1024x1024 .bf16) (x11 : Vec F S1x1024 .f32) (x12 : Vec F S1x1024 .f32) (x13 : Vec F S1024x32 .bf16) (x14 : Vec F S1x32 .f32) (xo18 : Vec F S1x128 .f32) : Vec F S1x128 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18).2.2.2.1)

def outsAt0 (c : Dev nD) : (n : ℕ) → n < cfg0.N → Vec F S4096x128 .f32 × Vec F S512x128 .i32 × Vec F S512x128 .f32 × Vec F S1x128 .f32
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 32 = 0 then
      (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2)

theorem outsAt0_A (c : Dev nD) (t : Fin cfg0.N) (h0 : t.val % 32 = 0) :
    outsAt0 m c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_18_B (c : Dev nD) (t : Fin cfg0.N) (h0 : ¬t.val % 32 = 0) (d) :
    (dats m 0 c).before 18 t d = (outsAt0 m c (t.val - 1) (Nat.lt_of_le_of_lt (Nat.sub_le _ _) t.isLt)).2.2.2 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  have hN : t.val < 32 := lt_of_lt_of_eq t.isLt (show cfg0.N = 32 from N_0)
  by_cases h0 : t.val % 32 = 0
  · rw [outsAt0_A m c t h0]
    unfold out0_A_15 out0_A_16 out0_A_17 out0_A_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_A c (grid0.coords t) _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    iintro ⟨H0, H1, H2, H3, H4, H5, H6, H7, H8, H9, H10, H11, H12, H13, H14, ⟨%e15, H15⟩, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_18_B m c t h0]
    unfold out0_B_15 out0_B_16 out0_B_17 out0_B_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_B c (grid0.coords t) _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexact H18
    iintro ⟨H0, H1, H2, H3, H4, H5, H6, H7, H8, H9, H10, H11, H12, H13, H14, ⟨%e15, H15⟩, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Proof.Tb.KI

end
-- ==== Proof.Tb.KI.Blocks.lean ====
/-
  The token block's final arrays, block by block.
-/
module

public import proofs.«01_k».proof.Proof.Tb.KI.Frame
public import Idealize.ShloMosaic.Lib.Pipeline.Value

@[expose] public section

noncomputable section

namespace Cert.Proof.Tb.KI

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed15 (c : Dev nD) (t : Fin cfg0.N) :
    (dats m 0 c).flushed 15 t = (cfg0.win 15).cut (grid0.coords t) ((outsAt0 m c t.val t.isLt).1) := by
  show (cfg0.win 15).cut (grid0.coords t) ((dats m 0 c).after 15 t) = _
  rw [after0_15]

theorem flushed15_A (c : Dev nD) (t : Fin cfg0.N) (h0 : t.val % 32 = 0) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  simp only [flushed15, outsAt0_A m c t h0]

theorem flushed15_B (c : Dev nD) (t : Fin cfg0.N) (h0 : ¬t.val % 32 = 0) :
    (dats m 0 c).flushed 15 t = (cfg0.win 15).cut (grid0.coords t) (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2) := by
  simp only [flushed15, outsAt0_B m c t h0]

theorem idx_inj15 : ∀ t t' : Fin cfg0.N, win0_15.index t = win0_15.index t' → t = t' :=
  (by decide +kernel : ∀ t t' : Fin grid0.N, win0_15.index t = win0_15.index t' → t = t')

theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

theorem entry15 (c : Dev nD) (i : S131072x128.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

theorem flushed16 (c : Dev nD) (t : Fin cfg0.N) :
    (dats m 0 c).flushed 16 t = (cfg0.win 16).cut (grid0.coords t) ((outsAt0 m c t.val t.isLt).2.1) := by
  show (cfg0.win 16).cut (grid0.coords t) ((dats m 0 c).after 16 t) = _
  rw [after0_16]

theorem flushed16_A (c : Dev nD) (t : Fin cfg0.N) (h0 : t.val % 32 = 0) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  simp only [flushed16, outsAt0_A m c t h0]

theorem flushed16_B (c : Dev nD) (t : Fin cfg0.N) (h0 : ¬t.val % 32 = 0) :
    (dats m 0 c).flushed 16 t = (cfg0.win 16).cut (grid0.coords t) (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2) := by
  simp only [flushed16, outsAt0_B m c t h0]

theorem idx_inj16 : ∀ t t' : Fin cfg0.N, win0_16.index t = win0_16.index t' → t = t' :=
  (by decide +kernel : ∀ t t' : Fin grid0.N, win0_16.index t = win0_16.index t' → t = t')

theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

theorem entry16 (c : Dev nD) (i : S16384x128.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

theorem flushed17 (c : Dev nD) (t : Fin cfg0.N) :
    (dats m 0 c).flushed 17 t = (cfg0.win 17).cut (grid0.coords t) ((outsAt0 m c t.val t.isLt).2.2.1) := by
  show (cfg0.win 17).cut (grid0.coords t) ((dats m 0 c).after 17 t) = _
  rw [after0_17]

theorem flushed17_A (c : Dev nD) (t : Fin cfg0.N) (h0 : t.val % 32 = 0) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  simp only [flushed17, outsAt0_A m c t h0]

theorem flushed17_B (c : Dev nD) (t : Fin cfg0.N) (h0 : ¬t.val % 32 = 0) :
    (dats m 0 c).flushed 17 t = (cfg0.win 17).cut (grid0.coords t) (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2) := by
  simp only [flushed17, outsAt0_B m c t h0]

theorem idx_inj17 : ∀ t t' : Fin cfg0.N, win0_17.index t = win0_17.index t' → t = t' :=
  (by decide +kernel : ∀ t t' : Fin grid0.N, win0_17.index t = win0_17.index t' → t = t')

theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

theorem entry17 (c : Dev nD) (i : S16384x128.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

theorem flushed18 (c : Dev nD) (t : Fin cfg0.N) :
    (dats m 0 c).flushed 18 t = (cfg0.win 18).cut (grid0.coords t) ((outsAt0 m c t.val t.isLt).2.2.2) := by
  show (cfg0.win 18).cut (grid0.coords t) ((dats m 0 c).after 18 t) = _
  rw [after0_18]

theorem flushed18_A (c : Dev nD) (t : Fin cfg0.N) (h0 : t.val % 32 = 0) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  simp only [flushed18, outsAt0_A m c t h0]

theorem flushed18_B (c : Dev nD) (t : Fin cfg0.N) (h0 : ¬t.val % 32 = 0) :
    (dats m 0 c).flushed 18 t = (cfg0.win 18).cut (grid0.coords t) (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2) := by
  simp only [flushed18, outsAt0_B m c t h0]

theorem entry18 (c : Dev nD) (i : S1x128.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

theorem post15 (r : PUnit × MemSt nD τ sig (Elt F)) (h : Pipeline.FramePost cfgs (dats m) 0 (V m) r) (c : Dev nD) :
    r.2.mem ((c : Thread nD τ).loc main_v0_0) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v0_1) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v0_2) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v0_3) = (dats m 0 c).arrAt 18 cfg0.N :=
  (h c).1 18

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

theorem run_blocks : θ_run defs (onTc (τ := τ) (main (F := F))) ⟨m, fun _ => 0, ρ⟩ fun r => ∀ c : Dev nD,
      r.2.mem ((c : Thread nD τ).loc main_v0_0) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post15 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.Proof.Tb.KI

end
-- ==== Proof.Tb.KI.Out.lean ====
/-
  What a grid point leaves of the token block: its rows, column block by column block.
-/
module

public import proofs.«01_k».proof.Proof.Tb.KI.Body
public import proofs.«01_k».proof.Proof.Tb.KI.Blocks

@[expose] public section

noncomputable section

namespace Cert.Proof.Tb.KI

open Idealize Idealize.ShloMosaic Cert.Kernel3Ideal Cert.Kernel3Ideal.Gen

theorem load {S : Shape} {e : EltTy} (m : Memref sig .tc .vmem S e) (h : m.IsWhole) (x : Vec Ideal S e) (r : Rect S) :
    View.readAt (Elt Ideal) m.view r.toLoadRect (h.unread x) = View.ld (Val := Elt Ideal) x r :=
  (View.readAt_eq_ld m.view _ r).trans (by rw [h.read_unread])

theorem ld_S512x512 (x : Vec Ideal S512x512 .bf16) : (View.ld (Val := Elt Ideal) x (Rect.unit (s := S512x512) ![0, 0] ![512, 512] inb_S512x512_S512x512_0_0) : Vec Ideal S512x512 .bf16) = x :=
  View.ld_unit_lit _ _ (by decide)

theorem ld_S512x1024 (x : Vec Ideal S512x1024 .f32) : (View.ld (Val := Elt Ideal) x (Rect.unit (s := S512x1024) ![0, 0] ![512, 1024] inb_S512x1024_S512x1024_0_0) : Vec Ideal S512x1024 .f32) = x :=
  View.ld_unit_lit _ _ (by decide)

theorem ld_S1x512 (x : Vec Ideal S1x512 .f32) : (View.ld (Val := Elt Ideal) x (Rect.unit (s := S1x512) ![0, 0] ![1, 512] inb_S1x512_S1x512_0_0) : Vec Ideal S1x512 .f32) = x :=
  View.ld_unit_lit _ _ (by decide)

theorem ld_S1x1024 (x : Vec Ideal S1x1024 .f32) : (View.ld (Val := Elt Ideal) x (Rect.unit (s := S1x1024) ![0, 0] ![1, 1024] inb_S1x1024_S1x1024_0_0) : Vec Ideal S1x1024 .f32) = x :=
  View.ld_unit_lit _ _ (by decide)

theorem ld_S1024x1024 (x : Vec Ideal S1024x1024 .bf16) : (View.ld (Val := Elt Ideal) x (Rect.unit (s := S1024x1024) ![0, 0] ![1024, 1024] inb_S1024x1024_S1024x1024_0_0) : Vec Ideal S1024x1024 .bf16) = x :=
  View.ld_unit_lit _ _ (by decide)

theorem ld_S1024x32 (x : Vec Ideal S1024x32 .bf16) : (View.ld (Val := Elt Ideal) x (Rect.unit (s := S1024x32) ![0, 0] ![1024, 32] inb_S1024x32_S1024x32_0_0) : Vec Ideal S1024x32 .bf16) = x :=
  View.ld_unit_lit _ _ (by decide)

theorem ld_S1x32 (x : Vec Ideal S1x32 .f32) : (View.ld (Val := Elt Ideal) x (Rect.unit (s := S1x32) ![0, 0] ![1, 32] inb_S1x32_S1x32_0_0) : Vec Ideal S1x32 .f32) = x :=
  View.ld_unit_lit _ _ (by decide)

theorem secondA (c : Dev nD) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole)
    (x0 : Vec Ideal S512x512 .bf16) (x1 : Vec Ideal S512x512 .bf16) (x2 : Vec Ideal S512x1024 .f32) (x3 : Vec Ideal S1x512 .f32) (x4 : Vec Ideal S1x512 .f32) (x5 : Vec Ideal S1024x1024 .bf16) (x6 : Vec Ideal S1x1024 .f32) (x7 : Vec Ideal S1x1024 .f32) (x8 : Vec Ideal S1024x1024 .bf16) (x9 : Vec Ideal S1x256x2048 .bf16) (x10 : Vec Ideal S1024x1024 .bf16) (x11 : Vec Ideal S1x1024 .f32) (x12 : Vec Ideal S1x1024 .f32) (x13 : Vec Ideal S1024x32 .bf16) (x14 : Vec Ideal S1x32 .f32) :
    kernelRun0_A.sl.r_10 (F := Ideal) c arg2 harg2 arg3 harg3 arg4 harg4 arg5 harg5 arg6 harg6 arg7 harg7 arg8 harg8 arg9 harg9 arg10 harg10 arg11 harg11 arg12 harg12 x0 x1 x2 x3 x4 x5 x6 x7 x8 x9 x10 = Blk.second (⟨x0, x1, x2, x3, x4, x5, x6, x7, x8, x9, x10, x11, x12, x13, x14⟩ : Blk) := by
  unfold kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp only [load, ld_S512x512, ld_S512x1024, ld_S1x512, ld_S1x1024, ld_S1024x1024, ld_S1024x32, ld_S1x32]
  rfl

theorem outA (c : Dev nD) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole)
    (x0 : Vec Ideal S512x512 .bf16) (x1 : Vec Ideal S512x512 .bf16) (x2 : Vec Ideal S512x1024 .f32) (x3 : Vec Ideal S1x512 .f32) (x4 : Vec Ideal S1x512 .f32) (x5 : Vec Ideal S1024x1024 .bf16) (x6 : Vec Ideal S1x1024 .f32) (x7 : Vec Ideal S1x1024 .f32) (x8 : Vec Ideal S1024x1024 .bf16) (x9 : Vec Ideal S1x256x2048 .bf16) (x10 : Vec Ideal S1024x1024 .bf16) (x11 : Vec Ideal S1x1024 .f32) (x12 : Vec Ideal S1x1024 .f32) (x13 : Vec Ideal S1024x32 .bf16) (x14 : Vec Ideal S1x32 .f32) :
    kernelRun0_A.sl.r_11 (F := Ideal) c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 = Blk.out (⟨x0, x1, x2, x3, x4, x5, x6, x7, x8, x9, x10, x11, x12, x13, x14⟩ : Blk) := by
  unfold kernelRun0_A.sl.r_11
  rw [secondA c arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  simp only [load, ld_S512x512, ld_S512x1024, ld_S1x512, ld_S1x1024, ld_S1024x1024, ld_S1024x32, ld_S1x32]
  rfl

theorem secondB (c : Dev nD) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole)
    (x0 : Vec Ideal S512x512 .bf16) (x1 : Vec Ideal S512x512 .bf16) (x2 : Vec Ideal S512x1024 .f32) (x3 : Vec Ideal S1x512 .f32) (x4 : Vec Ideal S1x512 .f32) (x5 : Vec Ideal S1024x1024 .bf16) (x6 : Vec Ideal S1x1024 .f32) (x7 : Vec Ideal S1x1024 .f32) (x8 : Vec Ideal S1024x1024 .bf16) (x9 : Vec Ideal S1x256x2048 .bf16) (x10 : Vec Ideal S1024x1024 .bf16) (x11 : Vec Ideal S1x1024 .f32) (x12 : Vec Ideal S1x1024 .f32) (x13 : Vec Ideal S1024x32 .bf16) (x14 : Vec Ideal S1x32 .f32) :
    kernelRun0_B.sl.r_10 (F := Ideal) c arg2 harg2 arg3 harg3 arg4 harg4 arg5 harg5 arg6 harg6 arg7 harg7 arg8 harg8 arg9 harg9 arg10 harg10 arg11 harg11 arg12 harg12 x0 x1 x2 x3 x4 x5 x6 x7 x8 x9 x10 = Blk.second (⟨x0, x1, x2, x3, x4, x5, x6, x7, x8, x9, x10, x11, x12, x13, x14⟩ : Blk) := by
  unfold kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r
  simp only [load, ld_S512x512, ld_S512x1024, ld_S1x512, ld_S1x1024, ld_S1024x1024, ld_S1024x32, ld_S1x32]
  rfl

theorem outB (c : Dev nD) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole)
    (x0 : Vec Ideal S512x512 .bf16) (x1 : Vec Ideal S512x512 .bf16) (x2 : Vec Ideal S512x1024 .f32) (x3 : Vec Ideal S1x512 .f32) (x4 : Vec Ideal S1x512 .f32) (x5 : Vec Ideal S1024x1024 .bf16) (x6 : Vec Ideal S1x1024 .f32) (x7 : Vec Ideal S1x1024 .f32) (x8 : Vec Ideal S1024x1024 .bf16) (x9 : Vec Ideal S1x256x2048 .bf16) (x10 : Vec Ideal S1024x1024 .bf16) (x11 : Vec Ideal S1x1024 .f32) (x12 : Vec Ideal S1x1024 .f32) (x13 : Vec Ideal S1024x32 .bf16) (x14 : Vec Ideal S1x32 .f32) :
    kernelRun0_B.sl.r_11 (F := Ideal) c arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 = Blk.out (⟨x0, x1, x2, x3, x4, x5, x6, x7, x8, x9, x10, x11, x12, x13, x14⟩ : Blk) := by
  unfold kernelRun0_B.sl.r_11
  rw [secondB c arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  simp only [load, ld_S512x512, ld_S512x1024, ld_S1x512, ld_S1x1024, ld_S1024x1024, ld_S1024x32, ld_S1x32]
  rfl

/-- The block a grid point leaves of the first result: token `r`'s columns lie in eight rows of 128. -/
def left15 (X : Blk) (y : S4096x128.Idx) : EReal :=
  X.out (ix2 ⟨(y 0).val / 8, by have : (y 0).val < 4096 := (y 0).isLt; omega⟩ ⟨128 * ((y 0).val % 8) + (y 1).val, by have : (y 1).val < 128 := (y 1).isLt; omega⟩)

theorem piece0 (X : Blk) (inb) (pos) (x : S512x128.Idx) :
    (extractStridedSlice S512x128 ![0, 0] X.out slices_S512x1024_o0_0_S512x128 x : EReal)
      = left15 X ((⟨⟨![0, 0], S512x128.size, ![8, 1], inb⟩, pos⟩ : Rect S4096x128).emb x) := by
  have h0 : (x 0).val < 512 := (x 0).isLt
  have h1 : (x 1).val < 128 := (x 1).isLt
  refine congrArg X.out (funext fun a => Fin.ext ?_)
  match a with
  | ⟨0, _⟩ => show 0 + (x 0).val = (0 + 8 * (x 0).val) / 8; omega
  | ⟨1, _⟩ => show 0 + (x 1).val = 128 * ((0 + 8 * (x 0).val) % 8) + (0 + 1 * (x 1).val); omega

theorem piece1 (X : Blk) (inb) (pos) (x : S512x128.Idx) :
    (extractStridedSlice S512x128 ![0, 128] X.out slices_S512x1024_o0_128_S512x128 x : EReal)
      = left15 X ((⟨⟨![1, 0], S512x128.size, ![8, 1], inb⟩, pos⟩ : Rect S4096x128).emb x) := by
  have h0 : (x 0).val < 512 := (x 0).isLt
  have h1 : (x 1).val < 128 := (x 1).isLt
  refine congrArg X.out (funext fun a => Fin.ext ?_)
  match a with
  | ⟨0, _⟩ => show 0 + (x 0).val = (1 + 8 * (x 0).val) / 8; omega
  | ⟨1, _⟩ => show 128 + (x 1).val = 128 * ((1 + 8 * (x 0).val) % 8) + (0 + 1 * (x 1).val); omega

theorem piece2 (X : Blk) (inb) (pos) (x : S512x128.Idx) :
    (extractStridedSlice S512x128 ![0, 256] X.out slices_S512x1024_o0_256_S512x128 x : EReal)
      = left15 X ((⟨⟨![2, 0], S512x128.size, ![8, 1], inb⟩, pos⟩ : Rect S4096x128).emb x) := by
  have h0 : (x 0).val < 512 := (x 0).isLt
  have h1 : (x 1).val < 128 := (x 1).isLt
  refine congrArg X.out (funext fun a => Fin.ext ?_)
  match a with
  | ⟨0, _⟩ => show 0 + (x 0).val = (2 + 8 * (x 0).val) / 8; omega
  | ⟨1, _⟩ => show 256 + (x 1).val = 128 * ((2 + 8 * (x 0).val) % 8) + (0 + 1 * (x 1).val); omega

theorem piece3 (X : Blk) (inb) (pos) (x : S512x128.Idx) :
    (extractStridedSlice S512x128 ![0, 384] X.out slices_S512x1024_o0_384_S512x128 x : EReal)
      = left15 X ((⟨⟨![3, 0], S512x128.size, ![8, 1], inb⟩, pos⟩ : Rect S4096x128).emb x) := by
  have h0 : (x 0).val < 512 := (x 0).isLt
  have h1 : (x 1).val < 128 := (x 1).isLt
  refine congrArg X.out (funext fun a => Fin.ext ?_)
  match a with
  | ⟨0, _⟩ => show 0 + (x 0).val = (3 + 8 * (x 0).val) / 8; omega
  | ⟨1, _⟩ => show 384 + (x 1).val = 128 * ((3 + 8 * (x 0).val) % 8) + (0 + 1 * (x 1).val); omega

theorem piece4 (X : Blk) (inb) (pos) (x : S512x128.Idx) :
    (extractStridedSlice S512x128 ![0, 512] X.out slices_S512x1024_o0_512_S512x128 x : EReal)
      = left15 X ((⟨⟨![4, 0], S512x128.size, ![8, 1], inb⟩, pos⟩ : Rect S4096x128).emb x) := by
  have h0 : (x 0).val < 512 := (x 0).isLt
  have h1 : (x 1).val < 128 := (x 1).isLt
  refine congrArg X.out (funext fun a => Fin.ext ?_)
  match a with
  | ⟨0, _⟩ => show 0 + (x 0).val = (4 + 8 * (x 0).val) / 8; omega
  | ⟨1, _⟩ => show 512 + (x 1).val = 128 * ((4 + 8 * (x 0).val) % 8) + (0 + 1 * (x 1).val); omega

theorem piece5 (X : Blk) (inb) (pos) (x : S512x128.Idx) :
    (extractStridedSlice S512x128 ![0, 640] X.out slices_S512x1024_o0_640_S512x128 x : EReal)
      = left15 X ((⟨⟨![5, 0], S512x128.size, ![8, 1], inb⟩, pos⟩ : Rect S4096x128).emb x) := by
  have h0 : (x 0).val < 512 := (x 0).isLt
  have h1 : (x 1).val < 128 := (x 1).isLt
  refine congrArg X.out (funext fun a => Fin.ext ?_)
  match a with
  | ⟨0, _⟩ => show 0 + (x 0).val = (5 + 8 * (x 0).val) / 8; omega
  | ⟨1, _⟩ => show 640 + (x 1).val = 128 * ((5 + 8 * (x 0).val) % 8) + (0 + 1 * (x 1).val); omega

theorem piece6 (X : Blk) (inb) (pos) (x : S512x128.Idx) :
    (extractStridedSlice S512x128 ![0, 768] X.out slices_S512x1024_o0_768_S512x128 x : EReal)
      = left15 X ((⟨⟨![6, 0], S512x128.size, ![8, 1], inb⟩, pos⟩ : Rect S4096x128).emb x) := by
  have h0 : (x 0).val < 512 := (x 0).isLt
  have h1 : (x 1).val < 128 := (x 1).isLt
  refine congrArg X.out (funext fun a => Fin.ext ?_)
  match a with
  | ⟨0, _⟩ => show 0 + (x 0).val = (6 + 8 * (x 0).val) / 8; omega
  | ⟨1, _⟩ => show 768 + (x 1).val = 128 * ((6 + 8 * (x 0).val) % 8) + (0 + 1 * (x 1).val); omega

theorem piece7 (X : Blk) (inb) (pos) (x : S512x128.Idx) :
    (extractStridedSlice S512x128 ![0, 896] X.out slices_S512x1024_o0_896_S512x128 x : EReal)
      = left15 X ((⟨⟨![7, 0], S512x128.size, ![8, 1], inb⟩, pos⟩ : Rect S4096x128).emb x) := by
  have h0 : (x 0).val < 512 := (x 0).isLt
  have h1 : (x 1).val < 128 := (x 1).isLt
  refine congrArg X.out (funext fun a => Fin.ext ?_)
  match a with
  | ⟨0, _⟩ => show 0 + (x 0).val = (7 + 8 * (x 0).val) / 8; omega
  | ⟨1, _⟩ => show 896 + (x 1).val = 128 * ((7 + 8 * (x 0).val) % 8) + (0 + 1 * (x 1).val); omega

theorem readA15 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : cond0_0 i)
    (x0 : Vec Ideal S512x512 .bf16) (x1 : Vec Ideal S512x512 .bf16) (x2 : Vec Ideal S512x1024 .f32) (x3 : Vec Ideal S1x512 .f32) (x4 : Vec Ideal S1x512 .f32) (x5 : Vec Ideal S1024x1024 .bf16) (x6 : Vec Ideal S1x1024 .f32) (x7 : Vec Ideal S1x1024 .f32) (x8 : Vec Ideal S1024x1024 .bf16) (x9 : Vec Ideal S1x256x2048 .bf16) (x10 : Vec Ideal S1024x1024 .bf16) (x11 : Vec Ideal S1x1024 .f32) (x12 : Vec Ideal S1x1024 .f32) (x13 : Vec Ideal S1024x32 .bf16) (x14 : Vec Ideal S1x32 .f32) (y : S4096x128.Idx) :
    (out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 y : EReal) = left15 (⟨x0, x1, x2, x3, x4, x5, x6, x7, x8, x9, x10, x11, x12, x13, x14⟩ : Blk) y := by
  refine View.read_writes_apply_of_pieces _ _ (left15 (⟨x0, x1, x2, x3, x4, x5, x6, x7, x8, x9, x10, x11, x12, x13, x14⟩ : Blk)) _ ?_ y (cover0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 y)
  unfold kernelRun0_A
  dsimp only
  unfold kernelRun0_A.sl.r_12
  rw [secondA c arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, outA c arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  refine List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, fun _ h => absurd h List.not_mem_nil⟩⟩⟩⟩⟩⟩⟩⟩
  all_goals (try simp only [load, ld_S512x512, ld_S512x1024, ld_S1x512, ld_S1x1024, ld_S1024x1024, ld_S1024x32, ld_S1x32])
  · exact piece7 (⟨x0, x1, x2, x3, x4, x5, x6, x7, x8, x9, x10, x11, x12, x13, x14⟩ : Blk) _ _ x
  · exact piece6 (⟨x0, x1, x2, x3, x4, x5, x6, x7, x8, x9, x10, x11, x12, x13, x14⟩ : Blk) _ _ x
  · exact piece5 (⟨x0, x1, x2, x3, x4, x5, x6, x7, x8, x9, x10, x11, x12, x13, x14⟩ : Blk) _ _ x
  · exact piece4 (⟨x0, x1, x2, x3, x4, x5, x6, x7, x8, x9, x10, x11, x12, x13, x14⟩ : Blk) _ _ x
  · exact piece3 (⟨x0, x1, x2, x3, x4, x5, x6, x7, x8, x9, x10, x11, x12, x13, x14⟩ : Blk) _ _ x
  · exact piece2 (⟨x0, x1, x2, x3, x4, x5, x6, x7, x8, x9, x10, x11, x12, x13, x14⟩ : Blk) _ _ x
  · exact piece1 (⟨x0, x1, x2, x3, x4, x5, x6, x7, x8, x9, x10, x11, x12, x13, x14⟩ : Blk) _ _ x
  · exact piece0 (⟨x0, x1, x2, x3, x4, x5, x6, x7, x8, x9, x10, x11, x12, x13, x14⟩ : Blk) _ _ x

theorem readB15 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x256x2048 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1x32 .f32) (harg16 : arg16.IsWhole) (arg17 : Memref sig .tc .vmem S4096x128 .f32) (harg17 : arg17.IsWhole) (arg18 : Memref sig .tc .vmem S512x128 .i32) (harg18 : arg18.IsWhole) (arg19 : Memref sig .tc .vmem S512x128 .f32) (harg19 : arg19.IsWhole) (arg20 : Memref sig .tc .vmem S1x128 .f32) (harg20 : arg20.IsWhole) (hc0 : ¬cond0_0 i)
    (x0 : Vec Ideal S512x512 .bf16) (x1 : Vec Ideal S512x512 .bf16) (x2 : Vec Ideal S512x1024 .f32) (x3 : Vec Ideal S1x512 .f32) (x4 : Vec Ideal S1x512 .f32) (x5 : Vec Ideal S1024x1024 .bf16) (x6 : Vec Ideal S1x1024 .f32) (x7 : Vec Ideal S1x1024 .f32) (x8 : Vec Ideal S1024x1024 .bf16) (x9 : Vec Ideal S1x256x2048 .bf16) (x10 : Vec Ideal S1024x1024 .bf16) (x11 : Vec Ideal S1x1024 .f32) (x12 : Vec Ideal S1x1024 .f32) (x13 : Vec Ideal S1024x32 .bf16) (x14 : Vec Ideal S1x32 .f32) (xo18 : Vec Ideal S1x128 .f32) (y : S4096x128.Idx) :
    (out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18 y : EReal) = left15 (⟨x0, x1, x2, x3, x4, x5, x6, x7, x8, x9, x10, x11, x12, x13, x14⟩ : Blk) y := by
  refine View.read_writes_apply_of_pieces _ _ (left15 (⟨x0, x1, x2, x3, x4, x5, x6, x7, x8, x9, x10, x11, x12, x13, x14⟩ : Blk)) _ ?_ y (cover0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18 y)
  unfold kernelRun0_B
  dsimp only
  unfold kernelRun0_B.sl.r_12
  rw [secondB c arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14, outB c arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14]
  refine List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_, fun _ h => absurd h List.not_mem_nil⟩⟩⟩⟩⟩⟩⟩⟩
  all_goals (try simp only [load, ld_S512x512, ld_S512x1024, ld_S1x512, ld_S1x1024, ld_S1024x1024, ld_S1024x32, ld_S1x32])
  · exact piece7 (⟨x0, x1, x2, x3, x4, x5, x6, x7, x8, x9, x10, x11, x12, x13, x14⟩ : Blk) _ _ x
  · exact piece6 (⟨x0, x1, x2, x3, x4, x5, x6, x7, x8, x9, x10, x11, x12, x13, x14⟩ : Blk) _ _ x
  · exact piece5 (⟨x0, x1, x2, x3, x4, x5, x6, x7, x8, x9, x10, x11, x12, x13, x14⟩ : Blk) _ _ x
  · exact piece4 (⟨x0, x1, x2, x3, x4, x5, x6, x7, x8, x9, x10, x11, x12, x13, x14⟩ : Blk) _ _ x
  · exact piece3 (⟨x0, x1, x2, x3, x4, x5, x6, x7, x8, x9, x10, x11, x12, x13, x14⟩ : Blk) _ _ x
  · exact piece2 (⟨x0, x1, x2, x3, x4, x5, x6, x7, x8, x9, x10, x11, x12, x13, x14⟩ : Blk) _ _ x
  · exact piece1 (⟨x0, x1, x2, x3, x4, x5, x6, x7, x8, x9, x10, x11, x12, x13, x14⟩ : Blk) _ _ x
  · exact piece0 (⟨x0, x1, x2, x3, x4, x5, x6, x7, x8, x9, x10, x11, x12, x13, x14⟩ : Blk) _ _ x

end Cert.Proof.Tb.KI

end
-- ==== Proof.Tb.KI.Value.lean ====
/-
  The token block's first result by index: each token's row of the specification.
-/
module

public import proofs.«01_k».proof.Proof.Tb.KI.Out

@[expose] public section

noncomputable section

namespace Cert.Proof.Tb.KI

open Idealize Idealize.ShloMosaic Idealize.ShloMosaic.TcCoe Idealize.SL.Sem Cert.Kernel3Ideal Cert.Kernel3Ideal.Gen

variable (m : (ℓ : Loc nD τ sig) → Buf (Elt Ideal) ℓ)

/-- The arguments on a device. -/
def args (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14)⟩

theorem lt32 (t : Fin grid0.N) : t.val < 32 := t.isLt

theorem index0 : ∀ t : Fin grid0.N, win0_0.index t 0 = t.val ∧ win0_0.index t 1 = 0 := by decide +kernel

theorem iblk0_apply (c : Dev nD) (t : Fin grid0.N) (r : Fin 512) (k : Fin 512) :
    iblk m c 0 t (ix2 r k) = (args m c).a0 (ix2 ⟨512 * t.val + r.val, by have := lt32 t; omega⟩ k) := by
  obtain ⟨h0, h1⟩ := index0 t
  show (args m c).a0 ((cfg0.win 0).blk t |>.view.emb (ix2 r k)) = _
  congr 1
  funext a
  apply Fin.ext
  match a with
  | ⟨0, _⟩ => show win0_0.index t 0 * 512 + 1 * r.val = 512 * t.val + r.val; omega
  | ⟨1, _⟩ => show win0_0.index t 1 * 512 + 1 * k.val = k.val; omega

theorem index1 : ∀ t : Fin grid0.N, win0_1.index t 0 = t.val ∧ win0_1.index t 1 = 0 := by decide +kernel

theorem iblk1_apply (c : Dev nD) (t : Fin grid0.N) (r : Fin 512) (k : Fin 512) :
    iblk m c 1 t (ix2 r k) = (args m c).a1 (ix2 ⟨512 * t.val + r.val, by have := lt32 t; omega⟩ k) := by
  obtain ⟨h0, h1⟩ := index1 t
  show (args m c).a1 ((cfg0.win 1).blk t |>.view.emb (ix2 r k)) = _
  congr 1
  funext a
  apply Fin.ext
  match a with
  | ⟨0, _⟩ => show win0_1.index t 0 * 512 + 1 * r.val = 512 * t.val + r.val; omega
  | ⟨1, _⟩ => show win0_1.index t 1 * 512 + 1 * k.val = k.val; omega

theorem index2 : ∀ t : Fin grid0.N, win0_2.index t 0 = t.val ∧ win0_2.index t 1 = 0 := by decide +kernel

theorem iblk2_apply (c : Dev nD) (t : Fin grid0.N) (r : Fin 512) (k : Fin 1024) :
    iblk m c 2 t (ix2 r k) = (args m c).a2 (ix2 ⟨512 * t.val + r.val, by have := lt32 t; omega⟩ k) := by
  obtain ⟨h0, h1⟩ := index2 t
  show (args m c).a2 ((cfg0.win 2).blk t |>.view.emb (ix2 r k)) = _
  congr 1
  funext a
  apply Fin.ext
  match a with
  | ⟨0, _⟩ => show win0_2.index t 0 * 512 + 1 * r.val = 512 * t.val + r.val; omega
  | ⟨1, _⟩ => show win0_2.index t 1 * 1024 + 1 * k.val = k.val; omega

theorem index3 : ∀ t : Fin grid0.N, win0_3.index t 0 = 0 ∧ win0_3.index t 1 = 0 := by decide +kernel

theorem iblk3_apply (c : Dev nD) (t : Fin grid0.N) (r : Fin 1) (k : Fin 512) :
    iblk m c 3 t (ix2 r k) = (args m c).a3 (ix2 r k) := by
  obtain ⟨h0, h1⟩ := index3 t
  show (args m c).a3 ((cfg0.win 3).blk t |>.view.emb (ix2 r k)) = _
  congr 1
  funext a
  apply Fin.ext
  match a with
  | ⟨0, _⟩ => show win0_3.index t 0 * 1 + 1 * r.val = r.val; omega
  | ⟨1, _⟩ => show win0_3.index t 1 * 512 + 1 * k.val = k.val; omega

theorem index4 : ∀ t : Fin grid0.N, win0_4.index t 0 = 0 ∧ win0_4.index t 1 = 0 := by decide +kernel

theorem iblk4_apply (c : Dev nD) (t : Fin grid0.N) (r : Fin 1) (k : Fin 512) :
    iblk m c 4 t (ix2 r k) = (args m c).a4 (ix2 r k) := by
  obtain ⟨h0, h1⟩ := index4 t
  show (args m c).a4 ((cfg0.win 4).blk t |>.view.emb (ix2 r k)) = _
  congr 1
  funext a
  apply Fin.ext
  match a with
  | ⟨0, _⟩ => show win0_4.index t 0 * 1 + 1 * r.val = r.val; omega
  | ⟨1, _⟩ => show win0_4.index t 1 * 512 + 1 * k.val = k.val; omega

theorem index5 : ∀ t : Fin grid0.N, win0_5.index t 0 = 0 ∧ win0_5.index t 1 = 0 := by decide +kernel

theorem iblk5_apply (c : Dev nD) (t : Fin grid0.N) (r : Fin 1024) (k : Fin 1024) :
    iblk m c 5 t (ix2 r k) = (args m c).a5 (ix2 r k) := by
  obtain ⟨h0, h1⟩ := index5 t
  show (args m c).a5 ((cfg0.win 5).blk t |>.view.emb (ix2 r k)) = _
  congr 1
  funext a
  apply Fin.ext
  match a with
  | ⟨0, _⟩ => show win0_5.index t 0 * 1024 + 1 * r.val = r.val; omega
  | ⟨1, _⟩ => show win0_5.index t 1 * 1024 + 1 * k.val = k.val; omega

theorem index6 : ∀ t : Fin grid0.N, win0_6.index t 0 = 0 ∧ win0_6.index t 1 = 0 := by decide +kernel

theorem iblk6_apply (c : Dev nD) (t : Fin grid0.N) (r : Fin 1) (k : Fin 1024) :
    iblk m c 6 t (ix2 r k) = (args m c).a6 (ix2 r k) := by
  obtain ⟨h0, h1⟩ := index6 t
  show (args m c).a6 ((cfg0.win 6).blk t |>.view.emb (ix2 r k)) = _
  congr 1
  funext a
  apply Fin.ext
  match a with
  | ⟨0, _⟩ => show win0_6.index t 0 * 1 + 1 * r.val = r.val; omega
  | ⟨1, _⟩ => show win0_6.index t 1 * 1024 + 1 * k.val = k.val; omega

theorem index7 : ∀ t : Fin grid0.N, win0_7.index t 0 = 0 ∧ win0_7.index t 1 = 0 := by decide +kernel

theorem iblk7_apply (c : Dev nD) (t : Fin grid0.N) (r : Fin 1) (k : Fin 1024) :
    iblk m c 7 t (ix2 r k) = (args m c).a7 (ix2 r k) := by
  obtain ⟨h0, h1⟩ := index7 t
  show (args m c).a7 ((cfg0.win 7).blk t |>.view.emb (ix2 r k)) = _
  congr 1
  funext a
  apply Fin.ext
  match a with
  | ⟨0, _⟩ => show win0_7.index t 0 * 1 + 1 * r.val = r.val; omega
  | ⟨1, _⟩ => show win0_7.index t 1 * 1024 + 1 * k.val = k.val; omega

theorem index8 : ∀ t : Fin grid0.N, win0_8.index t 0 = 0 ∧ win0_8.index t 1 = 0 := by decide +kernel

theorem iblk8_apply (c : Dev nD) (t : Fin grid0.N) (r : Fin 1024) (k : Fin 1024) :
    iblk m c 8 t (ix2 r k) = (args m c).a8 (ix2 r k) := by
  obtain ⟨h0, h1⟩ := index8 t
  show (args m c).a8 ((cfg0.win 8).blk t |>.view.emb (ix2 r k)) = _
  congr 1
  funext a
  apply Fin.ext
  match a with
  | ⟨0, _⟩ => show win0_8.index t 0 * 1024 + 1 * r.val = r.val; omega
  | ⟨1, _⟩ => show win0_8.index t 1 * 1024 + 1 * k.val = k.val; omega

theorem index9 : ∀ t : Fin grid0.N, win0_9.index t 0 = t.val / 16 ∧ win0_9.index t 1 = 0 ∧ win0_9.index t 2 = 0 := by decide +kernel

theorem iblk9_apply (c : Dev nD) (t : Fin grid0.N) (r : Fin 256) (k : Fin 2048) :
    iblk m c 9 t (ix3 0 r k) = (args m c).a9 (ix3 ⟨t.val / 16, by have := lt32 t; omega⟩ r k) := by
  obtain ⟨h0, h1, h2⟩ := index9 t
  show (args m c).a9 ((cfg0.win 9).blk t |>.view.emb (ix3 0 r k)) = _
  congr 1
  funext a
  apply Fin.ext
  match a with
  | ⟨0, _⟩ => show win0_9.index t 0 * 1 + 1 * 0 = t.val / 16; omega
  | ⟨1, _⟩ => show win0_9.index t 1 * 256 + 1 * r.val = r.val; omega
  | ⟨2, _⟩ => show win0_9.index t 2 * 2048 + 1 * k.val = k.val; omega

theorem index10 : ∀ t : Fin grid0.N, win0_10.index t 0 = 0 ∧ win0_10.index t 1 = 0 := by decide +kernel

theorem iblk10_apply (c : Dev nD) (t : Fin grid0.N) (r : Fin 1024) (k : Fin 1024) :
    iblk m c 10 t (ix2 r k) = (args m c).a10 (ix2 r k) := by
  obtain ⟨h0, h1⟩ := index10 t
  show (args m c).a10 ((cfg0.win 10).blk t |>.view.emb (ix2 r k)) = _
  congr 1
  funext a
  apply Fin.ext
  match a with
  | ⟨0, _⟩ => show win0_10.index t 0 * 1024 + 1 * r.val = r.val; omega
  | ⟨1, _⟩ => show win0_10.index t 1 * 1024 + 1 * k.val = k.val; omega

theorem index11 : ∀ t : Fin grid0.N, win0_11.index t 0 = 0 ∧ win0_11.index t 1 = 0 := by decide +kernel

theorem iblk11_apply (c : Dev nD) (t : Fin grid0.N) (r : Fin 1) (k : Fin 1024) :
    iblk m c 11 t (ix2 r k) = (args m c).a11 (ix2 r k) := by
  obtain ⟨h0, h1⟩ := index11 t
  show (args m c).a11 ((cfg0.win 11).blk t |>.view.emb (ix2 r k)) = _
  congr 1
  funext a
  apply Fin.ext
  match a with
  | ⟨0, _⟩ => show win0_11.index t 0 * 1 + 1 * r.val = r.val; omega
  | ⟨1, _⟩ => show win0_11.index t 1 * 1024 + 1 * k.val = k.val; omega

theorem index12 : ∀ t : Fin grid0.N, win0_12.index t 0 = 0 ∧ win0_12.index t 1 = 0 := by decide +kernel

theorem iblk12_apply (c : Dev nD) (t : Fin grid0.N) (r : Fin 1) (k : Fin 1024) :
    iblk m c 12 t (ix2 r k) = (args m c).a12 (ix2 r k) := by
  obtain ⟨h0, h1⟩ := index12 t
  show (args m c).a12 ((cfg0.win 12).blk t |>.view.emb (ix2 r k)) = _
  congr 1
  funext a
  apply Fin.ext
  match a with
  | ⟨0, _⟩ => show win0_12.index t 0 * 1 + 1 * r.val = r.val; omega
  | ⟨1, _⟩ => show win0_12.index t 1 * 1024 + 1 * k.val = k.val; omega

theorem index13 : ∀ t : Fin grid0.N, win0_13.index t 0 = 0 ∧ win0_13.index t 1 = 0 := by decide +kernel

theorem iblk13_apply (c : Dev nD) (t : Fin grid0.N) (r : Fin 1024) (k : Fin 32) :
    iblk m c 13 t (ix2 r k) = (args m c).a13 (ix2 r k) := by
  obtain ⟨h0, h1⟩ := index13 t
  show (args m c).a13 ((cfg0.win 13).blk t |>.view.emb (ix2 r k)) = _
  congr 1
  funext a
  apply Fin.ext
  match a with
  | ⟨0, _⟩ => show win0_13.index t 0 * 1024 + 1 * r.val = r.val; omega
  | ⟨1, _⟩ => show win0_13.index t 1 * 32 + 1 * k.val = k.val; omega

theorem index14 : ∀ t : Fin grid0.N, win0_14.index t 0 = 0 ∧ win0_14.index t 1 = 0 := by decide +kernel

theorem iblk14_apply (c : Dev nD) (t : Fin grid0.N) (r : Fin 1) (k : Fin 32) :
    iblk m c 14 t (ix2 r k) = (args m c).a14 (ix2 r k) := by
  obtain ⟨h0, h1⟩ := index14 t
  show (args m c).a14 ((cfg0.win 14).blk t |>.view.emb (ix2 r k)) = _
  congr 1
  funext a
  apply Fin.ext
  match a with
  | ⟨0, _⟩ => show win0_14.index t 0 * 1 + 1 * r.val = r.val; omega
  | ⟨1, _⟩ => show win0_14.index t 1 * 32 + 1 * k.val = k.val; omega

/-- The blocks at a grid point. -/
def blk (c : Dev nD) (t : Fin cfg0.N) : Blk :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

theorem blk_tok (c : Dev nD) (t : Fin cfg0.N) (r : Fin 512) :
    (blk m c t).tok r = (args m c).tok ⟨512 * t.val + r.val, by have : t.val < 32 := t.isLt; omega⟩ := by
  have ht : t.val < 32 := t.isLt
  have hb : (⟨t.val / 16, by omega⟩ : Fin 2) = ⟨(512 * t.val + r.val) / 8192, by omega⟩ := Fin.ext (by show t.val / 16 = (512 * t.val + r.val) / 8192; omega)
  unfold Blk.tok Args.tok
  refine (Row.mk.injEq ..).mpr ⟨?_, ?_, ?_, ?_, ?_, ?_, ?_, ?_, ?_, ?_, ?_, ?_, ?_, ?_, ?_, ?_, ?_⟩
  · funext k; exact iblk0_apply m c t r k
  · funext k; exact iblk1_apply m c t r k
  · funext k; exact iblk2_apply m c t r k
  · funext k; exact iblk3_apply m c t 0 k
  · funext k; exact iblk4_apply m c t 0 k
  · funext k o; exact iblk5_apply m c t _ o
  · funext k o; exact iblk5_apply m c t _ o
  · funext k; exact iblk6_apply m c t 0 k
  · funext k; exact iblk7_apply m c t 0 k
  · funext k o; exact iblk8_apply m c t k o
  · funext k o; exact (iblk9_apply m c t k _).trans (congrArg (fun z => (args m c).a9 (ix3 z k _)) hb)
  · funext k o; exact (iblk9_apply m c t k _).trans (congrArg (fun z => (args m c).a9 (ix3 z k _)) hb)
  · funext k o; exact iblk10_apply m c t k o
  · funext k; exact iblk11_apply m c t 0 k
  · funext k; exact iblk12_apply m c t 0 k
  · funext k o; exact iblk13_apply m c t k o
  · funext k; exact iblk14_apply m c t 0 k

theorem flush15 : ∀ t : Fin cfg0.N, (cfg0.win 15).flush t = true := by decide +kernel

theorem index15 : ∀ t : Fin grid0.N, win0_15.index t 0 = t.val ∧ win0_15.index t 1 = 0 := by decide +kernel

theorem point15 (c : Dev nD) (t : Fin cfg0.N) (y : S4096x128.Idx) :
    ((dats m 0 c).flushed 15 t y : EReal) = left15 (blk m c t) y := by
  by_cases h0 : t.val % 32 = 0
  · rw [flushed15_A m c t h0]
    exact readA15 _ _ _ _ _ _ _ _ _ _ _ _ _ _ _ _ _ _ _ _ _ _ _ _ _ _ _ _ _ _ _ _ _ _ _ _ _ _ _ _ _ _ _ _ _ _ _ _ _ _ _ _ _ _ _ _ _
  · rw [flushed15_B m c t h0]
    exact readB15 _ _ _ _ _ _ _ _ _ _ _ _ _ _ _ _ _ _ _ _ _ _ _ _ _ _ _ _ _ _ _ _ _ _ _ _ _ _ _ _ _ _ _ _ _ _ _ _ _ _ _ _ _ _ _ _ _ _

theorem result15_apply (c : Dev nD) (i : Fin 131072) (l : Fin 128) :
    ((dats m 0 c).arrAt 15 cfg0.N (ix2 i l) : EReal)
      = ((args m c).tok ⟨i.val / 8, by omega⟩).x2 ⟨128 * (i.val % 8) + l.val, by omega⟩ := by
  obtain ⟨p, hp⟩ : ∃ p : Fin cfg0.N, p.val = i.val / 4096 := ⟨⟨i.val / 4096, show _ < 32 by omega⟩, rfl⟩
  have hb := congrFun (blocks15 m c p (flush15 p)) (ix2 (⟨i.val % 4096, Nat.mod_lt _ (by decide)⟩ : Fin 4096) l)
  obtain ⟨h0, h1⟩ := index15 p
  have he : ((cfg0.win 15).blk p).view.emb (ix2 (⟨i.val % 4096, Nat.mod_lt _ (by decide)⟩ : Fin 4096) l) = (ix2 i l : S131072x128.Idx) := by
    funext a
    apply Fin.ext
    match a with
    | ⟨0, _⟩ => show win0_15.index p 0 * 4096 + 1 * (i.val % 4096) = i.val; omega
    | ⟨1, _⟩ => show win0_15.index p 1 * 128 + 1 * l.val = l.val; omega
  rw [← he]
  refine hb.trans ((point15 m c p _).trans ?_)
  refine ((blk m c p).out_apply _ _).trans ?_
  rw [blk_tok]
  have e : (⟨512 * p.val + i.val % 4096 / 8, by have : p.val < 32 := p.isLt; omega⟩ : Fin 16384) = ⟨i.val / 8, by omega⟩ :=
    Fin.ext (by show 512 * p.val + i.val % 4096 / 8 = i.val / 8; omega)
  refine (congrArg (fun q => ((args m c).tok q).x2 _) e).trans (congrArg ((args m c).tok _).x2 (Fin.ext ?_))
  show 128 * (i.val % 4096 % 8) + l.val = 128 * (i.val % 8) + l.val
  omega

end Cert.Proof.Tb.KI

end
-- ==== Proof.Tb.Real.lean ====
/-
  Real arguments keep a token's row real, and the weights' sum from zero.
-/
module

public import proofs.«01_k».proof.Proof.Tb.Spec

@[expose] public section

noncomputable section

namespace Cert.Proof.Tb

open Idealize Idealize.ShloMosaic

/-- A real number. -/
def IsR (x : EReal) : Prop := ∃ r : ℝ, x = r

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.sum {ι : Type*} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

theorem IsR.exp {x : EReal} (hx : IsR x) : IsR (Ideal.exp x) := by
  obtain ⟨a, rfl⟩ := hx; exact ⟨Real.exp a, rfl⟩

theorem IsR.div {x y : EReal} (hx : IsR x) (hy : IsR y) (h0 : y ≠ 0) : IsR (Ideal.div x y) := by
  obtain ⟨a, rfl⟩ := hx; obtain ⟨b, rfl⟩ := hy
  unfold Ideal.div
  rw [if_neg h0]
  exact ⟨a * b⁻¹, by rw [EReal.coe_mul, EReal.coe_inv]⟩

/-- A mean of squares and a positive number more has a real inverse root. -/
theorem IsR.rsqrt {n : ℕ} (f : Fin n → EReal) (hf : ∀ i, IsR (f i)) {c e : EReal} (hc : ∃ r : ℝ, 0 < r ∧ c = r) (he : ∃ r : ℝ, 0 < r ∧ e = r) :
    IsR (Ideal.rsqrt (Ideal.div (∑ i, f i * f i) c + e)) := by
  obtain ⟨c, hc, rfl⟩ := hc
  obtain ⟨e, he, rfl⟩ := he
  choose g hg using hf
  have hs : (∑ i, f i * f i) = ((∑ i, g i * g i : ℝ) : EReal) := by
    have : ∀ s : Finset (Fin n), (∑ i ∈ s, f i * f i) = ((∑ i ∈ s, g i * g i : ℝ) : EReal) := by
      intro s
      induction s using Finset.induction_on with
      | empty => simp
      | insert a s ha ih => rw [Finset.sum_insert ha, Finset.sum_insert ha, ih, hg, EReal.coe_add, EReal.coe_mul]
    exact this _
  have hn : 0 ≤ ∑ i, g i * g i := Finset.sum_nonneg fun i _ => mul_self_nonneg _
  have hp : 0 < (∑ i, g i * g i) * c⁻¹ + e := add_pos_of_nonneg_of_pos (mul_nonneg hn (inv_nonneg.mpr hc.le)) he
  have hd : Ideal.div (∑ i, f i * f i) c + e = (((∑ i, g i * g i) * c⁻¹ + e : ℝ) : EReal) := by
    unfold Ideal.div
    rw [if_neg (by exact_mod_cast hc.ne'), hs, EReal.coe_add, EReal.coe_mul, EReal.coe_inv]
  rw [hd]
  refine ⟨(Real.sqrt ((∑ i, g i * g i) * c⁻¹ + e))⁻¹, ?_⟩
  show (if _ < 0 then ⊥ else if _ = 0 then ⊤ else _) = _
  rw [if_neg (not_lt.mpr hp.le), if_neg hp.ne']

theorem c512_pos : ∃ r : ℝ, 0 < r ∧ c512 = r := by
  refine ⟨512, by norm_num, ?_⟩
  simp [c512, Ideal.ofBits, Ideal.ieee]
  rw [← EReal.coe_mul]
  norm_num

theorem c1024_pos : ∃ r : ℝ, 0 < r ∧ c1024 = r := by
  refine ⟨1024, by norm_num, ?_⟩
  simp [c1024, Ideal.ofBits, Ideal.ieee]
  rw [← EReal.coe_mul]
  norm_num

theorem e6_pos : ∃ r : ℝ, 0 < r ∧ e6 = r := by
  simp [e6, Ideal.ofBits, Ideal.ieee]
  rw [← EReal.coe_mul]
  exact ⟨_, by positivity, rfl⟩

theorem e5_pos : ∃ r : ℝ, 0 < r ∧ e5 = r := by
  simp [e5, Ideal.ofBits, Ideal.ieee]
  rw [← EReal.coe_mul]
  exact ⟨_, by positivity, rfl⟩

theorem alpha_real : IsR alpha := by
  simp [alpha, Ideal.ofBits, Ideal.ieee]
  rw [← EReal.coe_mul]
  exact ⟨_, rfl⟩

theorem c16_real : IsR c16 := by
  simp [c16, Ideal.ofBits, Ideal.ieee]
  rw [← EReal.coe_mul]
  exact ⟨_, rfl⟩

theorem low_eq : low = ⊥ := by simp [low, Ideal.ofBits, Ideal.ieee]

theorem c_ne {c : EReal} (h : ∃ r : ℝ, 0 < r ∧ c = r) : c ≠ 0 := by
  obtain ⟨r, hr, rfl⟩ := h; exact_mod_cast hr.ne'

theorem c_real {c : EReal} (h : ∃ r : ℝ, 0 < r ∧ c = r) : IsR c := h.imp fun _ h => h.2

theorem rms_real {a g : Fin 512 → EReal} (ha : ∀ k, IsR (a k)) (hg : ∀ k, IsR (g k)) (k : Fin 512) : IsR (rms a g k) :=
  ((ha k).mul (IsR.rsqrt a ha c512_pos e6_pos)).mul (hg k)

theorem mean_real {h : Fin 1024 → EReal} (hh : ∀ k, IsR (h k)) : IsR (mean h) :=
  (IsR.sum _ _ hh).div (c_real c1024_pos) (c_ne c1024_pos)

theorem ln_real {h g b : Fin 1024 → EReal} (hh : ∀ k, IsR (h k)) (hg : ∀ k, IsR (g k)) (hb : ∀ k, IsR (b k)) (o : Fin 1024) : IsR (ln h g b o) :=
  ((((hh o).sub (mean_real hh)).mul (IsR.rsqrt (fun j => h j - mean h) (fun j => (hh j).sub (mean_real hh)) c1024_pos e5_pos)).mul (hg o)).add (hb o)

theorem plus_real {x y : Fin 1024 → EReal} (hx : ∀ k, IsR (x k)) (hy : ∀ k, IsR (y k)) (o : Fin 1024) : IsR (plus x y o) :=
  (alpha_real.mul (hx o)).add (hy o)

theorem proj_real {n : ℕ} {x : Fin 1024 → EReal} {w : Fin 1024 → Fin n → EReal} (hx : ∀ k, IsR (x k)) (hw : ∀ k o, IsR (w k o)) (o : Fin n) : IsR (proj x w o) :=
  IsR.sum _ _ fun k => (hx k).mul (hw k o)

theorem scores_real {q : Fin 256 → EReal} {k : Fin 256 → Fin 256 → EReal} (hq : ∀ d, IsR (q d)) (hk : ∀ m d, IsR (k m d)) (m : Fin 256) : IsR (scores q k m) :=
  (IsR.sum _ _ fun d => (hq d).mul (hk m d)).mul c16_real

/-- The greatest of some real numbers is one of them. -/
theorem greatest {n : ℕ} [NeZero n] (s : Fin n → EReal) (hs : ∀ m, IsR (s m)) : ∃ m, Finset.fold max low s Finset.univ = s m := by
  rcases (Finset.fold_max_le (s := Finset.univ) (b := low) (f := s) (Finset.fold max low s Finset.univ)).mp le_rfl with ⟨_, hle⟩
  rcases (Finset.le_fold_max (s := Finset.univ) (b := low) (f := s) (Finset.fold max low s Finset.univ)).mp le_rfl with h | ⟨m, _, h⟩
  · exfalso
    have h0 := (hle 0 (Finset.mem_univ _)).trans h
    obtain ⟨r, hr⟩ := hs 0
    rw [hr, low_eq] at h0
    exact absurd h0 (not_le.mpr (EReal.bot_lt_coe r))
  · exact ⟨m, le_antisymm h (hle m (Finset.mem_univ _))⟩

theorem greatest_real {n : ℕ} [NeZero n] (s : Fin n → EReal) (hs : ∀ m, IsR (s m)) : IsR (Finset.fold max low s Finset.univ) := by
  obtain ⟨m, h⟩ := greatest s hs
  rw [h]
  exact hs m

theorem soft_real {s : Fin 256 → EReal} (hs : ∀ m, IsR (s m)) (m : Fin 256) : IsR (soft s m) :=
  ((hs m).sub (greatest_real s hs)).exp

theorem exp_nonneg (x : EReal) : 0 ≤ Ideal.exp x := by
  induction x with
  | bot => exact le_rfl
  | top => exact le_top
  | coe r => exact EReal.coe_nonneg.mpr (Real.exp_pos r).le

theorem soft_sum_pos {s : Fin 256 → EReal} (hs : ∀ m, IsR (s m)) : 0 < ∑ m, soft s m := by
  obtain ⟨m, h⟩ := greatest s hs
  have h1 : soft s m = 1 := by
    unfold soft
    rw [h]
    obtain ⟨r, hr⟩ := hs m
    rw [hr, ← EReal.coe_sub, sub_self]
    show ((Real.exp 0 : ℝ) : EReal) = 1
    rw [Real.exp_zero]
    rfl
  have h2 : soft s m ≤ ∑ m, soft s m := Finset.single_le_sum (f := soft s) (fun i _ => exp_nonneg _) (Finset.mem_univ m)
  rw [h1] at h2
  exact lt_of_lt_of_le zero_lt_one h2

theorem att_real {s v : Fin 256 → EReal} (hs : ∀ m, IsR (s m)) (hv : ∀ m, IsR (v m)) : IsR (att s v) :=
  (IsR.sum _ _ fun m => (soft_real hs m).mul (hv m)).div (IsR.sum _ _ (soft_real hs)) (soft_sum_pos hs).ne'

/-- Weights summed to one before or after the values are taken. -/
theorem att_eq {s v : Fin 256 → EReal} (hs : ∀ m, IsR (s m)) :
    (∑ m, v m * Ideal.div (soft s m) (∑ j, soft s j)) = att s v := by
  have h0 := (soft_sum_pos hs).ne'
  obtain ⟨l, hl⟩ : IsR (∑ j, soft s j) := IsR.sum _ _ (soft_real hs)
  have hp : 0 ≤ l := by have := soft_sum_pos hs; rw [hl] at this; exact_mod_cast this.le
  unfold att Ideal.div
  rw [hl] at h0 ⊢
  simp only [if_neg h0]
  rw [← EReal.coe_inv]
  induction (Finset.univ : Finset (Fin 256)) using Finset.induction_on with
  | empty => simp
  | insert a t ha ih =>
    rw [Finset.sum_insert ha, Finset.sum_insert ha, ih,
      EReal.right_distrib_of_nonneg_of_ne_top (by exact_mod_cast inv_nonneg.mpr hp) (EReal.coe_ne_top _)]
    congr 1
    rw [← mul_assoc, mul_comm (v a)]

/-- A row of real numbers. -/
structure Row.IsReal (R : Row) : Prop where
  a : ∀ k, IsR (R.a k)
  b : ∀ k, IsR (R.b k)
  x : ∀ k, IsR (R.x k)
  ga : ∀ k, IsR (R.ga k)
  gb : ∀ k, IsR (R.gb k)
  wa : ∀ k o, IsR (R.wa k o)
  wb : ∀ k o, IsR (R.wb k o)
  g1 : ∀ k, IsR (R.g1 k)
  b1 : ∀ k, IsR (R.b1 k)
  wq : ∀ k o, IsR (R.wq k o)
  kk : ∀ k o, IsR (R.kk k o)
  vv : ∀ k o, IsR (R.vv k o)
  wo : ∀ k o, IsR (R.wo k o)
  g2 : ∀ k, IsR (R.g2 k)
  b2 : ∀ k, IsR (R.b2 k)

namespace Row.IsReal

variable {R : Row} (h : R.IsReal)
include h

theorem h1 (o : Fin 1024) : IsR (R.h1 o) :=
  plus_real h.x (fun o => (IsR.sum _ _ fun k => (rms_real h.a h.ga k).mul (h.wa k o)).add (IsR.sum _ _ fun k => (rms_real h.b h.gb k).mul (h.wb k o))) o

theorem x1 (o : Fin 1024) : IsR (R.x1 o) := ln_real h.h1 h.g1 h.b1 o

theorem q (o : Fin 1024) : IsR (R.q o) := proj_real h.x1 h.wq o

theorem sc (j : Fin 4) (m : Fin 256) : IsR (scores (fun d => R.q (headCol j d)) (fun m d => R.kk m (headCol j d)) m) :=
  scores_real (fun _ => h.q _) (fun _ _ => h.kk _ _) m

theorem o (k : Fin 1024) : IsR (R.o k) := att_real (fun m => h.sc _ m) (fun m => h.vv m k)

theorem h2 (o : Fin 1024) : IsR (R.h2 o) := plus_real h.x1 (fun k => proj_real h.o h.wo k) o

theorem x2 (o : Fin 1024) : IsR (R.x2 o) := ln_real h.h2 h.g2 h.b2 o

theorem lg (hw : ∀ k o, IsR (R.wr k o)) (hb : ∀ o, IsR (R.br o)) (j : Fin 32) : IsR (R.lg j) := (proj_real h.x2 hw j).add (hb j)

end Row.IsReal

end Cert.Proof.Tb

end
-- ==== Proof.Tb.R.Rows.lean ====
/-
  The reference's token block by rows: the same rows.
-/
module

public import proofs.«01_k».proof.Proof.Gen.Reference3Ideal.Run
public import proofs.«01_k».proof.Proof.Tb.Real

@[expose] public section

noncomputable section

namespace Cert.Proof.Tb.R

open Idealize Idealize.ShloMosaic Cert.Reference3Ideal Cert.Reference3Ideal.Gen Cert.Reference3Ideal.Value

variable (V0 : Valuation τ sig (Elt Ideal))

/-- The arguments. -/
def args : Args :=
  ⟨V0 (Proc.devRef .tc main_arg0), V0 (Proc.devRef .tc main_arg1), V0 (Proc.devRef .tc main_arg2), V0 (Proc.devRef .tc main_arg3),
    V0 (Proc.devRef .tc main_arg4), V0 (Proc.devRef .tc main_arg5), V0 (Proc.devRef .tc main_arg6), V0 (Proc.devRef .tc main_arg7),
    V0 (Proc.devRef .tc main_arg8), V0 (Proc.devRef .tc main_arg9), V0 (Proc.devRef .tc main_arg10), V0 (Proc.devRef .tc main_arg11),
    V0 (Proc.devRef .tc main_arg12), V0 (Proc.devRef .tc main_arg13), V0 (Proc.devRef .tc main_arg14)⟩

set_option maxRecDepth 16384 in
theorem v37_apply (i : Fin 16384) (o : Fin 1024) : (res_main_v36 (F := Ideal) V0 (ix2 i o) : EReal) = (((args V0).tok i).h1 o : EReal) := by
  pointwise [res_main_v36, res_main_v0, res_main_v1]
  rfl

set_option maxRecDepth 16384 in
theorem v59_apply (i : Fin 16384) (o : Fin 1024) : (res_main_v58 (F := Ideal) V0 (ix2 i o) : EReal) = (((args V0).tok i).x1 o : EReal) := by
  pointwise [res_main_v58, res_main_v42, res_main_v40]
  have h : ∀ o, (res_main_v36 (F := Ideal) V0 (ix2 i o) : EReal) = (((args V0).tok i).h1 o : EReal) := fun o => v37_apply V0 i o
  simp only [h]
  rfl

/-- The token at a place of a sequence. -/
def at8 (b : Fin 2) (s : Fin 8192) : Fin 16384 := ⟨b.val * 8192 + s.val, by omega⟩

/-- One head's scores of a token. -/
def sc (R : Row) (h : Fin 4) : Fin 256 → EReal := scores (fun d => R.q (headCol h d)) (fun m d => R.kk m (headCol h d))

set_option maxRecDepth 16384 in
theorem v70_apply (b : Fin 2) (h : Fin 4) (s : Fin 8192) (m : Fin 256) :
    (res_main_v69 (F := Ideal) V0 (ix4 b h s m) : EReal) = (sc ((args V0).tok (at8 b s)) h m : EReal) := by
  pointwise [res_main_v69, res_main_v4]
  have h1 : ∀ o, (res_main_v58 (F := Ideal) V0 (ix2 (at8 b s) o) : EReal) = (((args V0).tok (at8 b s)).x1 o : EReal) := fun o => v59_apply V0 _ o
  have e : ∀ d : Fin 256, (⟨h.val * 256 + d.val, by omega⟩ : Fin 1024) = headCol h d := fun d => Fin.ext (by show h.val * 256 + d.val = 256 * h.val + d.val; omega)
  have eb : (⟨(at8 b s).val / 8192, by omega⟩ : Fin 2) = b := Fin.ext (by show (b.val * 8192 + s.val) / 8192 = b.val; omega)
  have hq : ∀ d : Fin 256, (∑ x : Fin 1024, HMul.hMul (α := EReal) (β := EReal) (γ := EReal) (res_main_v58 (F := Ideal) V0 (ix2 (at8 b s) x))
        (V0 (Proc.devRef .tc main_arg8) (ix2 x (⟨h.val * 256 + d.val, by omega⟩ : Fin 1024))) : EReal)
      = ((args V0).tok (at8 b s)).q (headCol h d) := fun d => by
    rw [e d]
    simp only [h1]
    rfl
  have hk : ∀ d : Fin 256, (V0 (Proc.devRef .tc main_arg9) (ix3 b m (⟨h.val * 256 + d.val, by omega⟩ : Fin 2048)) : EReal) = ((args V0).tok (at8 b s)).kk m (headCol h d) := fun d => by
    show _ = (args V0).a9 (ix3 ⟨(at8 b s).val / 8192, _⟩ m _)
    rw [eb]
    exact congrArg (fun z => (args V0).a9 (ix3 b m z)) (Fin.ext (by show h.val * 256 + d.val = 256 * h.val + d.val; omega))
  have hs : (∑ d : Fin 256, ((args V0).tok (at8 b s)).q (headCol h d) * ((args V0).tok (at8 b s)).kk m (headCol h d) : EReal) * c16 = sc ((args V0).tok (at8 b s)) h m := rfl
  rw [← hs]
  exact congrArg (fun z : EReal => z * c16) (Finset.sum_congr rfl fun d _ => congrArg₂ (fun y z : EReal => y * z) (hq d) (hk d))

theorem v70_fold (b : Fin 2) (h : Fin 4) (s : Fin 8192) :
    (Finset.fold max low (res_main_v69 (F := Ideal) V0) (Finset.univ.filter fun i => reducesTo_S2x4x8192x256_S2x4x8192_d3.drop i = ix3 b h s) : EReal)
      = Finset.fold max low (sc ((args V0).tok (at8 b s)) h) Finset.univ :=
  (Shape.ReducesTo.fold_fiber_r4_a3 reducesTo_S2x4x8192x256_S2x4x8192_d3 (ix3 b h s) max low (res_main_v69 (F := Ideal) V0)).trans
    (congrArg (fun f => Finset.fold max low f Finset.univ) (funext fun k => v70_apply V0 b h s k))

/-- A value of a whole array of scores. -/
abbrev at4 (x : FVec Ideal S2x4x8192x256 .f32) (b : Fin 2) (h : Fin 4) (s : Fin 8192) (m : Fin 256) : EReal := x (ix4 b h s m)

set_option maxRecDepth 16384 in
theorem less_read (x : FVec Ideal S2x4x8192x256 .f32) (g : FVec Ideal S2x4x8192 .f32) (b : Fin 2) (h : Fin 4) (s : Fin 8192) (m : Fin 256) :
    at4 (Host.exp (subf x (broadcastInDim S2x4x8192x256 ![0, 1, 2, 3] bcast_S2x4x8192x1_S2x4x8192x256_0_1_2_3 (broadcastInDim S2x4x8192x1 ![0, 1, 2] bcast_S2x4x8192_S2x4x8192x1_0_1_2 g)))) b h s m
      = Ideal.exp (at4 x b h s m - (g (ix3 b h s) : EReal)) := by
  pointwise [at4]

theorem reduce_read (x : S2x4x8192x256.Idx → EReal) (i : S_.Idx → EReal) (j : S2x4x8192.Idx) :
    Host.reduce (max : EReal → EReal → EReal) x i reducesTo_S2x4x8192x256_S2x4x8192_d3 h_S_ j
      = Finset.fold max (i (Shape.Idx.first h_S_)) x (Finset.univ.filter fun i => reducesTo_S2x4x8192x256_S2x4x8192_d3.drop i = j) :=
  Host.reduce_eq_fold (max : EReal → EReal → EReal) x i reducesTo_S2x4x8192x256_S2x4x8192_d3 h_S_ j

theorem max_read (g : FVec Ideal S2x4x8192 .f32) (j : S2x4x8192.Idx) :
    (maximumf (broadcastInDim S2x4x8192 ![] bcast_S_S2x4x8192 (constant S_ .f32 0xFF800000#32)) g j : EReal) = max low (g j : EReal) := rfl

theorem maximumf_eq : (FloatOps.maximumf (F := Ideal) (φ := .f32)) = (max : EReal → EReal → EReal) := rfl

theorem reduceMax_read (x : FVec Ideal S2x4x8192x256 .f32) (j : S2x4x8192.Idx) :
    (Host.reduce (FloatOps.maximumf (F := Ideal) (φ := .f32)) x (constant (F := Ideal) S_ .f32 0xFF800000#32) reducesTo_S2x4x8192x256_S2x4x8192_d3 h_S_ j : EReal)
      = Finset.fold max low x (Finset.univ.filter fun i => reducesTo_S2x4x8192x256_S2x4x8192_d3.drop i = j) :=
  (congrArg (fun f : EReal → EReal → EReal => Host.reduce f x (constant (F := Ideal) S_ .f32 0xFF800000#32) reducesTo_S2x4x8192x256_S2x4x8192_d3 h_S_ j) maximumf_eq).trans
    (reduce_read x (constant (F := Ideal) S_ .f32 0xFF800000#32) j)

theorem v77_part (b : Fin 2) (h : Fin 4) (s : Fin 8192) (m : Fin 256) :
    (res_main_v76 (F := Ideal) V0 (ix4 b h s m) : EReal) = Ideal.exp (at4 (res_main_v69 (F := Ideal) V0) b h s m
      - max low (Host.reduce (FloatOps.maximumf (F := Ideal) (φ := .f32)) (res_main_v69 (F := Ideal) V0) (constant (F := Ideal) S_ .f32 0xFF800000#32)
          reducesTo_S2x4x8192x256_S2x4x8192_d3 h_S_ (ix3 b h s) : EReal)) :=
  (less_read (res_main_v69 V0) _ b h s m).trans
    (congrArg (fun z : EReal => Ideal.exp (at4 (res_main_v69 (F := Ideal) V0) b h s m - z)) (max_read _ (ix3 b h s)))

theorem v77_read (b : Fin 2) (h : Fin 4) (s : Fin 8192) (m : Fin 256) :
    (res_main_v76 (F := Ideal) V0 (ix4 b h s m) : EReal) = Ideal.exp (at4 (res_main_v69 (F := Ideal) V0) b h s m
      - max low (Finset.fold max low (res_main_v69 (F := Ideal) V0) (Finset.univ.filter fun i => reducesTo_S2x4x8192x256_S2x4x8192_d3.drop i = ix3 b h s) : EReal)) :=
  (v77_part V0 b h s m).trans (congrArg (fun z : EReal => Ideal.exp (at4 (res_main_v69 (F := Ideal) V0) b h s m - max low z)) (reduceMax_read (res_main_v69 V0) (ix3 b h s)))

theorem v77_apply (b : Fin 2) (h : Fin 4) (s : Fin 8192) (m : Fin 256) :
    (res_main_v76 (F := Ideal) V0 (ix4 b h s m) : EReal) = (soft (sc ((args V0).tok (at8 b s)) h) m : EReal) := by
  have hl : ∀ z : EReal, max low z = z := fun z => by rw [low_eq]; exact max_eq_right bot_le
  have hm := (hl _).trans (v70_fold V0 b h s)
  exact (v77_read V0 b h s m).trans <| congrArg₂ (fun y z : EReal => Ideal.exp (y - z)) (v70_apply V0 b h s m) hm

set_option maxRecDepth 16384 in
theorem v90_apply (hr : ∀ i, ((args V0).tok i).IsReal) (i : Fin 16384) (o : Fin 1024) :
    (res_main_v89 (F := Ideal) V0 (ix2 i o) : EReal) = (((args V0).tok i).h2 o : EReal) := by
  pointwise [res_main_v89, res_main_v4]
  have ei : at8 ⟨i.val / 8192, by omega⟩ ⟨i.val % 8192, Nat.mod_lt _ (by decide)⟩ = i := Fin.ext (by show i.val / 8192 * 8192 + i.val % 8192 = i.val; omega)
  have h77 : ∀ (h : Fin 4) (m : Fin 256), (res_main_v76 (F := Ideal) V0 (ix4 ⟨i.val / 8192, by omega⟩ h ⟨i.val % 8192, Nat.mod_lt _ (by decide)⟩ m) : EReal)
      = (soft (sc ((args V0).tok i) h) m : EReal) := fun h m => by
    refine (v77_apply V0 _ h _ m).trans ?_
    rw [ei]
  refine congrArg₂ (· + ·) (congrArg (alpha * ·) (v59_apply V0 i o)) (Finset.sum_congr rfl fun k _ => congrArg₂ (· * ·) ?_ rfl)
  refine Eq.trans ?_ (att_eq (s := sc ((args V0).tok i) ⟨k.val / 256, by omega⟩) (v := fun m => ((args V0).tok i).vv m k) fun m => (hr i).sc _ m)
  refine Finset.sum_congr rfl fun m _ => congrArg₂ (· * ·) rfl ?_
  exact congrArg₂ Ideal.div (h77 _ m) (Finset.sum_congr rfl fun j _ => h77 _ j)

/-- The normalised second result, as the run states it. -/
def x2 : FVec Ideal S16384x1024 .f32 :=
  (addf (mulf (mulf (subf (res_main_v89 V0) (broadcastInDim S16384x1024 ![0, 1] bcast_S16384x1_S16384x1024_0_1 (res_main_v93 V0))) (broadcastInDim S16384x1024 ![0, 1] bcast_S16384x1_S16384x1024_0_1 (Host.rsqrt (addf (Host.divf (broadcastInDim S16384x1 ![0] bcast_S16384_S16384x1_0 (Host.reduceAdd (mulf (res_main_v95 V0) (res_main_v95 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (V0 (Proc.devRef .tc main_arg11)))) (broadcastInDim S16384x1024 ![0, 1] bcast_S1x1024_S16384x1024_0_1 (V0 (Proc.devRef .tc main_arg12))))

set_option maxRecDepth 16384 in
theorem x2_apply (hr : ∀ i, ((args V0).tok i).IsReal) (i : Fin 16384) (o : Fin 1024) :
    (x2 V0 (ix2 i o) : EReal) = (((args V0).tok i).x2 o : EReal) := by
  pointwise [x2, res_main_v95, res_main_v93]
  have h : ∀ o, (res_main_v89 (F := Ideal) V0 (ix2 i o) : EReal) = (((args V0).tok i).h2 o : EReal) := fun o => v90_apply V0 hr i o
  simp only [h]
  rfl

set_option maxRecDepth 16384 in
theorem rows_apply (x : FVec Ideal S16384x1024 .f32) (i : Fin 131072) (l : Fin 128) :
    (shapeCast S131072x128 x shapeCasts_S16384x1024_S131072x128 (ix2 i l) : EReal) = x (ix2 ⟨i.val / 8, by omega⟩ ⟨128 * (i.val % 8) + l.val, by omega⟩) := by
  pointwise []
  exact congrArg (fun z => x (ix2 _ z)) (Fin.ext (by show i.val % 8 * 128 + l.val = 128 * (i.val % 8) + l.val; omega))

end Cert.Proof.Tb.R

end
-- ==== Proof.Tb.Value.lean ====
/-
  The token block's result is the reference's, on arguments that are real numbers.
-/
module

public import proofs.«01_k».proof.Defs
public import proofs.«01_k».proof.Proof.Tb.KI.Value
public import proofs.«01_k».proof.Proof.Tb.R.Rows

@[expose] public section

noncomputable section

namespace Cert.Proof.Tb

open Idealize Idealize.ShloMosaic Idealize.SL.Sem

instance preFacts : Cert.Pre_finite3.Facts where
  bitsLt_bf16_f32 := by decide
  bcast_S_S16384x512 := by decide
  bcast_S_S16384x1024 := by decide
  bcast_S_S1x512 := by decide
  bcast_S_S1024x1024 := by decide
  bcast_S_S1x1024 := by decide
  bcast_S_S2x256x2048 := by decide

/-- A value below `+∞` in size is a real number. -/
theorem isR_of_lt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  have hl : max x (-x) < ⊤ := by
    by_contra hn
    simp [Ideal.cmp, htop, hn] at h
  refine ⟨x.toReal, (EReal.coe_toReal (fun e => ?_) fun e => ?_).symm⟩
  · subst e; simp at hl
  · subst e; simp at hl

variable {m : (ℓ : Loc Cert.Kernel3Ideal.nD Cert.Kernel3Ideal.τ Cert.Kernel3Ideal.sig) → Buf (Elt Ideal) ℓ}

/-- On finite arguments every token's row is real. -/
theorem isReal (h : Pre_Kernel3Ideal_finite3 m) (c : Dev Cert.Kernel3Ideal.nD) (i : Fin 16384) : ((KI.args m c).tok i).IsReal := by
  obtain ⟨h0, h1, h2, h3, h4, h5, h6, h7, h8, h9, h10, h11, h12⟩ := h c
  exact
    { a := fun k => isR_of_lt _ (congrFun h0 (ix2 i k))
      b := fun k => isR_of_lt _ (congrFun h1 (ix2 i k))
      x := fun k => isR_of_lt _ (congrFun h2 (ix2 i k))
      ga := fun k => isR_of_lt _ (congrFun h3 (ix2 0 k))
      gb := fun k => isR_of_lt _ (congrFun h4 (ix2 0 k))
      wa := fun k o => isR_of_lt _ (congrFun h5 (ix2 ⟨k.val, by omega⟩ o))
      wb := fun k o => isR_of_lt _ (congrFun h5 (ix2 ⟨512 + k.val, by omega⟩ o))
      g1 := fun k => isR_of_lt _ (congrFun h6 (ix2 0 k))
      b1 := fun k => isR_of_lt _ (congrFun h7 (ix2 0 k))
      wq := fun k o => isR_of_lt _ (congrFun h8 (ix2 k o))
      kk := fun n k => isR_of_lt _ (congrFun h9 (ix3 ⟨i.val / 8192, by omega⟩ n ⟨k.val, by omega⟩))
      vv := fun n k => isR_of_lt _ (congrFun h9 (ix3 ⟨i.val / 8192, by omega⟩ n ⟨1024 + k.val, by omega⟩))
      wo := fun k o => isR_of_lt _ (congrFun h10 (ix2 k o))
      g2 := fun k => isR_of_lt _ (congrFun h11 (ix2 0 k))
      b2 := fun k => isR_of_lt _ (congrFun h12 (ix2 0 k)) }

/-- The whole result of the reference, as the run states it, is the kernel's. -/
theorem values_eq (V0 : Valuation Cert.Reference3Ideal.τ Cert.Reference3Ideal.sig (Elt Ideal)) (c : Dev Cert.Kernel3Ideal.nD)
    (h : Pre_Kernel3Ideal_finite3 m) (ha : R.args V0 = KI.args m c) :
    shapeCast Cert.Reference3Ideal.S131072x128 (R.x2 V0) Cert.Reference3Ideal.Gen.shapeCasts_S16384x1024_S131072x128
      = (KI.dats m 0 c).arrAt 15 Cert.Kernel3Ideal.cfg0.N := by
  have hr : ∀ i, ((R.args V0).tok i).IsReal := fun i => by rw [ha]; exact isReal h c i
  funext y
  have hy : y = (ix2 (y 0 : Fin 131072) (y 1 : Fin 128)) := by
    funext a
    match a with
    | ⟨0, _⟩ => rfl
    | ⟨1, _⟩ => rfl
  rw [hy]
  refine (R.rows_apply (R.x2 V0) _ _).trans ((R.x2_apply V0 hr _ _).trans ?_)
  rw [ha]
  exact (KI.result15_apply m c _ _).symm

set_option maxHeartbeats 4000000 in
theorem algebraic : algebraic_Kernel3Ideal_Reference3Ideal_pre_finite3 (hKernel3Ideal := Cert.Kernel3Ideal.Gen.facts)
    (hReference3Ideal := Cert.Reference3Ideal.Gen.facts) (hPre_finite3 := preFacts) := by
  intro m ρ m' ρ' hpre hagree
  refine ⟨fun c => (KI.dats m 0 c).arrAt 15 Cert.Kernel3Ideal.cfg0.N, KI.run_blocks m ρ, ?_⟩
  refine (θ_run Cert.Reference3Ideal.defs _ _).mono (fun _ h c => ⟨(h c).1.trans ?_, (h c).2⟩) (Cert.Reference3Ideal.Value.run m' ρ')
  refine values_eq (StableHlo.launchContents m' c) c hpre ?_
  have h := hagree c
  unfold R.args KI.args
  refine congr (congr (congr (congr (congr (congr (congr (congr (congr (congr (congr (congr (congr (congr (congrArg Args.mk h.1) h.2.1) h.2.2.1) h.2.2.2.1) h.2.2.2.2.1) h.2.2.2.2.2.1) h.2.2.2.2.2.2.1)
    h.2.2.2.2.2.2.2.1) h.2.2.2.2.2.2.2.2.1) h.2.2.2.2.2.2.2.2.2.1) h.2.2.2.2.2.2.2.2.2.2.1) h.2.2.2.2.2.2.2.2.2.2.2.1) h.2.2.2.2.2.2.2.2.2.2.2.2.1) h.2.2.2.2.2.2.2.2.2.2.2.2.2.1) h.2.2.2.2.2.2.2.2.2.2.2.2.2.2

theorem frame_reference : quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩) (Cert.Reference3Ideal.Value.run (F := Ideal) m ρ)

end Cert.Proof.Tb

end
-- ==== Proof.Mk.Value.lean ====
/-
  The memory's keys and values: a point's block of the result is the first argument times its columns of the second.
-/
module

public import proofs.«01_k».proof.Defs
public import proofs.«01_k».proof.Proof.Gen.Kernel4Ideal.Value
public import proofs.«01_k».proof.Proof.Gen.Reference4Ideal.Run
public import Idealize.ShloMosaic.Lib.Quiescent
public import Idealize.ShloMosaic.Lib.Pipeline.ValueKit
public import Idealize.ShloMosaic.Lib.Pointwise

@[expose] public section

noncomputable section

namespace Cert.Proof.Mk

open Idealize Idealize.ShloMosaic Idealize.SL.Sem Cert.Kernel4Ideal Cert.Kernel4Ideal.Gen

variable (m : (ℓ : Loc nD τ sig) → Buf (Elt Ideal) ℓ)

abbrev argX (c : Dev nD) : FVec Ideal S512x1024 .f32 := m ((c.tc : Thread nD τ).loc main_arg0)
abbrev argW (c : Dev nD) : FVec Ideal S1024x2048 .bf16 := m ((c.tc : Thread nD τ).loc main_arg1)

theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel

theorem lt2 (t : Fin grid0.N) : t.val < 2 := t.isLt

theorem iblk0_apply (c : Dev nD) (t : Fin grid0.N) (r : Fin 512) (k : Fin 1024) :
    iblk m c 0 t (ix2 r k) = argX m c (ix2 r k) := by
  obtain ⟨h0, h1⟩ := index0 t
  show argX m c ((cfg0.win 0).blk t |>.view.emb (ix2 r k)) = _
  congr 1
  funext a
  apply Fin.ext
  match a with
  | ⟨0, _⟩ => show win0_0.index t 0 * 512 + 1 * r.val = r.val; omega
  | ⟨1, _⟩ => show win0_0.index t 1 * 1024 + 1 * k.val = k.val; omega

theorem iblk1_apply (c : Dev nD) (t : Fin grid0.N) (k : Fin 1024) (j : Fin 1024) :
    iblk m c 1 t (ix2 k j) = argW m c (ix2 k ⟨1024 * t.val + j.val, by have := lt2 t; omega⟩) := by
  obtain ⟨h0, h1⟩ := index1 t
  show argW m c ((cfg0.win 1).blk t |>.view.emb (ix2 k j)) = _
  congr 1
  funext a
  apply Fin.ext
  match a with
  | ⟨0, _⟩ => show win0_1.index t 0 * 1024 + 1 * k.val = k.val; omega
  | ⟨1, _⟩ => show win0_1.index t 1 * 1024 + 1 * j.val = 1024 * t.val + j.val; omega

set_option maxRecDepth 16384 in
theorem pay_apply (x : FVec Ideal S512x1024 .f32) (w : FVec Ideal S1024x1024 .bf16) (r : Fin 512) (j : Fin 1024) :
    (k0_pay1 (F := Ideal) x w (ix2 r j) : EReal) = ∑ k : Fin 1024, (x (ix2 r k) : EReal) * w (ix2 k j) := by
  pointwise [k0_pay1]

theorem out_apply (x : FVec Ideal S512x1024 .f32) (w : FVec Ideal S1024x1024 .bf16) (r : Fin 512) (j : Fin 1024) :
    (out0_2 (F := Ideal) x w (ix2 r j) : EReal) = ∑ k : Fin 1024, (x (ix2 r k) : EReal) * w (ix2 k j) := by
  unfold out0_2
  rw [View.canon_cons_unit_lit _ _ _ (by decide), View.ld_unit_lit _ _ (by decide), View.ld_unit_lit _ _ (by decide)]
  exact pay_apply x w r j

set_option maxRecDepth 16384 in
theorem ref_apply (x : FVec Ideal Cert.Reference4Ideal.S512x1024 .f32) (w : FVec Ideal Cert.Reference4Ideal.S1024x2048 .bf16) (i : Fin 512) (j : Fin 2048) :
    (truncf .bf16 (Host.dotGeneral Cert.Reference4Ideal.dot_S512x1024_S1024x2048_S512x2048_1_0_0_1_n_n none x (extf .f32 w Cert.Reference4Ideal.Gen.bitsLt_bf16_f32)) Cert.Reference4Ideal.Gen.bitsLt_bf16_f32) (ix2 i j)
      = (∑ k : Fin 1024, (x (ix2 i k) : EReal) * w (ix2 k j) : EReal) := by
  pointwise []

theorem result_apply (c : Dev nD) (i : Fin 512) (j : Fin 2048) :
    ((dats m 0 c).arrAt 2 cfg0.N (ix2 i j) : EReal) = ∑ k : Fin 1024, (argX m c (ix2 i k) : EReal) * argW m c (ix2 k j) := by
  obtain ⟨p, hp⟩ : ∃ p : Fin grid0.N, p.val = j.val / 1024 := ⟨⟨j.val / 1024, show _ < 2 by omega⟩, rfl⟩
  have hb := congrFun ((Value.blocks2 m c p (flush0_2 p)).trans (Value.flushed2 m c p)) (ix2 i (⟨j.val % 1024, Nat.mod_lt _ (by decide)⟩ : Fin 1024))
  obtain ⟨h0, h1⟩ := index2 p
  have he : ((cfg0.win 2).blk p).view.emb (ix2 i (⟨j.val % 1024, Nat.mod_lt _ (by decide)⟩ : Fin 1024)) = (ix2 i j : S512x2048.Idx) := by
    funext a
    apply Fin.ext
    match a with
    | ⟨0, _⟩ => show win0_2.index p 0 * 512 + 1 * i.val = i.val; omega
    | ⟨1, _⟩ => show win0_2.index p 1 * 1024 + 1 * (j.val % 1024) = j.val; omega
  rw [← he]
  refine hb.trans ?_
  refine (out_apply (iblk m c 0 p) (iblk m c 1 p) i ⟨j.val % 1024, Nat.mod_lt _ (by decide)⟩).trans (Finset.sum_congr rfl fun k _ => ?_)
  rw [iblk0_apply, iblk1_apply]
  have e : (⟨1024 * p.val + j.val % 1024, by have := lt2 p; omega⟩ : Fin 2048) = j := Fin.ext (by show 1024 * p.val + j.val % 1024 = j.val; omega)
  exact congrArg (fun q => (argX m c (ix2 i k) : EReal) * argW m c (ix2 k q)) e

theorem algebraic : algebraic_Kernel4Ideal_Reference4Ideal (hKernel4Ideal := Cert.Kernel4Ideal.Gen.facts)
    (hReference4Ideal := Cert.Reference4Ideal.Gen.facts) := by
  intro m ρ m' ρ' _ hagree
  refine ⟨fun c => (dats m 0 c).arrAt 2 cfg0.N, Value.run_blocks m ρ, ?_⟩
  refine (θ_run Cert.Reference4Ideal.defs _ _).mono (fun _ h c => ⟨(h c).1.trans ?_, (h c).2⟩) (Cert.Reference4Ideal.Value.run m' ρ')
  rw [(hagree c).1, (hagree c).2]
  funext y
  have hy : y = (ix2 (y 0 : Fin 512) (y 1 : Fin 2048)) := by
    funext a
    match a with
    | ⟨0, _⟩ => rfl
    | ⟨1, _⟩ => rfl
  rw [hy]
  exact (ref_apply (argX m c) (argW m c) _ _).trans (result_apply m c _ _).symm

theorem frame_reference : quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩) (Cert.Reference4Ideal.Value.run (F := Ideal) m ρ)

end Cert.Proof.Mk

end
-- ==== Proof.Ca.Spec.lean ====
/-
  Banded attention over one window of keys or over all of them, the masked ones at −∞.
-/
module

public import proofs.«01_k».proof.Proof.Tb.Real

@[expose] public section

noncomputable section

namespace Cert.Proof.Ca

open Idealize Idealize.ShloMosaic Cert.Proof.Tb

variable {n N : ℕ}

/-- The weights before they are summed to one. -/
def wt (s : Fin n → EReal) (m : Fin n) : EReal := Ideal.exp (s m - Finset.fold max low s Finset.univ)

/-- Attention's value. -/
def val (s v : Fin n → EReal) : EReal := Ideal.div (∑ m, wt s m * v m) (∑ m, wt s m)

theorem wt_bot {s : Fin n → EReal} {m : Fin n} (h : s m = ⊥) : wt s m = 0 := by
  unfold wt
  rw [h, sub_eq_add_neg, EReal.bot_add]
  rfl

/-- Keys masked, or not looked at, do not count. -/
theorem val_window {s v : Fin n → EReal} {S V : Fin N → EReal} (ok : Fin n → Prop) (f : Fin n → Fin N)
    (hs : ∀ m, ok m → s m = S (f m)) (hv : ∀ m, ok m → v m = V (f m)) (hn : ∀ m, ¬ ok m → s m = ⊥)
    (hi : ∀ m m', ok m → ok m' → f m = f m' → m = m') (hj : ∀ u, S u ≠ ⊥ → ∃ m, ok m ∧ f m = u) :
    val s v = val S V := by
  have hm : Finset.fold max low s Finset.univ = Finset.fold max low S Finset.univ := by
    apply le_antisymm
    · refine (Finset.fold_max_le _).mpr ⟨by rw [low_eq]; exact bot_le, fun m _ => ?_⟩
      by_cases h : ok m
      · rw [hs m h]; exact ((Finset.fold_max_le _).mp le_rfl).2 _ (Finset.mem_univ _)
      · rw [hn m h]; exact bot_le
    · refine (Finset.fold_max_le _).mpr ⟨by rw [low_eq]; exact bot_le, fun u _ => ?_⟩
      by_cases h : S u = ⊥
      · rw [h]; exact bot_le
      · obtain ⟨m, hk, rfl⟩ := hj u h
        rw [← hs m hk]; exact ((Finset.fold_max_le _).mp le_rfl).2 _ (Finset.mem_univ _)
  have hw : ∀ m, ok m → wt s m = wt S (f m) := fun m h => by unfold wt; rw [hm, hs m h]
  have sum : ∀ (g : Fin n → EReal) (G : Fin N → EReal), (∀ m, ok m → g m = G (f m)) → (∀ m, ¬ ok m → g m = 0) → (∀ u, S u = ⊥ → G u = 0) →
      ∑ m, g m = ∑ u, G u := fun g G h1 h2 h3 => by
    refine Finset.sum_bij_ne_zero (fun m _ _ => f m) (fun _ _ _ => Finset.mem_univ _) ?_ ?_ ?_
    · intro a _ ha b _ hb e
      exact hi a b (by by_contra h; exact ha (h2 a h)) (by by_contra h; exact hb (h2 b h)) e
    · intro u _ hu
      obtain ⟨m, hk, rfl⟩ := hj u fun h => hu (h3 u h)
      exact ⟨m, Finset.mem_univ _, by rw [h1 m hk]; exact hu, rfl⟩
    · intro m _ hm0
      exact h1 m (by by_contra h; exact hm0 (h2 m h))
  unfold val
  rw [sum (fun m => wt s m * v m) (fun u => wt S u * V u) (fun m h => by rw [hw m h, hv m h]) (fun m h => by rw [wt_bot (hn m h), zero_mul])
      (fun u h => by rw [wt_bot h, zero_mul]),
    sum (wt s) (wt S) hw (fun m h => wt_bot (hn m h)) (fun u h => wt_bot h)]

theorem top_real {s : Fin n → EReal} (hs : ∀ m, s m = ⊥ ∨ IsR (s m)) (he : ∃ m, IsR (s m)) :
    ∃ m, IsR (s m) ∧ Finset.fold max low s Finset.univ = s m := by
  obtain ⟨m₀, h₀⟩ := he
  rcases (Finset.fold_max_le (s := Finset.univ) (b := low) (f := s) (Finset.fold max low s Finset.univ)).mp le_rfl with ⟨_, hle⟩
  have hb : ∀ x : EReal, x = ⊥ → ¬ s m₀ ≤ x := fun x hx h => by
    obtain ⟨r, hr⟩ := h₀
    rw [hr, hx] at h
    exact absurd h (not_le.mpr (EReal.bot_lt_coe r))
  rcases (Finset.le_fold_max (s := Finset.univ) (b := low) (f := s) (Finset.fold max low s Finset.univ)).mp le_rfl with h | ⟨m, _, h⟩
  · exact absurd ((hle m₀ (Finset.mem_univ _)).trans h) (hb _ low_eq)
  · rcases hs m with h' | h'
    · exact absurd ((hle m₀ (Finset.mem_univ _)).trans h) (hb _ h')
    · exact ⟨m, h', le_antisymm h (hle m (Finset.mem_univ _))⟩

theorem wt_real {s : Fin n → EReal} (hs : ∀ m, s m = ⊥ ∨ IsR (s m)) (he : ∃ m, IsR (s m)) (m : Fin n) : IsR (wt s m) := by
  obtain ⟨t, ht, e⟩ := top_real hs he
  rcases hs m with h | h
  · rw [wt_bot h]; exact ⟨0, rfl⟩
  · unfold wt; rw [e]; exact (h.sub ht).exp

theorem wt_sum_pos {s : Fin n → EReal} (hs : ∀ m, s m = ⊥ ∨ IsR (s m)) (he : ∃ m, IsR (s m)) : 0 < ∑ m, wt s m := by
  obtain ⟨m, h, e⟩ := top_real hs he
  have h1 : wt s m = 1 := by
    unfold wt
    rw [e]
    obtain ⟨r, hr⟩ := h
    rw [hr, ← EReal.coe_sub, sub_self]
    show ((Real.exp 0 : ℝ) : EReal) = 1
    rw [Real.exp_zero]
    rfl
  have h2 : wt s m ≤ ∑ m, wt s m := Finset.single_le_sum (f := wt s) (fun i _ => exp_nonneg _) (Finset.mem_univ m)
  rw [h1] at h2
  exact lt_of_lt_of_le zero_lt_one h2

/-- Weights summed to one before the values are taken. -/
theorem val_eq {s v : Fin n → EReal} (hs : ∀ m, s m = ⊥ ∨ IsR (s m)) (he : ∃ m, IsR (s m)) :
    (∑ m, Ideal.div (wt s m) (∑ j, wt s j) * v m) = val s v := by
  have h0 := (wt_sum_pos hs he).ne'
  obtain ⟨l, hl⟩ : IsR (∑ j, wt s j) := IsR.sum _ _ (wt_real hs he)
  have hp : 0 ≤ l := by have := wt_sum_pos hs he; rw [hl] at this; exact_mod_cast this.le
  unfold val Ideal.div
  rw [hl] at h0 ⊢
  simp only [if_neg h0]
  rw [← EReal.coe_inv]
  induction (Finset.univ : Finset (Fin n)) using Finset.induction_on with
  | empty => simp
  | insert a t ha ih =>
    rw [Finset.sum_insert ha, Finset.sum_insert ha, ih,
      EReal.right_distrib_of_nonneg_of_ne_top (by exact_mod_cast inv_nonneg.mpr hp) (EReal.coe_ne_top _)]
    congr 1
    rw [mul_assoc, mul_comm _ (v a), ← mul_assoc]

/-- The arguments: projections and position biases. -/
structure Args where
  p : (⟨3, ![2, 8192, 3072]⟩ : Shape).Idx → EReal
  b : (⟨2, ![8, 257]⟩ : Shape).Idx → EReal

/-- The bias's place for a query's place and a key's, both at or past zero. -/
def rel (q u : ℕ) : Fin 257 := ⟨min (q + 128 - u) 256, by omega⟩

namespace Args

variable (A : Args)

def q (b : Fin 2) (h : Fin 8) (s : Fin 8192) (d : Fin 64) : EReal := A.p (ix3 b s ⟨64 * h.val + d.val, by omega⟩)
def k (b : Fin 2) (h : Fin 8) (s : Fin 8192) (d : Fin 64) : EReal := A.p (ix3 b s ⟨512 + (64 * h.val + d.val), by omega⟩)
def v (b : Fin 2) (h : Fin 8) (s : Fin 8192) (d : Fin 64) : EReal := A.p (ix3 b s ⟨1024 + (64 * h.val + d.val), by omega⟩)

/-- A score over all keys. -/
def full (b : Fin 2) (h : Fin 8) (s u : Fin 8192) : EReal :=
  if u.val / 64 ≤ s.val / 64 ∧ s.val / 64 ≤ u.val / 64 + 8 then (∑ d, A.q b h s d * A.k b h u d) + A.b (ix2 h (rel s.val u.val)) else ⊥

/-- The result. -/
def out (b : Fin 2) (h : Fin 8) (s : Fin 8192) (d : Fin 64) : EReal := val (A.full b h s) fun u => A.v b h u d

/-- A table's entry: row and column of a window. -/
def table (h : Fin 8) (lo : ℕ) (r : Fin 256) (c : Fin 768) : EReal :=
  if (r.val / 64 ≤ c.val / 64 ∧ c.val / 64 ≤ r.val / 64 + 8) ∧ lo ≤ c.val then A.b (ix2 h (rel (512 + r.val) c.val)) else ⊥

/-- A window's result is the whole's. -/
theorem window (b : Fin 2) (h : Fin 8) (s : Fin 8192) (d : Fin 64) (lo : ℕ) (hlo : s.val / 256 * 256 < 512 → lo + s.val / 256 * 256 = 512)
    (hl : 512 ≤ s.val / 256 * 256 → lo = 0) (k v : Fin 768 → EReal) (kk : Fin 768 → Fin 64 → EReal)
    (hk : ∀ (c : Fin 768) (u : Fin 8192) (_ : u.val + 512 = s.val / 256 * 256 + c.val) d, kk c d = A.k b h u d)
    (hv : ∀ (c : Fin 768) (u : Fin 8192) (_ : u.val + 512 = s.val / 256 * 256 + c.val), v c = A.v b h u d)
    (hs : ∀ c, k c = (∑ d, A.q b h s d * kk c d) + A.table h lo ⟨s.val % 256, Nat.mod_lt _ (by decide)⟩ c) :
    val k v = A.out b h s d := by
  have sl := s.isLt
  refine val_window (fun c => ((s.val % 256 / 64 ≤ c.val / 64 ∧ c.val / 64 ≤ s.val % 256 / 64 + 8) ∧ lo ≤ c.val)) (fun c => ⟨(s.val / 256 * 256 + c.val - 512) % 8192, Nat.mod_lt _ (by decide)⟩) ?_ ?_ ?_ ?_ ?_
  · rintro c ⟨⟨h1, h2⟩, h3⟩
    have hu : (s.val / 256 * 256 + c.val - 512) % 8192 + 512 = s.val / 256 * 256 + c.val := by omega
    rw [hs, full, if_pos (by show _ ∧ _; dsimp only; omega), table, if_pos ⟨⟨h1, h2⟩, h3⟩]
    refine congrArg₂ (· + ·) (Finset.sum_congr rfl fun d _ => by rw [hk c ⟨(s.val / 256 * 256 + c.val - 512) % 8192, Nat.mod_lt _ (by decide)⟩ hu]) (congrArg (fun z => A.b (ix2 h z)) (Fin.ext ?_))
    show min (512 + s.val % 256 + 128 - c.val) 256 = min (s.val + 128 - (s.val / 256 * 256 + c.val - 512) % 8192) 256
    omega
  · rintro c ⟨⟨h1, h2⟩, h3⟩
    exact hv c _ (by show (s.val / 256 * 256 + c.val - 512) % 8192 + 512 = _; omega)
  · intro c hc
    rw [hs, table, if_neg hc, EReal.add_bot]
  · rintro c c' ⟨⟨h1, h2⟩, h3⟩ ⟨⟨h1', h2'⟩, h3'⟩ e
    have := congrArg Fin.val e
    dsimp only at this
    exact Fin.ext (by omega)
  · intro u hu
    have hb : u.val / 64 ≤ s.val / 64 ∧ s.val / 64 ≤ u.val / 64 + 8 := by by_contra hb; exact hu (if_neg hb)
    have ul := u.isLt
    refine ⟨⟨u.val + 512 - s.val / 256 * 256, by omega⟩, ?_, Fin.ext ?_⟩
    · dsimp only; omega
    · dsimp only; omega

end Args

end Cert.Proof.Ca

end
-- ==== Proof.Ca.Pay.lean ====
/-
  What the table's body and the attention's body compute of the blocks they read.
-/
module

public import proofs.«01_k».proof.Proof.Gen.Kernel5Ideal.Frame
public import proofs.«01_k».proof.Proof.Ca.Spec
public import Idealize.ShloMosaic.Lib.Pipeline.ValueKit
public import Idealize.ShloMosaic.Lib.Pointwise

@[expose] public section

noncomputable section

namespace Cert.Proof.Ca

open Idealize Idealize.ShloMosaic Cert.Kernel5Ideal Cert.Kernel5Ideal.Gen Cert.Proof.Tb

set_option maxRecDepth 16384 in
theorem roll_apply (x : FVec Ideal S1x1x1536 .f32) (r : Fin 256) (c : Fin 768) :
    (extractStridedSlice S256x768 ![0, 0] (k0_pay2 (F := Ideal) x x) slices_S256x1536_o0_0_S256x768 (ix2 r c) : EReal)
      = x (ix3 0 0 ⟨(c.val + 1536 - r.val) % 1536, Nat.mod_lt _ (by decide)⟩) := by
  pointwise [k0_pay2]
  have hr := r.isLt
  have hc := c.isLt
  split
  · exact congrArg (fun z => x (ix3 0 0 z)) (Fin.ext (by dsimp only; omega))
  · exact congrArg (fun z => x (ix3 0 0 z)) (Fin.ext (by dsimp only; omega))

/-- A chunk, as the body takes it: the quotient rounded down. -/
def chunk (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

theorem chunk_eq : ∀ c : Fin 768, chunk (BitVec.ofNat 32 c.val) = BitVec.ofNat 32 (c.val / 64) := by decide +kernel

theorem within : ∀ (a c : Fin 12), IntOp.andi (IntOp.cmpi .sge (BitVec.ofNat 32 c.val) (BitVec.ofNat 32 a.val))
      (IntOp.cmpi .sle (BitVec.ofNat 32 c.val) (IntOp.addi (BitVec.ofNat 32 a.val) 8#32)) = 1#1 ↔ a.val ≤ c.val ∧ c.val ≤ a.val + 8 := by decide +kernel

theorem past512 : ∀ c : Fin 768, IntOp.cmpi .sge (BitVec.ofNat 32 c.val) 512#32 = 1#1 ↔ 512 ≤ c.val := by decide +kernel
theorem past256 : ∀ c : Fin 768, IntOp.cmpi .sge (BitVec.ofNat 32 c.val) 256#32 = 1#1 ↔ 256 ≤ c.val := by decide +kernel

theorem select_eq {α : Type} (p : BitVec 1) (P : Prop) [Decidable P] (h : p = 1#1 ↔ P) (x y : α) : Scalar.select p x y = if P then x else y := by
  unfold Scalar.select
  by_cases hP : P
  · rw [if_pos hP]; simp [h.mpr hP]
  · rw [if_neg hP]; simp [mt h.mp hP]

theorem masked_eq : (Named.named κ "masked" 0xF149F2CA#32 : Ideal .f32) = (⊥ : EReal) := rfl

variable (x : FVec Ideal S1x1x1536 .f32)

/-- The table unmasked. -/
def tab : FVec Ideal S256x768 .f32 := k0_pay7 (F := Ideal) (k0_pay12 (F := Ideal) x) (k0_pay11 (F := Ideal) x) (k0_pay13 (F := Ideal) x) 64#32 (k0_pay14 (F := Ideal) x) (k0_pay15 (F := Ideal) x) (k0_pay16 (F := Ideal) x)

set_option maxRecDepth 16384 in
theorem band_apply (y : FVec Ideal S256x1536 .f32) (r : Fin 256) (c : Fin 768) :
    (k0_pay7 (F := Ideal) y (k0_pay11 (F := Ideal) x) k0_pay3 64#32 k0_pay4 k0_pay5 k0_pay6 (ix2 r c) : EReal)
      = if r.val / 64 ≤ c.val / 64 ∧ c.val / 64 ≤ r.val / 64 + 8 then
          (extractStridedSlice S256x768 ![0, 0] y slices_S256x1536_o0_0_S256x768 (ix2 r c) : EReal) else ⊥ := by
  pointwise [k0_pay7, k0_pay11, k0_pay3, k0_pay4, k0_pay5, k0_pay6]
  refine (select_eq _ (r.val / 64 ≤ c.val / 64 ∧ c.val / 64 ≤ r.val / 64 + 8) ?_ _ _)
  have h := within ⟨r.val / 64, by omega⟩ ⟨c.val / 64, by omega⟩
  dsimp only at h
  rw [← chunk_eq ⟨r.val, by omega⟩, ← chunk_eq c] at h
  exact h

theorem ld_whole : View.ld (Val := Elt Ideal) (e' := .f32) x r0_0 = x := View.ld_unit_lit _ _ (by decide)

theorem tab_apply (r : Fin 256) (c : Fin 768) :
    (tab x (ix2 r c) : EReal) = if r.val / 64 ≤ c.val / 64 ∧ c.val / 64 ≤ r.val / 64 + 8 then
      (x (ix3 0 0 ⟨(c.val + 1536 - r.val) % 1536, Nat.mod_lt _ (by decide)⟩) : EReal) else ⊥ := by
  refine (band_apply x (k0_pay12 (F := Ideal) x) r c).trans ?_
  rw [← roll_apply x r c]
  unfold k0_pay12
  rw [ld_whole]

set_option maxRecDepth 16384 in
theorem pay8_apply (r : Fin 256) (c : Fin 768) :
    (k0_pay8 (F := Ideal) (k0_pay12 (F := Ideal) x) (k0_pay11 (F := Ideal) x) (k0_pay13 (F := Ideal) x) 64#32 (k0_pay14 (F := Ideal) x) (k0_pay15 (F := Ideal) x) (k0_pay16 (F := Ideal) x) (ix4 0 0 r c) : EReal) = tab x (ix2 r c) := by
  unfold k0_pay8
  generalize e : k0_pay7 (F := Ideal) (k0_pay12 (F := Ideal) x) (k0_pay11 (F := Ideal) x) (k0_pay13 (F := Ideal) x) 64#32 (k0_pay14 (F := Ideal) x) (k0_pay15 (F := Ideal) x) (k0_pay16 (F := Ideal) x) = y
  replace e : tab x = y := e
  rw [e]
  pointwise []

set_option maxRecDepth 16384 in
theorem pay9_apply (r : Fin 256) (c : Fin 768) :
    (k0_pay9 (F := Ideal) (k0_pay12 (F := Ideal) x) (k0_pay11 (F := Ideal) x) (k0_pay13 (F := Ideal) x) 64#32 (k0_pay14 (F := Ideal) x) (k0_pay15 (F := Ideal) x) (k0_pay16 (F := Ideal) x) (ix4 0 0 r c) : EReal)
      = if 512 ≤ c.val then (tab x (ix2 r c) : EReal) else ⊥ := by
  unfold k0_pay9
  generalize e : k0_pay7 (F := Ideal) (k0_pay12 (F := Ideal) x) (k0_pay11 (F := Ideal) x) (k0_pay13 (F := Ideal) x) 64#32 (k0_pay14 (F := Ideal) x) (k0_pay15 (F := Ideal) x) (k0_pay16 (F := Ideal) x) = y
  replace e : tab x = y := e
  rw [e]
  pointwise [k0_pay11]
  try rw [masked_eq]
  exact select_eq _ _ (past512 c) _ _

set_option maxRecDepth 16384 in
theorem pay10_apply (r : Fin 256) (c : Fin 768) :
    (k0_pay1 (F := Ideal) (k0_pay10 (F := Ideal) (k0_pay12 (F := Ideal) x) (k0_pay11 (F := Ideal) x) (k0_pay13 (F := Ideal) x) 64#32 (k0_pay14 (F := Ideal) x) (k0_pay15 (F := Ideal) x) (k0_pay16 (F := Ideal) x)) (ix4 0 0 r c) : EReal)
      = if 256 ≤ c.val then (tab x (ix2 r c) : EReal) else ⊥ := by
  unfold k0_pay1 k0_pay10
  generalize e : k0_pay7 (F := Ideal) (k0_pay12 (F := Ideal) x) (k0_pay11 (F := Ideal) x) (k0_pay13 (F := Ideal) x) 64#32 (k0_pay14 (F := Ideal) x) (k0_pay15 (F := Ideal) x) (k0_pay16 (F := Ideal) x) = y
  replace e : tab x = y := e
  rw [e]
  pointwise [k0_pay11]
  try rw [masked_eq]
  exact select_eq _ _ (past256 c) _ _

/-- A tile's attention over its window of keys and values. -/
def core (K V : FVec Ideal S768x64 .bf16) (q : FVec Ideal S1x256x64 .bf16) (t : FVec Ideal S1x1x256x768 .f32) : FVec Ideal S1x256x64 .bf16 :=
  have s : FVec Ideal S256x768 .f32 := addf (matmul dot_S256x64_S768x64_S256x768_1_1_0_0_n_n none (shapeCast S256x64 q shapeCasts_S1x256x64_S256x64) K (constant S256x768 .f32 0x00000000#32))
    (shapeCast S256x768 t shapeCasts_S1x1x256x768_S256x768)
  have e : FVec Ideal S256x768 .f32 := exp (subf s (broadcastTo S256x768 (shapeCast S256x1 (multiReduction .maximumf [1] S256 s 0xFF800000#32 reduces_S256x768_S256 (.inl rfl) rfl) shapeCasts_S256_S256x1) broadcasts_S256x1_S256x768))
  shapeCast S1x256x64 (truncf .bf16 (divf (matmul dot_S256x768_S768x64_S256x64_1_0_0_1_n_n none (truncf .bf16 e bitsLt_bf16_f32) V (constant S256x64 .f32 0x00000000#32))
    (broadcastTo S256x64 (shapeCast S256x1 (multiReduction .add [1] S256 e 0x00000000#32 reduces_S256x768_S256 (.inl rfl) rfl) shapeCasts_S256_S256x1) broadcasts_S256x1_S256x64)) bitsLt_bf16_f32) shapeCasts_S256x64_S1x256x64

/-- The keys of the first tile's window and of the second's. -/
def win0 (a b : FVec Ideal S1x512x64 .bf16) : FVec Ideal S768x64 .bf16 := extractStridedSlice S768x64 ![0, 0] (k1_pay2 (F := Ideal) a b) slices_S1024x64_o0_0_S768x64
def win1 (a b : FVec Ideal S1x512x64 .bf16) : FVec Ideal S768x64 .bf16 := extractStridedSlice S768x64 ![256, 0] (k1_pay2 (F := Ideal) a b) slices_S1024x64_o256_0_S768x64

set_option maxRecDepth 16384 in
theorem win0_apply (a b : FVec Ideal S1x512x64 .bf16) (c : Fin 768) (d : Fin 64) :
    (win0 a b (ix2 c d) : EReal) = if h : c.val < 512 then (a (ix3 0 ⟨c.val, h⟩ d) : EReal) else b (ix3 0 ⟨c.val - 512, by omega⟩ d) := by
  pointwise [win0, k1_pay2]

set_option maxRecDepth 16384 in
theorem win1_apply (a b : FVec Ideal S1x512x64 .bf16) (c : Fin 768) (d : Fin 64) :
    (win1 a b (ix2 c d) : EReal) = if h : 256 + c.val < 512 then (a (ix3 0 ⟨256 + c.val, h⟩ d) : EReal) else b (ix3 0 ⟨256 + c.val - 512, by omega⟩ d) := by
  pointwise [win1, k1_pay2]

set_option maxRecDepth 16384 in
theorem core_apply (K V : FVec Ideal S768x64 .bf16) (q : FVec Ideal S1x256x64 .bf16) (t : FVec Ideal S1x1x256x768 .f32) (r : Fin 256) (d : Fin 64) :
    (core K V q t (ix3 0 r d) : EReal) = val (fun c => (∑ d, (q (ix3 0 r d) : EReal) * K (ix2 c d)) + t (ix4 0 0 r c)) fun c => (V (ix2 c d) : EReal) := by
  pointwise [core]
  rfl

section
variable (k0 k1 v0 v1 : FVec Ideal S1x512x64 .bf16) (q : FVec Ideal S1x256x64 .bf16) (t : FVec Ideal S1x1x256x768 .f32)

theorem p0 : k1_pay5 (F := Ideal) (k1_pay4 (F := Ideal) k0 k1 v0 v1 q t) = core (win0 k0 k1) (win0 v0 v1) q t := rfl
theorem p1 : k1_pay10 (F := Ideal) (k1_pay7 (F := Ideal) k0 k1) (k1_pay8 (F := Ideal) v0) v1 q t = core (win0 k0 k1) (win0 v0 v1) q t := rfl
theorem p2 : k1_pay18 (F := Ideal) (k1_pay15 (F := Ideal) v0 v1) (k1_pay16 (F := Ideal) k0 k1 q t) (k1_pay17 (F := Ideal) k0 k1 q t) = core (win0 k0 k1) (win0 v0 v1) q t := rfl
theorem p3 : k1_pay22 (F := Ideal) k0 k1 v0 v1 q t = core (win0 k0 k1) (win0 v0 v1) q t := rfl
theorem p4 : k1_pay6 (F := Ideal) (k1_pay2 (F := Ideal) k0 k1) (k1_pay3 (F := Ideal) v0 v1) q t = core (win1 k0 k1) (win1 v0 v1) q t := rfl
theorem p5 : k1_pay13 (F := Ideal) (k1_pay9 (F := Ideal) (k1_pay8 (F := Ideal) v0) v1) (k1_pay11 (F := Ideal) (k1_pay7 (F := Ideal) k0 k1) q t) (k1_pay12 (F := Ideal) (k1_pay7 (F := Ideal) k0 k1) q t)
    = core (win1 k0 k1) (win1 v0 v1) q t := rfl
theorem p6 : k1_pay19 (F := Ideal) (k1_pay14 (F := Ideal) k0 k1) (k1_pay15 (F := Ideal) v0 v1) q t = core (win1 k0 k1) (win1 v0 v1) q t := rfl
theorem p7 : k1_pay1 (F := Ideal) (k1_pay20 (F := Ideal) k0 k1) (k1_pay21 (F := Ideal) v0 v1) q t = core (win1 k0 k1) (win1 v0 v1) q t := rfl

end

end Cert.Proof.Ca

end
-- ==== Proof.Ca.Out.lean ====
/-
  What a point of the tables' grid, and one of the attention's, leaves of its output block.
-/
module

public import proofs.«01_k».proof.Proof.Ca.Pay

@[expose] public section

noncomputable section

namespace Cert.Proof.Ca

open Idealize Idealize.ShloMosaic Cert.Kernel5Ideal Cert.Kernel5Ideal.Gen Cert.Proof.Tb

/-- The first key a table lets through. -/
def lo (t : Fin 3) : ℕ := if t.val = 0 then 0 else if t.val = 1 then 512 else 256

theorem piece4 (P : FVec Ideal S1x1x256x768 .f32) (g : Fin 256 → Fin 768 → EReal) (hP : ∀ r c, (P (ix4 0 0 r c) : EReal) = g r c)
    (x : S1x1x256x768.Idx) (r : Fin 256) (c : Fin 768) (h2 : (x 2).val = r.val) (h3 : (x 3).val = c.val) : (P x : EReal) = g r c := by
  have hx : x = ix4 (0 : Fin 1) (0 : Fin 1) r c := by
    funext a
    match a with
    | ⟨0, _⟩ => exact Subsingleton.elim (α := Fin 1) _ _
    | ⟨1, _⟩ => exact Subsingleton.elim (α := Fin 1) _ _
    | ⟨2, _⟩ => exact Fin.ext h2
    | ⟨3, _⟩ => exact Fin.ext h3
  rw [hx]
  exact hP r c

theorem tables_apply (x : FVec Ideal S1x1x1536 .f32) (t : Fin 3) (r : Fin 256) (c : Fin 768) :
    (out0_1 (F := Ideal) x (ix4 t 0 r c) : EReal) = if lo t ≤ c.val then (tab x (ix2 r c) : EReal) else ⊥ := by
  refine View.canon_eq_of_allAt _ _ _ (cover0_1 _ _ _ _) ?_
  intro p hp y hy
  simp only [List.mem_cons, List.not_mem_nil, or_false] at hp
  rcases hp with rfl | rfl | rfl
  · have e0 : 2 + 1 * (y 0).val = t.val := congrArg (fun z : S3x1x256x768.Idx => (z 0).val) hy
    have e2 : 0 + 1 * (y 2).val = r.val := congrArg (fun z : S3x1x256x768.Idx => (z 2).val) hy
    have e3 : 0 + 1 * (y 3).val = c.val := congrArg (fun z : S3x1x256x768.Idx => (z 3).val) hy
    have el : lo t = 256 := by unfold lo; rw [if_neg (by omega), if_neg (by omega)]
    rw [el]
    exact piece4 _ (fun r c => if 256 ≤ c.val then (tab x (ix2 r c) : EReal) else ⊥) (pay10_apply x) y r c (by omega) (by omega)
  · have e0 : 1 + 1 * (y 0).val = t.val := congrArg (fun z : S3x1x256x768.Idx => (z 0).val) hy
    have l0 : (y 0).val < 1 := (y 0).isLt
    have e2 : 0 + 1 * (y 2).val = r.val := congrArg (fun z : S3x1x256x768.Idx => (z 2).val) hy
    have e3 : 0 + 1 * (y 3).val = c.val := congrArg (fun z : S3x1x256x768.Idx => (z 3).val) hy
    have el : lo t = 512 := by unfold lo; rw [if_neg (by omega), if_pos (by omega)]
    rw [el]
    exact piece4 _ (fun r c => if 512 ≤ c.val then (tab x (ix2 r c) : EReal) else ⊥) (pay9_apply x) y r c (by omega) (by omega)
  · have e0 : 0 + 1 * (y 0).val = t.val := congrArg (fun z : S3x1x256x768.Idx => (z 0).val) hy
    have l0 : (y 0).val < 1 := (y 0).isLt
    have e2 : 0 + 1 * (y 2).val = r.val := congrArg (fun z : S3x1x256x768.Idx => (z 2).val) hy
    have e3 : 0 + 1 * (y 3).val = c.val := congrArg (fun z : S3x1x256x768.Idx => (z 3).val) hy
    have el : lo t = 0 := by unfold lo; rw [if_pos (by omega)]
    rw [el, if_pos (Nat.zero_le _)]
    exact piece4 _ (fun r c => (tab x (ix2 r c) : EReal)) (pay8_apply x) y r c (by omega) (by omega)

/-- A row of two blocks one after the other. -/
def cat (a b : FVec Ideal S1x512x256 .bf16) (n : Fin 1024) (l : Fin 256) : EReal :=
  if h : n.val < 512 then a (ix3 0 ⟨n.val, h⟩ l) else b (ix3 0 ⟨n.val - 512, by omega⟩ l)

section
variable (x0 x1 x2 x3 x4 : FVec Ideal S1x512x256 .bf16) (x5 x6 : FVec Ideal S1x4x256x768 .f32)

/-- A lane of one head. -/
def lane (h : Fin 4) (d : Fin 64) : Fin 256 := ⟨64 * h.val + d.val, by omega⟩

/-- A tile's result for one head. -/
def res (s : Fin 2) (h : Fin 4) (r : Fin 256) (d : Fin 64) : EReal :=
  val (fun c : Fin 768 => (∑ e, (x0 (ix3 0 ⟨256 * s.val + r.val, by omega⟩ (lane h e)) : EReal) * cat x1 x2 ⟨256 * s.val + c.val, by omega⟩ (lane h e))
      + (if s.val = 0 then x5 (ix4 0 h r c) else x6 (ix4 0 h r c) : EReal))
    fun c => cat x3 x4 ⟨256 * s.val + c.val, by omega⟩ (lane h d)

theorem ldk (X : FVec Ideal S1x512x256 .bf16) (h : Fin 4) (o : ℕ) (ho : o = 64 * h.val) (inb) (n : Fin 512) (d : Fin 64) :
    (View.ld (Val := Elt Ideal) (e' := .bf16) X (Rect.unit (s := S1x512x256) ![0, 0, o] S1x512x64.size inb) (ix3 0 n d) : EReal) = X (ix3 0 n (lane h d)) := by
  subst ho
  refine congrArg X (funext fun a => Fin.ext ?_)
  match a with
  | ⟨0, _⟩ => rfl
  | ⟨1, _⟩ => show 0 + 1 * n.val = n.val; omega
  | ⟨2, _⟩ => show 64 * h.val + 1 * d.val = 64 * h.val + d.val; omega

theorem ldq (X : FVec Ideal S1x512x256 .bf16) (s : Fin 2) (h : Fin 4) (o o' : ℕ) (ho : o = 256 * s.val) (ho' : o' = 64 * h.val) (inb) (r : Fin 256) (d : Fin 64) :
    (View.ld (Val := Elt Ideal) (e' := .bf16) X (Rect.unit (s := S1x512x256) ![0, o, o'] S1x256x64.size inb) (ix3 0 r d) : EReal)
      = X (ix3 0 ⟨256 * s.val + r.val, by omega⟩ (lane h d)) := by
  subst ho ho'
  refine congrArg X (funext fun a => Fin.ext ?_)
  match a with
  | ⟨0, _⟩ => rfl
  | ⟨1, _⟩ => show 256 * s.val + 1 * r.val = 256 * s.val + r.val; omega
  | ⟨2, _⟩ => show 64 * h.val + 1 * d.val = 64 * h.val + d.val; omega

theorem ldt (X : FVec Ideal S1x4x256x768 .f32) (h : Fin 4) (o : ℕ) (ho : o = h.val) (inb) (r : Fin 256) (c : Fin 768) :
    (View.ld (Val := Elt Ideal) (e' := .f32) X (Rect.unit (s := S1x4x256x768) ![0, o, 0, 0] S1x1x256x768.size inb) (ix4 0 0 r c) : EReal) = X (ix4 0 h r c) := by
  subst ho
  refine congrArg X (funext fun a => Fin.ext ?_)
  match a with
  | ⟨0, _⟩ => rfl
  | ⟨1, _⟩ => rfl
  | ⟨2, _⟩ => show 0 + 1 * r.val = r.val; omega
  | ⟨3, _⟩ => show 0 + 1 * c.val = c.val; omega

section
variable {x0 x1 x2 x3 x4 x5 x6}
variable {k0 k1 v0 v1 : FVec Ideal S1x512x64 .bf16} {q : FVec Ideal S1x256x64 .bf16} {t : FVec Ideal S1x1x256x768 .f32} {h : Fin 4}
  (hk0 : ∀ n d, (k0 (ix3 0 n d) : EReal) = x1 (ix3 0 n (lane h d))) (hk1 : ∀ n d, (k1 (ix3 0 n d) : EReal) = x2 (ix3 0 n (lane h d)))
  (hv0 : ∀ n d, (v0 (ix3 0 n d) : EReal) = x3 (ix3 0 n (lane h d))) (hv1 : ∀ n d, (v1 (ix3 0 n d) : EReal) = x4 (ix3 0 n (lane h d)))
include hk0 hk1 hv0 hv1

theorem core0 (hq : ∀ r d, (q (ix3 0 r d) : EReal) = x0 (ix3 0 ⟨256 * (0 : Fin 2).val + r.val, by omega⟩ (lane h d))) (ht : ∀ r c, (t (ix4 0 0 r c) : EReal) = x5 (ix4 0 h r c))
    (r : Fin 256) (d : Fin 64) : (core (win0 k0 k1) (win0 v0 v1) q t (ix3 0 r d) : EReal) = res x0 x1 x2 x3 x4 x5 x6 0 h r d := by
  refine (core_apply _ _ q t r d).trans ?_
  unfold res
  have hw : ∀ (a b : FVec Ideal S1x512x64 .bf16) (A B : FVec Ideal S1x512x256 .bf16), (∀ n d, (a (ix3 0 n d) : EReal) = A (ix3 0 n (lane h d))) →
      (∀ n d, (b (ix3 0 n d) : EReal) = B (ix3 0 n (lane h d))) → ∀ (c : Fin 768) d, (win0 a b (ix2 c d) : EReal) = cat A B ⟨256 * (0 : Fin 2).val + c.val, by show 256 * 0 + c.val < _; omega⟩ (lane h d) := by
    intro a b A B hA hB c d
    rw [win0_apply]
    unfold cat
    simp only [hA, hB, Fin.val_zero, Nat.mul_zero, Nat.zero_add]
  simp only [hw k0 k1 x1 x2 hk0 hk1, hw v0 v1 x3 x4 hv0 hv1, hq, ht]
  rfl

theorem core1 (hq : ∀ r d, (q (ix3 0 r d) : EReal) = x0 (ix3 0 ⟨256 * (1 : Fin 2).val + r.val, by show 256 * 1 + r.val < _; omega⟩ (lane h d))) (ht : ∀ r c, (t (ix4 0 0 r c) : EReal) = x6 (ix4 0 h r c))
    (r : Fin 256) (d : Fin 64) : (core (win1 k0 k1) (win1 v0 v1) q t (ix3 0 r d) : EReal) = res x0 x1 x2 x3 x4 x5 x6 1 h r d := by
  refine (core_apply _ _ q t r d).trans ?_
  unfold res
  have hw : ∀ (a b : FVec Ideal S1x512x64 .bf16) (A B : FVec Ideal S1x512x256 .bf16), (∀ n d, (a (ix3 0 n d) : EReal) = A (ix3 0 n (lane h d))) →
      (∀ n d, (b (ix3 0 n d) : EReal) = B (ix3 0 n (lane h d))) → ∀ (c : Fin 768) d, (win1 a b (ix2 c d) : EReal) = cat A B ⟨256 * (1 : Fin 2).val + c.val, by show 256 * 1 + c.val < _; omega⟩ (lane h d) := by
    intro a b A B hA hB c d
    rw [win1_apply]
    unfold cat
    simp only [hA, hB, Fin.val_one, Nat.mul_one]
  simp only [hw k0 k1 x1 x2 hk0 hk1, hw v0 v1 x3 x4 hv0 hv1, hq, ht]
  rfl

end

theorem piece3 (P : FVec Ideal S1x256x64 .bf16) (s : Fin 2) (h : Fin 4) (hP : ∀ r d, (P (ix3 0 r d) : EReal) = res x0 x1 x2 x3 x4 x5 x6 s h r d)
    (x : S1x256x64.Idx) (R : Fin 512) (L : Fin 256) (h1 : 256 * s.val + (x 1).val = R.val) (h2 : 64 * h.val + (x 2).val = L.val) :
    (P x : EReal) = res x0 x1 x2 x3 x4 x5 x6 ⟨R.val / 256, by omega⟩ ⟨L.val / 64, by omega⟩ ⟨R.val % 256, Nat.mod_lt _ (by decide)⟩ ⟨L.val % 64, Nat.mod_lt _ (by decide)⟩ := by
  have l1 : (x 1).val < 256 := (x 1).isLt
  have l2 : (x 2).val < 64 := (x 2).isLt
  have es : (⟨R.val / 256, by omega⟩ : Fin 2) = s := Fin.ext (by dsimp only; omega)
  have eh : (⟨L.val / 64, by omega⟩ : Fin 4) = h := Fin.ext (by dsimp only; omega)
  rw [es, eh]
  have hx : x = ix3 (0 : Fin 1) (⟨R.val % 256, Nat.mod_lt _ (by decide)⟩ : Fin 256) (⟨L.val % 64, Nat.mod_lt _ (by decide)⟩ : Fin 64) := by
    funext a
    match a with
    | ⟨0, _⟩ => exact Subsingleton.elim (α := Fin 1) _ _
    | ⟨1, _⟩ => exact Fin.ext (by show (x 1).val = R.val % 256; omega)
    | ⟨2, _⟩ => exact Fin.ext (by show (x 2).val = L.val % 64; omega)
  rw [hx]
  exact hP _ _

theorem attention_apply (R : Fin 512) (L : Fin 256) :
    (out1_7 (F := Ideal) x0 x1 x2 x3 x4 x5 x6 (ix3 0 R L) : EReal)
      = res x0 x1 x2 x3 x4 x5 x6 ⟨R.val / 256, by omega⟩ ⟨L.val / 64, by omega⟩ ⟨R.val % 256, Nat.mod_lt _ (by decide)⟩ ⟨L.val % 64, Nat.mod_lt _ (by decide)⟩ := by
  refine View.canon_eq_of_allAt _ _ _ (cover1_7 _ _ _ _ _ _ _ _ _) ?_
  intro p hp y hy
  have e1 := congrArg (fun z : S1x512x256.Idx => (z 1).val) hy
  have e2 := congrArg (fun z : S1x512x256.Idx => (z 2).val) hy
  simp only [List.mem_cons, List.not_mem_nil, or_false] at hp
  rcases hp with rfl | rfl | rfl | rfl | rfl | rfl | rfl | rfl
  · replace e1 : 256 + 1 * (y 1).val = R.val := e1
    replace e2 : 192 + 1 * (y 2).val = L.val := e2
    refine piece3 x0 x1 x2 x3 x4 x5 x6 _ 1 3 (fun r d => ?_) y R L (by show 256 * 1 + _ = _; omega) (by show 64 * 3 + _ = _; omega)
    exact (congrFun (p7 _ _ _ _ _ _) _).trans (core1 (ldk x1 3 192 rfl _) (ldk x2 3 192 rfl _) (ldk x3 3 192 rfl _) (ldk x4 3 192 rfl _) (ldq x0 1 3 256 192 rfl rfl _) (ldt x6 3 3 rfl _) r d)
  · replace e1 : 0 + 1 * (y 1).val = R.val := e1
    replace e2 : 192 + 1 * (y 2).val = L.val := e2
    refine piece3 x0 x1 x2 x3 x4 x5 x6 _ 0 3 (fun r d => ?_) y R L (by show 256 * 0 + _ = _; omega) (by show 64 * 3 + _ = _; omega)
    exact (congrFun (p3 _ _ _ _ _ _) _).trans (core0 (ldk x1 3 192 rfl _) (ldk x2 3 192 rfl _) (ldk x3 3 192 rfl _) (ldk x4 3 192 rfl _) (ldq x0 0 3 0 192 rfl rfl _) (ldt x5 3 3 rfl _) r d)
  · replace e1 : 256 + 1 * (y 1).val = R.val := e1
    replace e2 : 128 + 1 * (y 2).val = L.val := e2
    refine piece3 x0 x1 x2 x3 x4 x5 x6 _ 1 2 (fun r d => ?_) y R L (by show 256 * 1 + _ = _; omega) (by show 64 * 2 + _ = _; omega)
    exact (congrFun (p6 _ _ _ _ _ _) _).trans (core1 (ldk x1 2 128 rfl _) (ldk x2 2 128 rfl _) (ldk x3 2 128 rfl _) (ldk x4 2 128 rfl _) (ldq x0 1 2 256 128 rfl rfl _) (ldt x6 2 2 rfl _) r d)
  · replace e1 : 0 + 1 * (y 1).val = R.val := e1
    replace e2 : 128 + 1 * (y 2).val = L.val := e2
    refine piece3 x0 x1 x2 x3 x4 x5 x6 _ 0 2 (fun r d => ?_) y R L (by show 256 * 0 + _ = _; omega) (by show 64 * 2 + _ = _; omega)
    exact (congrFun (p2 _ _ _ _ _ _) _).trans (core0 (ldk x1 2 128 rfl _) (ldk x2 2 128 rfl _) (ldk x3 2 128 rfl _) (ldk x4 2 128 rfl _) (ldq x0 0 2 0 128 rfl rfl _) (ldt x5 2 2 rfl _) r d)
  · replace e1 : 256 + 1 * (y 1).val = R.val := e1
    replace e2 : 64 + 1 * (y 2).val = L.val := e2
    refine piece3 x0 x1 x2 x3 x4 x5 x6 _ 1 1 (fun r d => ?_) y R L (by show 256 * 1 + _ = _; omega) (by show 64 * 1 + _ = _; omega)
    exact (congrFun (p5 _ _ _ _ _ _) _).trans (core1 (ldk x1 1 64 rfl _) (ldk x2 1 64 rfl _) (ldk x3 1 64 rfl _) (ldk x4 1 64 rfl _) (ldq x0 1 1 256 64 rfl rfl _) (ldt x6 1 1 rfl _) r d)
  · replace e1 : 0 + 1 * (y 1).val = R.val := e1
    replace e2 : 64 + 1 * (y 2).val = L.val := e2
    refine piece3 x0 x1 x2 x3 x4 x5 x6 _ 0 1 (fun r d => ?_) y R L (by show 256 * 0 + _ = _; omega) (by show 64 * 1 + _ = _; omega)
    exact (congrFun (p1 _ _ _ _ _ _) _).trans (core0 (ldk x1 1 64 rfl _) (ldk x2 1 64 rfl _) (ldk x3 1 64 rfl _) (ldk x4 1 64 rfl _) (ldq x0 0 1 0 64 rfl rfl _) (ldt x5 1 1 rfl _) r d)
  · replace e1 : 256 + 1 * (y 1).val = R.val := e1
    replace e2 : 0 + 1 * (y 2).val = L.val := e2
    refine piece3 x0 x1 x2 x3 x4 x5 x6 _ 1 0 (fun r d => ?_) y R L (by show 256 * 1 + _ = _; omega) (by show 64 * 0 + _ = _; omega)
    exact (congrFun (p4 _ _ _ _ _ _) _).trans (core1 (ldk x1 0 0 rfl _) (ldk x2 0 0 rfl _) (ldk x3 0 0 rfl _) (ldk x4 0 0 rfl _) (ldq x0 1 0 256 0 rfl rfl _) (ldt x6 0 0 rfl _) r d)
  · replace e1 : 0 + 1 * (y 1).val = R.val := e1
    replace e2 : 0 + 1 * (y 2).val = L.val := e2
    refine piece3 x0 x1 x2 x3 x4 x5 x6 _ 0 0 (fun r d => ?_) y R L (by show 256 * 0 + _ = _; omega) (by show 64 * 0 + _ = _; omega)
    exact (congrFun (p0 _ _ _ _ _ _) _).trans (core0 (ldk x1 0 0 rfl _) (ldk x2 0 0 rfl _) (ldk x3 0 0 rfl _) (ldk x4 0 0 rfl _) (ldq x0 0 0 0 0 rfl rfl _) (ldt x5 0 0 rfl _) r d)

end

end Cert.Proof.Ca

end
-- ==== Proof.Ca.Blocks.lean ====
/-
  The blocks a point reads of the arrays as a region finds them, and the arrays the regions leave.
-/
module

public import proofs.«01_k».proof.Proof.Ca.Out

@[expose] public section

noncomputable section

namespace Cert.Proof.Ca

open Idealize Idealize.ShloMosaic Cert.Kernel5Ideal Cert.Kernel5Ideal.Gen Cert.Proof.Tb

section
variable (V : (c : Dev nD) → (b : Ref sig .tc) → Buf (Elt Ideal) ((c.tc : Thread nD τ).loc b))

abbrev aP (c : Dev nD) : FVec Ideal S2x8192x3072 .bf16 := V c main_arg0
abbrev aD (c : Dev nD) : FVec Ideal S8x1x1536 .f32 := V c main_v18
abbrev aT (c : Dev nD) : FVec Ideal S3x8x256x768 .f32 := V c main_v19

theorem idx00 : ∀ t : Fin grid0.N, win0_0.index t 0 = t.val ∧ win0_0.index t 1 = 0 ∧ win0_0.index t 2 = 0 := by decide +kernel
theorem idx01 : ∀ t : Fin grid0.N, win0_1.index t 0 = 0 ∧ win0_1.index t 1 = t.val ∧ win0_1.index t 2 = 0 ∧ win0_1.index t 3 = 0 := by decide +kernel
theorem idx10 : ∀ t : Fin grid1.N, win1_0.index t 0 = t.val / 32 ∧ win1_0.index t 1 = t.val % 16 ∧ win1_0.index t 2 = t.val / 16 % 2 := by decide +kernel
theorem idx11 : ∀ t : Fin grid1.N, win1_1.index t 0 = t.val / 32 ∧ win1_1.index t 1 = t.val % 16 - 1 ∧ win1_1.index t 2 = 2 + t.val / 16 % 2 := by decide +kernel
theorem idx12 : ∀ t : Fin grid1.N, win1_2.index t 0 = t.val / 32 ∧ win1_2.index t 1 = t.val % 16 ∧ win1_2.index t 2 = 2 + t.val / 16 % 2 := by decide +kernel
theorem idx13 : ∀ t : Fin grid1.N, win1_3.index t 0 = t.val / 32 ∧ win1_3.index t 1 = t.val % 16 - 1 ∧ win1_3.index t 2 = 4 + t.val / 16 % 2 := by decide +kernel
theorem idx14 : ∀ t : Fin grid1.N, win1_4.index t 0 = t.val / 32 ∧ win1_4.index t 1 = t.val % 16 ∧ win1_4.index t 2 = 4 + t.val / 16 % 2 := by decide +kernel
theorem idx15 : ∀ t : Fin grid1.N, win1_5.index t 0 = (if t.val % 16 = 0 then 1 else 0) ∧ win1_5.index t 1 = t.val / 16 % 2 ∧ win1_5.index t 2 = 0 ∧ win1_5.index t 3 = 0 := by decide +kernel
theorem idx16 : ∀ t : Fin grid1.N, win1_6.index t 0 = (if t.val % 16 = 0 then 2 else 0) ∧ win1_6.index t 1 = t.val / 16 % 2 ∧ win1_6.index t 2 = 0 ∧ win1_6.index t 3 = 0 := by decide +kernel
theorem idx17 : ∀ t : Fin grid1.N, win1_7.index t 0 = t.val / 32 ∧ win1_7.index t 1 = t.val % 16 ∧ win1_7.index t 2 = t.val / 16 % 2 := by decide +kernel

theorem lt64 (t : Fin grid1.N) : t.val < 64 := t.isLt
theorem lt8 (t : Fin grid0.N) : t.val < 8 := t.isLt

/-- A point's head among all. -/
def hd (t : Fin grid1.N) (h : Fin 4) : Fin 8 := ⟨4 * (t.val / 16 % 2) + h.val, by omega⟩
/-- A point's sequence. -/
def bt (t : Fin grid1.N) : Fin 2 := ⟨t.val / 32, by have := lt64 t; omega⟩

variable (c : Dev nD)

theorem b00 (t : Fin grid0.N) (k : Fin 1536) : iblk0 V c 0 t (ix3 0 0 k) = aD V c (ix3 ⟨t.val, lt8 t⟩ 0 k) := by
  obtain ⟨h0, h1, h2⟩ := idx00 t
  show aD V c ((cfg0.win 0).blk t |>.view.emb (ix3 0 0 k)) = _
  congr 1
  funext a
  apply Fin.ext
  match a with
  | ⟨0, _⟩ => show win0_0.index t 0 * 1 + 1 * 0 = t.val; omega
  | ⟨1, _⟩ => show win0_0.index t 1 * 1 + 1 * 0 = 0; omega
  | ⟨2, _⟩ => show win0_0.index t 2 * 1536 + 1 * k.val = k.val; omega

theorem b10 (t : Fin grid1.N) (r : Fin 512) (h : Fin 4) (d : Fin 64) :
    iblk1 V c 0 t (ix3 0 r (lane h d)) = aP V c (ix3 (bt t) ⟨512 * (t.val % 16) + r.val, by omega⟩ ⟨64 * (hd t h).val + d.val, by omega⟩) := by
  obtain ⟨h0, h1, h2⟩ := idx10 t
  show aP V c ((cfg1.win 0).blk t |>.view.emb (ix3 0 r (lane h d))) = _
  congr 1
  funext a
  apply Fin.ext
  match a with
  | ⟨0, _⟩ => show win1_0.index t 0 * 1 + 1 * 0 = t.val / 32; omega
  | ⟨1, _⟩ => show win1_0.index t 1 * 512 + 1 * r.val = 512 * (t.val % 16) + r.val; omega
  | ⟨2, _⟩ => show win1_0.index t 2 * 256 + 1 * (64 * h.val + d.val) = 64 * (4 * (t.val / 16 % 2) + h.val) + d.val; omega

theorem b11 (t : Fin grid1.N) (r : Fin 512) (h : Fin 4) (d : Fin 64) :
    iblk1 V c 1 t (ix3 0 r (lane h d)) = aP V c (ix3 (bt t) ⟨512 * (t.val % 16 - 1) + r.val, by omega⟩ ⟨512 + (64 * (hd t h).val + d.val), by omega⟩) := by
  obtain ⟨h0, h1, h2⟩ := idx11 t
  show aP V c ((cfg1.win 1).blk t |>.view.emb (ix3 0 r (lane h d))) = _
  congr 1
  funext a
  apply Fin.ext
  match a with
  | ⟨0, _⟩ => show win1_1.index t 0 * 1 + 1 * 0 = t.val / 32; omega
  | ⟨1, _⟩ => show win1_1.index t 1 * 512 + 1 * r.val = 512 * (t.val % 16 - 1) + r.val; omega
  | ⟨2, _⟩ => show win1_1.index t 2 * 256 + 1 * (64 * h.val + d.val) = 512 + (64 * (4 * (t.val / 16 % 2) + h.val) + d.val); omega

theorem b12 (t : Fin grid1.N) (r : Fin 512) (h : Fin 4) (d : Fin 64) :
    iblk1 V c 2 t (ix3 0 r (lane h d)) = aP V c (ix3 (bt t) ⟨512 * (t.val % 16) + r.val, by omega⟩ ⟨512 + (64 * (hd t h).val + d.val), by omega⟩) := by
  obtain ⟨h0, h1, h2⟩ := idx12 t
  show aP V c ((cfg1.win 2).blk t |>.view.emb (ix3 0 r (lane h d))) = _
  congr 1
  funext a
  apply Fin.ext
  match a with
  | ⟨0, _⟩ => show win1_2.index t 0 * 1 + 1 * 0 = t.val / 32; omega
  | ⟨1, _⟩ => show win1_2.index t 1 * 512 + 1 * r.val = 512 * (t.val % 16) + r.val; omega
  | ⟨2, _⟩ => show win1_2.index t 2 * 256 + 1 * (64 * h.val + d.val) = 512 + (64 * (4 * (t.val / 16 % 2) + h.val) + d.val); omega

theorem b13 (t : Fin grid1.N) (r : Fin 512) (h : Fin 4) (d : Fin 64) :
    iblk1 V c 3 t (ix3 0 r (lane h d)) = aP V c (ix3 (bt t) ⟨512 * (t.val % 16 - 1) + r.val, by omega⟩ ⟨1024 + (64 * (hd t h).val + d.val), by omega⟩) := by
  obtain ⟨h0, h1, h2⟩ := idx13 t
  show aP V c ((cfg1.win 3).blk t |>.view.emb (ix3 0 r (lane h d))) = _
  congr 1
  funext a
  apply Fin.ext
  match a with
  | ⟨0, _⟩ => show win1_3.index t 0 * 1 + 1 * 0 = t.val / 32; omega
  | ⟨1, _⟩ => show win1_3.index t 1 * 512 + 1 * r.val = 512 * (t.val % 16 - 1) + r.val; omega
  | ⟨2, _⟩ => show win1_3.index t 2 * 256 + 1 * (64 * h.val + d.val) = 1024 + (64 * (4 * (t.val / 16 % 2) + h.val) + d.val); omega

theorem b14 (t : Fin grid1.N) (r : Fin 512) (h : Fin 4) (d : Fin 64) :
    iblk1 V c 4 t (ix3 0 r (lane h d)) = aP V c (ix3 (bt t) ⟨512 * (t.val % 16) + r.val, by omega⟩ ⟨1024 + (64 * (hd t h).val + d.val), by omega⟩) := by
  obtain ⟨h0, h1, h2⟩ := idx14 t
  show aP V c ((cfg1.win 4).blk t |>.view.emb (ix3 0 r (lane h d))) = _
  congr 1
  funext a
  apply Fin.ext
  match a with
  | ⟨0, _⟩ => show win1_4.index t 0 * 1 + 1 * 0 = t.val / 32; omega
  | ⟨1, _⟩ => show win1_4.index t 1 * 512 + 1 * r.val = 512 * (t.val % 16) + r.val; omega
  | ⟨2, _⟩ => show win1_4.index t 2 * 256 + 1 * (64 * h.val + d.val) = 1024 + (64 * (4 * (t.val / 16 % 2) + h.val) + d.val); omega

theorem b15 (t : Fin grid1.N) (h : Fin 4) (r : Fin 256) (k : Fin 768) :
    iblk1 V c 5 t (ix4 0 h r k) = aT V c (ix4 (if t.val % 16 = 0 then 1 else 0) (hd t h) r k) := by
  obtain ⟨h0, h1, h2, h3⟩ := idx15 t
  show aT V c ((cfg1.win 5).blk t |>.view.emb (ix4 0 h r k)) = _
  congr 1
  funext a
  apply Fin.ext
  match a with
  | ⟨0, _⟩ => show win1_5.index t 0 * 1 + 1 * 0 = (if t.val % 16 = 0 then (1 : Fin 3) else 0).val; rw [h0]; split <;> rfl
  | ⟨1, _⟩ => show win1_5.index t 1 * 4 + 1 * h.val = 4 * (t.val / 16 % 2) + h.val; omega
  | ⟨2, _⟩ => show win1_5.index t 2 * 256 + 1 * r.val = r.val; omega
  | ⟨3, _⟩ => show win1_5.index t 3 * 768 + 1 * k.val = k.val; omega

theorem b16 (t : Fin grid1.N) (h : Fin 4) (r : Fin 256) (k : Fin 768) :
    iblk1 V c 6 t (ix4 0 h r k) = aT V c (ix4 (if t.val % 16 = 0 then 2 else 0) (hd t h) r k) := by
  obtain ⟨h0, h1, h2, h3⟩ := idx16 t
  show aT V c ((cfg1.win 6).blk t |>.view.emb (ix4 0 h r k)) = _
  congr 1
  funext a
  apply Fin.ext
  match a with
  | ⟨0, _⟩ => show win1_6.index t 0 * 1 + 1 * 0 = (if t.val % 16 = 0 then (2 : Fin 3) else 0).val; rw [h0]; split <;> rfl
  | ⟨1, _⟩ => show win1_6.index t 1 * 4 + 1 * h.val = 4 * (t.val / 16 % 2) + h.val; omega
  | ⟨2, _⟩ => show win1_6.index t 2 * 256 + 1 * r.val = r.val; omega
  | ⟨3, _⟩ => show win1_6.index t 3 * 768 + 1 * k.val = k.val; omega

theorem inj01 : ∀ t t' : Fin grid0.N, win0_1.index t = win0_1.index t' → t = t' := by decide +kernel
theorem inj17 : ∀ t t' : Fin grid1.N, win1_7.index t = win1_7.index t' → t = t' := by decide +kernel

theorem tables (t : Fin 3) (h : Fin 8) (r : Fin 256) (k : Fin 768) :
    ((dat0 V c).arrAt 1 cfg0.N (ix4 t h r k) : EReal)
      = if lo t ≤ k.val then (if r.val / 64 ≤ k.val / 64 ∧ k.val / 64 ≤ r.val / 64 + 8 then
          (aD V c (ix3 h 0 ⟨(k.val + 1536 - r.val) % 1536, Nat.mod_lt _ (by decide)⟩) : EReal) else ⊥) else ⊥ := by
  obtain ⟨p, hp⟩ : ∃ p : Fin cfg0.N, p.val = h.val := ⟨⟨h.val, h.isLt⟩, rfl⟩
  have hb := congrFun ((dat0 V c).read_blk_arrAt_eq_flushed 1 (fun t t' _ _ hne => (cfg0.win 1).disjoint_blk fun h => hne (inj01 t t' h)) cfg0.N p p.isLt (flush0_1 p)) (ix4 t (0 : Fin 1) r k)
  obtain ⟨h0, h1, h2, h3⟩ := idx01 p
  have he : ((cfg0.win 1).blk p).view.emb (ix4 t (0 : Fin 1) r k) = (ix4 t h r k : S3x8x256x768.Idx) := by
    funext a
    apply Fin.ext
    match a with
    | ⟨0, _⟩ => show win0_1.index p 0 * 3 + 1 * t.val = t.val; omega
    | ⟨1, _⟩ => show win0_1.index p 1 * 1 + 1 * 0 = h.val; omega
    | ⟨2, _⟩ => show win0_1.index p 2 * 256 + 1 * r.val = r.val; omega
    | ⟨3, _⟩ => show win0_1.index p 3 * 768 + 1 * k.val = k.val; omega
  rw [← he]
  refine hb.trans ?_
  have ha : (dat0 V c).flushed 1 p = (cfg0.win 1).cut (grid0.coords p) (out0_1 (iblk0 V c 0 p)) := by
    show (cfg0.win 1).cut (grid0.coords p) ((dat0 V c).after 1 p) = _
    rw [after0_1]
  refine (congrFun ha _).trans ((tables_apply (iblk0 V c 0 p) t r k).trans ?_)
  rw [tab_apply, b00]
  have e : (⟨p.val, lt8 p⟩ : Fin 8) = h := Fin.ext hp
  rw [e]

theorem attention (b : Fin 2) (s : Fin 8192) (o : Fin 512) (p : Fin grid1.N) (hp : p.val = 32 * b.val + 16 * (o.val / 256) + s.val / 512) :
    ((dat1 V c).arrAt 7 cfg1.N (ix3 b s o) : EReal)
      = res (iblk1 V c 0 p) (iblk1 V c 1 p) (iblk1 V c 2 p) (iblk1 V c 3 p) (iblk1 V c 4 p) (iblk1 V c 5 p) (iblk1 V c 6 p)
        ⟨s.val % 512 / 256, by omega⟩ ⟨o.val % 256 / 64, by omega⟩ ⟨s.val % 512 % 256, Nat.mod_lt _ (by decide)⟩ ⟨o.val % 256 % 64, Nat.mod_lt _ (by decide)⟩ := by
  have hb := congrFun ((dat1 V c).read_blk_arrAt_eq_flushed 7 (fun t t' _ _ hne => (cfg1.win 7).disjoint_blk fun h => hne (inj17 t t' h)) cfg1.N p p.isLt (flush1_7 p))
    (ix3 (0 : Fin 1) (⟨s.val % 512, Nat.mod_lt _ (by decide)⟩ : Fin 512) (⟨o.val % 256, Nat.mod_lt _ (by decide)⟩ : Fin 256))
  obtain ⟨h0, h1, h2⟩ := idx17 p
  have he : ((cfg1.win 7).blk p).view.emb (ix3 (0 : Fin 1) (⟨s.val % 512, Nat.mod_lt _ (by decide)⟩ : Fin 512) (⟨o.val % 256, Nat.mod_lt _ (by decide)⟩ : Fin 256)) = (ix3 b s o : S2x8192x512.Idx) := by
    funext a
    apply Fin.ext
    match a with
    | ⟨0, _⟩ => show win1_7.index p 0 * 1 + 1 * 0 = b.val; omega
    | ⟨1, _⟩ => show win1_7.index p 1 * 512 + 1 * (s.val % 512) = s.val; omega
    | ⟨2, _⟩ => show win1_7.index p 2 * 256 + 1 * (o.val % 256) = o.val; omega
  rw [← he]
  refine hb.trans ?_
  have ha : (dat1 V c).flushed 7 p = (cfg1.win 7).cut (grid1.coords p)
      (out1_7 (iblk1 V c 0 p) (iblk1 V c 1 p) (iblk1 V c 2 p) (iblk1 V c 3 p) (iblk1 V c 4 p) (iblk1 V c 5 p) (iblk1 V c 6 p)) := by
    show (cfg1.win 7).cut (grid1.coords p) ((dat1 V c).after 7 p) = _
    rw [after1_7]
  exact (congrFun ha _).trans (attention_apply _ _ _ _ _ _ _ ⟨s.val % 512, Nat.mod_lt _ (by decide)⟩ ⟨o.val % 256, Nat.mod_lt _ (by decide)⟩)

end

end Cert.Proof.Ca

end
-- ==== Proof.Ca.Host.lean ====
/-
  The row of biases a table is rolled from.
-/
module

public import proofs.«01_k».proof.Proof.Ca.Blocks

@[expose] public section

noncomputable section

namespace Cert.Proof.Ca

open Idealize Idealize.ShloMosaic Cert.Kernel5Ideal Cert.Kernel5Ideal.Gen Cert.Proof.Tb

theorem gather_apply (x : FVec Ideal S8x257 .f32) (i : IVec S1536x1 32) (h : Fin 8) (k : Fin 1536) :
    Host.gather gather_S8x257_S1536x1_S8x1536_0_1_n_n_1_1_81 x i (ix2 h k) = x (ix2 h ⟨min (i (ix2 k 0)).toInt.toNat 256, by omega⟩) := by
  unfold Host.gather
  congr 1
  funext a
  apply Fin.ext
  match a with
  | ⟨0, _⟩ =>
    show gather_S8x257_S1536x1_S8x1536_0_1_n_n_1_1_81.start (ix2 h k) i 0 + gather_S8x257_S1536x1_S8x1536_0_1_n_n_1_1_81.batchCoord (ix2 h k) 0 + gather_S8x257_S1536x1_S8x1536_0_1_n_n_1_1_81.offCoord (ix2 h k) 0 = h.val
    rw [GatherDims.batchCoord_eq_zero _ _ _ (by decide)]
    unfold GatherDims.start GatherDims.offCoord
    rw [dif_neg (by decide), dif_pos (by decide)]
    show 0 + 0 + h.val = h.val
    omega
  | ⟨1, _⟩ =>
    show gather_S8x257_S1536x1_S8x1536_0_1_n_n_1_1_81.start (ix2 h k) i 1 + gather_S8x257_S1536x1_S8x1536_0_1_n_n_1_1_81.batchCoord (ix2 h k) 1 + gather_S8x257_S1536x1_S8x1536_0_1_n_n_1_1_81.offCoord (ix2 h k) 1 = min (i (ix2 k 0)).toInt.toNat 256
    rw [GatherDims.batchCoord_eq_zero _ _ _ (by decide), GatherDims.offCoord_eq_zero _ _ _ (by decide)]
    unfold GatherDims.start
    rw [dif_pos (by decide)]
    show min (i _).toInt.toNat 256 + 0 + 0 = _
    refine congrArg (fun z => min (i z).toInt.toNat 256) (funext fun b => ?_)
    match b with
    | ⟨0, _⟩ => rfl
    | ⟨1, _⟩ => rfl

/-- A place of the row, as the host takes it. -/
def place (k : BitVec 32) : BitVec 32 :=
  let z := IntOp.addi (IntOp.minsi 128#32 (IntOp.maxsi 4294967168#32 (Scalar.select (IntOp.cmpi .slt k 768#32) (IntOp.subi 512#32 k) (IntOp.subi 2048#32 k)))) 128#32
  Scalar.select (IntOp.cmpi .slt z 0#32) (IntOp.addi z 257#32) z

theorem place_eq : ∀ k : Fin 1536, (place (BitVec.ofNat 32 k.val)).toInt.toNat = if k.val < 768 then min (640 - k.val) 256 else min (2176 - k.val) 256 := by decide +kernel

variable (m : (ℓ : Loc nD τ sig) → Buf (Elt Ideal) ℓ) (ρ : Dev nD → PrngReg)

abbrev argP (c : Dev nD) : FVec Ideal S2x8192x3072 .bf16 := m ((c.tc : Thread nD τ).loc main_arg0)
abbrev argB (c : Dev nD) : FVec Ideal S8x257 .f32 := m ((c.tc : Thread nD τ).loc main_arg1)

/-- The row's places. -/
def places : IVec S1536x1 32 :=
  have v0 : IVec S1536 32 := iotaInDim S1536 32 0
  have v7 : IVec S1536 32 := select (cmpi .slt v0 (broadcastInDim S1536 ![] bcast_S_S1536 (constantI S_ 32 768#32))) (subi (broadcastInDim S1536 ![] bcast_S_S1536 (constantI S_ 32 512#32)) v0)
    (subi (broadcastInDim S1536 ![] bcast_S_S1536 (constantI S_ 32 2048#32)) v0)
  have v8 : IVec S1536 32 := minsi (broadcastInDim S1536 ![] bcast_S_S1536 (constantI S_ 32 128#32)) (maxsi (broadcastInDim S1536 ![] bcast_S_S1536 (constantI S_ 32 4294967168#32)) v7)
  have v10 : IVec S1536 32 := addi v8 (broadcastInDim S1536 ![] bcast_S_S1536 (constantI S_ 32 128#32))
  broadcastInDim S1536x1 ![0] bcast_S1536_S1536x1_0 (select (cmpi .slt v10 (broadcastInDim S1536 ![] bcast_S_S1536 (constantI S_ 32 0#32)))
    (addi v10 (broadcastInDim S1536 ![] bcast_S_S1536 (constantI S_ 32 257#32))) v10)

set_option maxRecDepth 16384 in
theorem places_apply (k : Fin 1536) : places (ix2 k 0) = place (BitVec.ofNat 32 k.val) := by
  pointwise [places]
  rfl

theorem row_eq (c : Dev nD) : W5 m ρ c (Proc.devRef .tc main_v18)
    = (broadcastInDim S8x1x1536 ![0, 2] bcast_S8x1536_S8x1x1536_0_2 (Host.gather gather_S8x257_S1536x1_S8x1536_0_1_n_n_1_1_81 (argB m c) places) : FVec Ideal S8x1x1536 .f32) := by
  unfold W5 W4 W3 W2 W1
  simp only [hostOps0, hostOps0_1, hostOps0_2, hostOps0_3, hostOps0_4, StableHlo.TRef.binary, StableHlo.TRef.ternary, StableHlo.TRef.unary, StableHlo.TRef.toBuf, StableHlo.TRef.ofBuf, cast_eq]
  after_results_simp
  rfl

set_option maxRecDepth 16384 in
theorem row_apply (c : Dev nD) (h : Fin 8) (k : Fin 1536) :
    (W5 m ρ c (Proc.devRef .tc main_v18) (ix3 h 0 k) : EReal)
      = (argB m c (ix2 h ⟨if k.val < 768 then min (640 - k.val) 256 else min (2176 - k.val) 256, by split <;> omega⟩) : EReal) := by
  have e := congrFun (row_eq m ρ c) (ix3 h 0 k)
  have g := gather_apply (argB m c) places h k
  generalize Host.gather gather_S8x257_S1536x1_S8x1536_0_1_n_n_1_1_81 (argB m c) places = y at e g
  refine e.trans ((show _ = y (ix2 h k) by pointwise []).trans (g.trans (congrArg (fun z => argB m c (ix2 h z)) (Fin.ext ?_))))
  show min (places (ix2 k 0)).toInt.toNat 256 = _
  rw [places_apply, place_eq]
  dsimp only
  split <;> omega

end Cert.Proof.Ca

end
-- ==== Proof.Ca.Run.lean ====
/-
  The chunked attention's result, and the run that ends with it.
-/
module

public import proofs.«01_k».proof.Proof.Ca.Host

@[expose] public section

noncomputable section

namespace Cert.Proof.Ca

open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.Proof.Tb

local notation "𝕄" => MT nD τ sig Unit (Elt Ideal) ℕ (UR sig nD τ) ℕ

variable (m : (ℓ : Loc nD τ sig) → Buf (Elt Ideal) ℓ) (ρ : Dev nD → PrngReg)

/-- The arguments. -/
def args (c : Dev nD) : Args := ⟨argP m c, argB m c⟩

theorem table_apply (c : Dev nD) (t : Fin 3) (h : Fin 8) (r : Fin 256) (k : Fin 768) :
    (aT (V6 m ρ) c (ix4 t h r k) : EReal) = (args m c).table h (lo t) r k := by
  refine (congrFun (W6_arr m ρ c 1) (ix4 t h r k)).trans ((tables (V5 m ρ) c t h r k).trans ?_)
  unfold Args.table
  by_cases h1 : lo t ≤ k.val
  · by_cases h2 : r.val / 64 ≤ k.val / 64 ∧ k.val / 64 ≤ r.val / 64 + 8
    · rw [if_pos h1, if_pos h2, if_pos ⟨h2, h1⟩]
      refine (row_apply m ρ c h _).trans (congrArg (fun z => argB m c (ix2 h z)) (Fin.ext ?_))
      show (if (k.val + 1536 - r.val) % 1536 < 768 then min (640 - (k.val + 1536 - r.val) % 1536) 256 else min (2176 - (k.val + 1536 - r.val) % 1536) 256) = min (512 + r.val + 128 - k.val) 256
      split <;> omega
    · rw [if_pos h1, if_neg h2, if_neg fun hh => h2 hh.1]
  · rw [if_neg h1, if_neg fun hh => h1 hh.2]

theorem arg_apply (c : Dev nD) : aP (V6 m ρ) c = argP m c := W6_args m ρ c main_arg0 (by decide)

theorem at_eq (c : Dev nD) {b b' : Fin 2} {s s' : Fin 8192} {o o' : Fin 3072} (hb : b = b') (hs : s = s') (ho : o.val = o'.val) :
    argP m c (ix3 b s o) = argP m c (ix3 b' s' o') := by
  obtain rfl := Fin.ext ho
  subst hb hs
  rfl

/-- The result. -/
def result (c : Dev nD) : FVec Ideal S2x8192x512 .bf16 := (dat1 (V6 m ρ) c).arrAt 7 cfg1.N

theorem result_apply (c : Dev nD) (b : Fin 2) (s : Fin 8192) (o : Fin 512) :
    (result m ρ c (ix3 b s o) : EReal) = (args m c).out b ⟨o.val / 64, by omega⟩ s ⟨o.val % 64, Nat.mod_lt _ (by decide)⟩ := by
  obtain ⟨p, hp⟩ : ∃ p : Fin grid1.N, p.val = 32 * b.val + 16 * (o.val / 256) + s.val / 512 :=
    ⟨⟨32 * b.val + 16 * (o.val / 256) + s.val / 512, (show _ < 64 by omega)⟩, rfl⟩
  have sl := s.isLt
  have ol := o.isLt
  have bl := b.isLt
  have hb : bt p = b := Fin.ext (by show p.val / 32 = b.val; omega)
  have hh : hd p ⟨o.val % 256 / 64, by omega⟩ = ⟨o.val / 64, by omega⟩ := Fin.ext (by show 4 * (p.val / 16 % 2) + o.val % 256 / 64 = o.val / 64; omega)
  have hm : p.val % 16 = s.val / 512 := by omega
  refine (attention (V6 m ρ) c b s o p hp).trans ?_
  have ed : (⟨o.val % 256 % 64, Nat.mod_lt _ (by decide)⟩ : Fin 64) = ⟨o.val % 64, Nat.mod_lt _ (by decide)⟩ := Fin.ext (by show o.val % 256 % 64 = o.val % 64; omega)
  unfold res
  rw [ed]
  refine (args m c).window b _ s _ (if s.val / 256 = 0 then 512 else if s.val / 256 = 1 then 256 else 0) ?_ ?_ _ _
    (fun k e => cat (iblk1 (V6 m ρ) c 1 p) (iblk1 (V6 m ρ) c 2 p) ⟨256 * (s.val % 512 / 256) + k.val, by omega⟩ (lane ⟨o.val % 256 / 64, by omega⟩ e)) ?_ ?_ ?_
  · intro h; split <;> (try split) <;> omega
  · intro h; rw [if_neg (by omega), if_neg (by omega)]
  · intro k u hu e
    show cat _ _ _ _ = argP m c (ix3 b u _)
    unfold cat
    split
    · rename_i hn
      dsimp only at hn
      refine (b11 (V6 m ρ) c p _ _ e).trans ?_
      rw [arg_apply]
      exact at_eq m c hb (Fin.ext (by show 512 * (p.val % 16 - 1) + (256 * (s.val % 512 / 256) + k.val) = u.val; omega)) (by show 512 + (64 * (hd p ⟨o.val % 256 / 64, by omega⟩).val + e.val) = 512 + (64 * (o.val / 64) + e.val); rw [hh])
    · rename_i hn
      dsimp only at hn
      refine (b12 (V6 m ρ) c p _ _ e).trans ?_
      rw [arg_apply]
      exact at_eq m c hb (Fin.ext (by show 512 * (p.val % 16) + (256 * (s.val % 512 / 256) + k.val - 512) = u.val; omega)) (by show 512 + (64 * (hd p ⟨o.val % 256 / 64, by omega⟩).val + e.val) = 512 + (64 * (o.val / 64) + e.val); rw [hh])
  · intro k u hu
    show cat _ _ _ _ = argP m c (ix3 b u _)
    unfold cat
    split
    · rename_i hn
      dsimp only at hn
      refine (b13 (V6 m ρ) c p _ _ _).trans ?_
      rw [arg_apply]
      exact at_eq m c hb (Fin.ext (by show 512 * (p.val % 16 - 1) + (256 * (s.val % 512 / 256) + k.val) = u.val; omega)) (by show 1024 + (64 * (hd p ⟨o.val % 256 / 64, by omega⟩).val + o.val % 64) = 1024 + (64 * (o.val / 64) + o.val % 64); rw [hh])
    · rename_i hn
      dsimp only at hn
      refine (b14 (V6 m ρ) c p _ _ _).trans ?_
      rw [arg_apply]
      exact at_eq m c hb (Fin.ext (by show 512 * (p.val % 16) + (256 * (s.val % 512 / 256) + k.val - 512) = u.val; omega)) (by show 1024 + (64 * (hd p ⟨o.val % 256 / 64, by omega⟩).val + o.val % 64) = 1024 + (64 * (o.val / 64) + o.val % 64); rw [hh])
  · intro k
    refine congrArg₂ (fun y z : EReal => y + z) (Finset.sum_congr rfl fun e _ => congrArg₂ (fun y z : EReal => y * z) ?_ rfl) ?_
    · refine (b10 (V6 m ρ) c p _ _ e).trans ?_
      rw [arg_apply]
      exact at_eq m c hb (Fin.ext (by show 512 * (p.val % 16) + (256 * (s.val % 512 / 256) + s.val % 512 % 256) = s.val; omega)) (by show 64 * (hd p ⟨o.val % 256 / 64, by omega⟩).val + e.val = 64 * (o.val / 64) + e.val; rw [hh])
    · have er : (⟨s.val % 512 % 256, Nat.mod_lt _ (by decide)⟩ : Fin 256) = ⟨s.val % 256, Nat.mod_lt _ (by decide)⟩ := Fin.ext (by show s.val % 512 % 256 = s.val % 256; omega)
      dsimp only
      by_cases h0 : s.val % 512 / 256 = 0
      · rw [if_pos h0]
        refine (b15 (V6 m ρ) c p _ _ k).trans ((table_apply m ρ c _ _ _ k).trans ?_)
        rw [hh, er]
        refine congrArg (fun z => (args m c).table _ z _ k) ?_
        by_cases h1 : p.val % 16 = 0
        · rw [if_pos h1, if_pos (by omega)]; rfl
        · rw [if_neg h1, if_neg (by omega), if_neg (by omega)]; rfl
      · rw [if_neg h0]
        refine (b16 (V6 m ρ) c p _ _ k).trans ((table_apply m ρ c _ _ _ k).trans ?_)
        rw [hh, er]
        refine congrArg (fun z => (args m c).table _ z _ k) ?_
        by_cases h1 : p.val % 16 = 0
        · rw [if_pos h1, if_neg (by omega), if_pos (by omega)]; rfl
        · rw [if_neg h1, if_neg (by omega), if_neg (by omega)]; rfl

set_option backward.isDefEq.respectTransparency.types false in
/-- Every run ends with the result and the arguments as launched. -/
theorem run_out : θ_run defs (onTc (τ := τ) (main (F := Ideal))) ⟨m, fun _ => 0, ρ⟩ (fun r => ∀ c : Dev nD,
      r.2.mem ((c.tc : Thread nD τ).loc main_v20) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨(h c _ (mem_uc main_v20 (by decide))).trans (W7_arr m ρ c 7),
       (h c _ (mem_uc main_arg0 (by decide))).trans (W7_main_arg0 m ρ c),
       (h c _ (mem_uc main_arg1 (by decide))).trans (W7_main_arg1 m ρ c)⟩)

end Cert.Proof.Ca

end
-- ==== Proof.Ca.R.lean ====
/-
  The reference's chunked attention by values.
-/
module

public import proofs.«01_k».proof.Proof.Gen.Reference5Ideal.Run
public import proofs.«01_k».proof.Proof.Ca.Spec

@[expose] public section

noncomputable section

namespace Cert.Proof.Ca.R

open Idealize Idealize.ShloMosaic Cert.Reference5Ideal Cert.Reference5Ideal.Gen Cert.Reference5Ideal.Value Cert.Proof.Tb

theorem gather_apply (x : FVec Ideal S8x257 .f32) (i : IVec S8192x8192x1 32) (h : Fin 8) (s u : Fin 8192) :
    Host.gather gather_S8x257_S8192x8192x1_S8x8192x8192_0_1_n_n_1_2_81 x i (ix3 h s u) = x (ix2 h ⟨min (i (ix3 s u 0)).toInt.toNat 256, by omega⟩) := by
  unfold Host.gather
  congr 1
  funext a
  apply Fin.ext
  match a with
  | ⟨0, _⟩ =>
    show gather_S8x257_S8192x8192x1_S8x8192x8192_0_1_n_n_1_2_81.start (ix3 h s u) i 0 + gather_S8x257_S8192x8192x1_S8x8192x8192_0_1_n_n_1_2_81.batchCoord (ix3 h s u) 0
      + gather_S8x257_S8192x8192x1_S8x8192x8192_0_1_n_n_1_2_81.offCoord (ix3 h s u) 0 = h.val
    rw [GatherDims.batchCoord_eq_zero _ _ _ (by decide)]
    unfold GatherDims.start GatherDims.offCoord
    rw [dif_neg (by decide), dif_pos (by decide)]
    show 0 + 0 + h.val = h.val
    omega
  | ⟨1, _⟩ =>
    show gather_S8x257_S8192x8192x1_S8x8192x8192_0_1_n_n_1_2_81.start (ix3 h s u) i 1 + gather_S8x257_S8192x8192x1_S8x8192x8192_0_1_n_n_1_2_81.batchCoord (ix3 h s u) 1
      + gather_S8x257_S8192x8192x1_S8x8192x8192_0_1_n_n_1_2_81.offCoord (ix3 h s u) 1 = min (i (ix3 s u 0)).toInt.toNat 256
    rw [GatherDims.batchCoord_eq_zero _ _ _ (by decide), GatherDims.offCoord_eq_zero _ _ _ (by decide)]
    unfold GatherDims.start
    rw [dif_pos (by decide)]
    show min (i _).toInt.toNat 256 + 0 + 0 = _
    refine congrArg (fun z => min (i z).toInt.toNat 256) (funext fun b => ?_)
    match b with
    | ⟨0, _⟩ => rfl
    | ⟨1, _⟩ => rfl
    | ⟨2, _⟩ => rfl

/-- A distance's place in the bias table. -/
def place (d : BitVec 32) : BitVec 32 :=
  let z := IntOp.addi (IntOp.minsi 128#32 (IntOp.maxsi 4294967168#32 d)) 128#32
  Scalar.select (IntOp.cmpi .slt z 0#32) (IntOp.addi z 257#32) z

theorem place_dec : ∀ n : Fin 16384, (place (BitVec.ofNat 32 n.val - 8192#32)).toInt.toNat = min (n.val + 128 - 8192) 256 := by decide +kernel

theorem place_eq (s u : Fin 8192) : (place (IntOp.subi (BitVec.ofNat 32 s.val) (BitVec.ofNat 32 u.val))).toInt.toNat = min (s.val + 128 - u.val) 256 := by
  have e : IntOp.subi (BitVec.ofNat 32 s.val) (BitVec.ofNat 32 u.val) = BitVec.ofNat 32 (s.val + 8192 - u.val) - 8192#32 := by
    apply BitVec.eq_of_toNat_eq
    simp only [IntOp.subi, BitVec.toNat_sub, BitVec.toNat_ofNat]
    omega
  rw [e]
  refine (place_dec ⟨s.val + 8192 - u.val, by omega⟩).trans ?_
  show min (s.val + 8192 - u.val + 128 - 8192) 256 = _
  omega

theorem near_dec : ∀ a b : Fin 128, IntOp.andi (IntOp.cmpi .sge (IntOp.subi (BitVec.ofNat 32 a.val) (BitVec.ofNat 32 b.val)) 0#32)
    (IntOp.cmpi .sle (IntOp.subi (BitVec.ofNat 32 a.val) (BitVec.ofNat 32 b.val)) 8#32) = 1#1 ↔ (b.val ≤ a.val ∧ a.val ≤ b.val + 8) := by decide +kernel

/-- Chunk numbers. -/
def chunks : IVec S8192 32 :=
  shapeCast _ (broadcastInDim S128x64 ![0, 1] bcast_S128x1_S128x64_0_1 (broadcastInDim S128x1 ![0] bcast_S128_S128x1_0 (iotaInDim S128 32 0))) shapeCasts_S128x64_S8192

set_option maxRecDepth 16384 in
theorem chunks_apply (s : Fin 8192) : chunks (ix1 s) = BitVec.ofNat 32 (s.val / 64) := by
  pointwise [chunks]

/-- The distances of chunks. -/
def apart : IVec S8192x8192 32 :=
  subi (broadcastInDim S8192x8192 ![0, 1] bcast_S8192x1_S8192x8192_0_1 (broadcastInDim S8192x1 ![0] bcast_S8192_S8192x1_0 chunks))
    (broadcastInDim S8192x8192 ![0, 1] bcast_S1x8192_S8192x8192_0_1 (broadcastInDim S1x8192 ![1] bcast_S8192_S1x8192_1 chunks))

/-- The mask. -/
def mask : IVec S8192x8192 1 :=
  andi (cmpi .sge apart (broadcastInDim S8192x8192 ![] bcast_S_S8192x8192 (constantI S_ 32 0#32)))
    (cmpi .sle apart (broadcastInDim S8192x8192 ![] bcast_S_S8192x8192 (constantI S_ 32 8#32)))

set_option maxRecDepth 16384 in
theorem apart_apply (s u : Fin 8192) : apart (ix2 s u) = IntOp.subi (BitVec.ofNat 32 (s.val / 64)) (BitVec.ofNat 32 (u.val / 64)) := by
  rw [← chunks_apply s, ← chunks_apply u]
  unfold apart
  generalize chunks = y
  pointwise []

set_option maxRecDepth 16384 in
theorem mask_apply (s u : Fin 8192) : mask (ix2 s u) = 1#1 ↔ (u.val / 64 ≤ s.val / 64 ∧ s.val / 64 ≤ u.val / 64 + 8) := by
  have e : mask (ix2 s u) = IntOp.andi (IntOp.cmpi .sge (apart (ix2 s u)) 0#32) (IntOp.cmpi .sle (apart (ix2 s u)) 8#32) := by
    unfold mask
    generalize apart = y
    pointwise []
  rw [e, apart_apply]
  exact near_dec ⟨s.val / 64, by omega⟩ ⟨u.val / 64, by omega⟩

/-- The distances of places. -/
def dist : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- The places in the bias table. -/
def places : IVec S8192x8192x1 32 :=
  have z : IVec S8192x8192 32 := addi (minsi (broadcastInDim S8192x8192 ![] bcast_S_S8192x8192 (id (constantI S_ 32 128#32)))
    (maxsi (broadcastInDim S8192x8192 ![] bcast_S_S8192x8192 (id (constantI S_ 32 4294967168#32))) dist)) (broadcastInDim S8192x8192 ![] bcast_S_S8192x8192 (constantI S_ 32 128#32))
  broadcastInDim S8192x8192x1 ![0, 1] bcast_S8192x8192_S8192x8192x1_0_1 (select (cmpi .slt z (broadcastInDim S8192x8192 ![] bcast_S_S8192x8192 (constantI S_ 32 0#32)))
    (addi z (broadcastInDim S8192x8192 ![] bcast_S_S8192x8192 (constantI S_ 32 257#32))) z)

set_option maxRecDepth 16384 in
theorem places_apply (s u : Fin 8192) : places (ix3 s u 0) = place (IntOp.subi (BitVec.ofNat 32 s.val) (BitVec.ofNat 32 u.val)) := by
  pointwise [places, dist]
  rfl

variable (P : FVec Ideal S2x8192x3072 .bf16) (B : FVec Ideal S8x257 .f32)

def qs : FVec Ideal S2x8x8192x64 .f32 :=
  transpose S2x8x8192x64 [0, 2, 1, 3] (shapeCast _ (extf .f32 (extractStridedSlice S2x8192x512 ![0, 0, 0] (extractStridedSlice S2x8192x1536 ![0, 0, 0] P slices_S2x8192x3072_S2x8192x1536_0_0_0) slices_S2x8192x1536_S2x8192x512_0_0_0) bitsLt_bf16_f32) shapeCasts_S2x8192x512_S2x8192x8x64) transposes_S2x8192x8x64_S2x8x8192x64_0_2_1_3

def ks : FVec Ideal S2x8x8192x64 .f32 :=
  transpose S2x8x8192x64 [0, 2, 1, 3] (shapeCast _ (extf .f32 (extractStridedSlice S2x8192x512 ![0, 0, 512] (extractStridedSlice S2x8192x1536 ![0, 0, 0] P slices_S2x8192x3072_S2x8192x1536_0_0_0) slices_S2x8192x1536_S2x8192x512_0_0_512) bitsLt_bf16_f32) shapeCasts_S2x8192x512_S2x8192x8x64) transposes_S2x8192x8x64_S2x8x8192x64_0_2_1_3

def vs : FVec Ideal S2x8x8192x64 .f32 :=
  transpose S2x8x8192x64 [0, 2, 1, 3] (shapeCast _ (extf .f32 (extractStridedSlice S2x8192x512 ![0, 0, 1024] (extractStridedSlice S2x8192x1536 ![0, 0, 0] P slices_S2x8192x3072_S2x8192x1536_0_0_0) slices_S2x8192x1536_S2x8192x512_0_0_1024) bitsLt_bf16_f32) shapeCasts_S2x8192x512_S2x8192x8x64) transposes_S2x8192x8x64_S2x8x8192x64_0_2_1_3

set_option maxRecDepth 16384 in
theorem qs_apply (b : Fin 2) (h : Fin 8) (s : Fin 8192) (d : Fin 64) : (qs P (ix4 b h s d) : EReal) = Args.q ⟨P, B⟩ b h s d := by
  pointwise [qs]
  exact congrArg (fun z => P (ix3 b s z)) (Fin.ext (by show _ = 64 * h.val + d.val; dsimp only; omega))

set_option maxRecDepth 16384 in
theorem ks_apply (b : Fin 2) (h : Fin 8) (s : Fin 8192) (d : Fin 64) : (ks P (ix4 b h s d) : EReal) = Args.k ⟨P, B⟩ b h s d := by
  pointwise [ks]
  exact congrArg (fun z => P (ix3 b s z)) (Fin.ext (by show _ = 512 + (64 * h.val + d.val); dsimp only; omega))

set_option maxRecDepth 16384 in
theorem vs_apply (b : Fin 2) (h : Fin 8) (s : Fin 8192) (d : Fin 64) : (vs P (ix4 b h s d) : EReal) = Args.v ⟨P, B⟩ b h s d := by
  pointwise [vs]
  exact congrArg (fun z => P (ix3 b s z)) (Fin.ext (by show _ = 1024 + (64 * h.val + d.val); dsimp only; omega))

/-- The biases of a head. -/
def bias : FVec Ideal S8x8192x8192 .f32 := Host.gather gather_S8x257_S8192x8192x1_S8x8192x8192_0_1_n_n_1_2_81 B places

theorem bias_apply (h : Fin 8) (s u : Fin 8192) : (bias B (ix3 h s u) : EReal) = B (ix2 h (rel s.val u.val)) := by
  refine (gather_apply B places h s u).trans (congrArg (fun z => B (ix2 h z)) (Fin.ext ?_))
  show min (places (ix3 s u 0)).toInt.toNat 256 = min (s.val + 128 - u.val) 256
  rw [places_apply, place_eq]
  omega

/-- The scores. -/
def scores (m : IVec S8192x8192 1) (q k : FVec Ideal S2x8x8192x64 .f32) (z : FVec Ideal S8x8192x8192 .f32) : FVec Ideal S2x8x8192x8192 .f32 :=
  select (broadcastInDim S2x8x8192x8192 ![2, 3] bcast_S8192x8192_S2x8x8192x8192_2_3 m)
    (addf (Host.dotGeneral dot_S2x8x8192x64_S2x8x8192x64_S2x8x8192x8192_3_3_2_2_01_01 none q k)
      (broadcastInDim S2x8x8192x8192 ![0, 1, 2, 3] bcast_S1x8x8192x8192_S2x8x8192x8192_0_1_2_3 (broadcastInDim S1x8x8192x8192 ![1, 2, 3] bcast_S8x8192x8192_S1x8x8192x8192_1_2_3 z)))
    (broadcastInDim S2x8x8192x8192 ![] bcast_S_S2x8x8192x8192 (id (constant S_ .f32 0xFF800000#32)))

set_option maxRecDepth 16384 in
theorem scores_read (m : IVec S8192x8192 1) (q k : FVec Ideal S2x8x8192x64 .f32) (z : FVec Ideal S8x8192x8192 .f32) (b : Fin 2) (h : Fin 8) (s u : Fin 8192) :
    (scores m q k z (ix4 b h s u) : EReal) = Scalar.select (m (ix2 s u)) ((∑ d : Fin 64, (q (ix4 b h s d) : EReal) * k (ix4 b h u d)) + (z (ix3 h s u) : EReal)) (Ideal.ofBits .f32 0xFF800000#32) := by
  pointwise [scores]
  rfl

end Cert.Proof.Ca.R

end
-- ==== Proof.Ca.Soft.lean ====
/-
  The reference's weights and its result.
-/
module

public import proofs.«01_k».proof.Proof.Ca.R

@[expose] public section

noncomputable section

namespace Cert.Proof.Ca.R

open Idealize Idealize.ShloMosaic Cert.Reference5Ideal Cert.Reference5Ideal.Gen Cert.Reference5Ideal.Value Cert.Proof.Tb

/-- A value of a whole array of scores. -/
abbrev at4 (x : FVec Ideal S2x8x8192x8192 .f32) (b : Fin 2) (h : Fin 8) (s u : Fin 8192) : EReal := x (ix4 b h s u)

/-- The scores' top, by rows. -/
def top (x : FVec Ideal S2x8x8192x8192 .f32) : FVec Ideal S2x8x8192 .f32 :=
  maximumf (broadcastInDim S2x8x8192 ![] bcast_S_S2x8x8192 (constant S_ .f32 0xFF800000#32))
    (Host.reduce FloatOps.maximumf x (constant S_ .f32 0xFF800000#32) reducesTo_S2x8x8192x8192_S2x8x8192_d3 h_S_)

/-- The exponentials. -/
def less (x : FVec Ideal S2x8x8192x8192 .f32) (g : FVec Ideal S2x8x8192 .f32) : FVec Ideal S2x8x8192x8192 .f32 :=
  Host.exp (subf x (broadcastInDim S2x8x8192x8192 ![0, 1, 2, 3] bcast_S2x8x8192x1_S2x8x8192x8192_0_1_2_3 (broadcastInDim S2x8x8192x1 ![0, 1, 2] bcast_S2x8x8192_S2x8x8192x1_0_1_2 g)))

set_option maxRecDepth 16384 in
theorem less_read (x : FVec Ideal S2x8x8192x8192 .f32) (g : FVec Ideal S2x8x8192 .f32) (b : Fin 2) (h : Fin 8) (s u : Fin 8192) :
    at4 (less x g) b h s u = Ideal.exp (at4 x b h s u - (g (ix3 b h s) : EReal)) := by
  pointwise [at4, less]

theorem fold_read (x : S2x8x8192x8192.Idx → EReal) (i : S_.Idx → EReal) (j : S2x8x8192.Idx) :
    Host.reduce (max : EReal → EReal → EReal) x i reducesTo_S2x8x8192x8192_S2x8x8192_d3 h_S_ j
      = Finset.fold max (i (Shape.Idx.first h_S_)) x (Finset.univ.filter fun i => reducesTo_S2x8x8192x8192_S2x8x8192_d3.drop i = j) :=
  Host.reduce_eq_fold (max : EReal → EReal → EReal) x i reducesTo_S2x8x8192x8192_S2x8x8192_d3 h_S_ j

theorem top_max (g : FVec Ideal S2x8x8192 .f32) (j : S2x8x8192.Idx) :
    (maximumf (broadcastInDim S2x8x8192 ![] bcast_S_S2x8x8192 (constant S_ .f32 0xFF800000#32)) g j : EReal) = max low (g j : EReal) := rfl

theorem maximumf_is : (FloatOps.maximumf (F := Ideal) (φ := .f32)) = (max : EReal → EReal → EReal) := rfl

theorem rows_max (x : FVec Ideal S2x8x8192x8192 .f32) (j : S2x8x8192.Idx) :
    (Host.reduce (FloatOps.maximumf (F := Ideal) (φ := .f32)) x (constant (F := Ideal) S_ .f32 0xFF800000#32) reducesTo_S2x8x8192x8192_S2x8x8192_d3 h_S_ j : EReal)
      = Finset.fold max low x (Finset.univ.filter fun i => reducesTo_S2x8x8192x8192_S2x8x8192_d3.drop i = j) :=
  (congrArg (fun f : EReal → EReal → EReal => Host.reduce f x (constant (F := Ideal) S_ .f32 0xFF800000#32) reducesTo_S2x8x8192x8192_S2x8x8192_d3 h_S_ j) maximumf_is).trans
    (fold_read x (constant (F := Ideal) S_ .f32 0xFF800000#32) j)

theorem top_apply (x : FVec Ideal S2x8x8192x8192 .f32) (g : Fin 8192 → EReal) (b : Fin 2) (h : Fin 8) (s : Fin 8192) (hx : ∀ u, at4 x b h s u = g u) :
    (top x (ix3 b h s) : EReal) = Finset.fold max low g Finset.univ := by
  have hl : ∀ z : EReal, max low z = z := fun z => by rw [low_eq]; exact max_eq_right bot_le
  refine (top_max _ (ix3 b h s)).trans ((hl _).trans ((rows_max x (ix3 b h s)).trans ?_))
  exact (Shape.ReducesTo.fold_fiber_r4_a3 reducesTo_S2x8x8192x8192_S2x8x8192_d3 (ix3 b h s) max low x).trans
    (congrArg (fun f => Finset.fold max low f Finset.univ) (funext fun k => hx k))

theorem less_apply (x : FVec Ideal S2x8x8192x8192 .f32) (g : Fin 8192 → EReal) (b : Fin 2) (h : Fin 8) (s : Fin 8192) (hx : ∀ u, at4 x b h s u = g u) (u : Fin 8192) :
    at4 (less x (top x)) b h s u = wt g u :=
  (less_read x (top x) b h s u).trans (congrArg₂ (fun y z : EReal => Ideal.exp (y - z)) (hx u) (top_apply x g b h s hx))

/-- The weighted sums, in the result's layout. -/
def joined (e : FVec Ideal S2x8x8192x8192 .f32) (v : FVec Ideal S2x8x8192x64 .f32) : FVec Ideal S2x8192x512 .bf16 :=
  truncf .bf16 (shapeCast _ (transpose S2x8192x8x64 [0, 2, 1, 3] (Host.dotGeneral dot_S2x8x8192x8192_S2x8x8192x64_S2x8x8192x64_3_2_2_3_01_01 none
    (Host.divf e (broadcastInDim S2x8x8192x8192 ![0, 1, 2, 3] bcast_S2x8x8192x1_S2x8x8192x8192_0_1_2_3 (broadcastInDim S2x8x8192x1 ![0, 1, 2] bcast_S2x8x8192_S2x8x8192x1_0_1_2
      (Host.reduceAdd e (constant S_ .f32 0x00000000#32) reducesTo_S2x8x8192x8192_S2x8x8192_d3 h_S_)))) v) transposes_S2x8x8192x64_S2x8192x8x64_0_2_1_3) shapeCasts_S2x8192x8x64_S2x8192x512) bitsLt_bf16_f32

set_option maxRecDepth 16384 in
theorem joined_read (e : FVec Ideal S2x8x8192x8192 .f32) (v : FVec Ideal S2x8x8192x64 .f32) (b : Fin 2) (s : Fin 8192) (o : Fin 512) :
    (joined e v (ix3 b s o) : EReal) = ∑ u : Fin 8192, Ideal.div (at4 e b ⟨o.val / 64, by omega⟩ s u) (∑ j : Fin 8192, at4 e b ⟨o.val / 64, by omega⟩ s j)
      * (v (ix4 b ⟨o.val / 64, by omega⟩ u ⟨o.val % 64, Nat.mod_lt _ (by decide)⟩) : EReal) := by
  pointwise [joined, at4]

variable (P : FVec Ideal S2x8192x3072 .bf16) (B : FVec Ideal S8x257 .f32)

theorem scores_apply (b : Fin 2) (h : Fin 8) (s u : Fin 8192) : at4 (scores mask (qs P) (ks P) (bias B)) b h s u = Args.full ⟨P, B⟩ b h s u := by
  refine (scores_read mask (qs P) (ks P) (bias B) b h s u).trans ?_
  have hl : Ideal.ofBits .f32 0xFF800000#32 = ⊥ := low_eq
  have hv : (∑ d : Fin 64, (qs P (ix4 b h s d) : EReal) * ks P (ix4 b h u d)) + (bias B (ix3 h s u) : EReal)
      = (∑ d, Args.q ⟨P, B⟩ b h s d * Args.k ⟨P, B⟩ b h u d) + B (ix2 h (rel s.val u.val)) :=
    congrArg₂ (fun y z : EReal => y + z) (Finset.sum_congr rfl fun d _ => congrArg₂ (fun y z : EReal => y * z) (qs_apply P B b h s d) (ks_apply P B b h u d)) (bias_apply B h s u)
  rw [hv, hl]
  unfold Scalar.select Args.full
  by_cases hP : u.val / 64 ≤ s.val / 64 ∧ s.val / 64 ≤ u.val / 64 + 8
  · rw [if_pos hP, (mask_apply s u).mpr hP]; rfl
  · rw [if_neg hP]; simp [mt (mask_apply s u).mp hP]

theorem full_real (hP : ∀ i, IsR (P i)) (hB : ∀ i, IsR (B i)) (b : Fin 2) (h : Fin 8) (s u : Fin 8192) (hn : u.val / 64 ≤ s.val / 64 ∧ s.val / 64 ≤ u.val / 64 + 8) :
    IsR (Args.full ⟨P, B⟩ b h s u) := by
  unfold Args.full
  rw [if_pos hn]
  exact (IsR.sum _ _ fun d => (hP _).mul (hP _)).add (hB _)

theorem joined_apply (hP : ∀ i, IsR (P i)) (hB : ∀ i, IsR (B i)) (b : Fin 2) (s : Fin 8192) (o : Fin 512) :
    (joined (less (scores mask (qs P) (ks P) (bias B)) (top (scores mask (qs P) (ks P) (bias B)))) (vs P) (ix3 b s o) : EReal)
      = Args.out ⟨P, B⟩ b ⟨o.val / 64, by omega⟩ s ⟨o.val % 64, Nat.mod_lt _ (by decide)⟩ := by
  have hw := less_apply (scores mask (qs P) (ks P) (bias B)) _ b ⟨o.val / 64, by omega⟩ s (scores_apply P B b ⟨o.val / 64, by omega⟩ s)
  refine (joined_read _ (vs P) b s o).trans (Eq.trans ?_ (val_eq (fun u => ?_) ⟨s, full_real P B hP hB _ _ s s (by omega)⟩))
  · exact Finset.sum_congr rfl fun u _ => congrArg₂ (fun y z : EReal => y * z) (congrArg₂ Ideal.div (hw u) (Finset.sum_congr rfl fun j _ => hw j)) (vs_apply P B b _ u _)
  · by_cases hn : u.val / 64 ≤ s.val / 64 ∧ s.val / 64 ≤ u.val / 64 + 8
    · exact Or.inr (full_real P B hP hB _ _ s u hn)
    · exact Or.inl (if_neg hn)

theorem res_eq (m : (ℓ : Loc nD τ sig) → Buf (Elt Ideal) ℓ) (c : Dev nD) (h0 : m ((c.tc : Thread nD τ).loc main_arg0) = P) (h1 : m ((c.tc : Thread nD τ).loc main_arg1) = B) :
    res_main_v62 (F := Ideal) m c = joined (less (scores mask (qs P) (ks P) (bias B)) (top (scores mask (qs P) (ks P) (bias B)))) (vs P) := by
  subst h0 h1
  unfold res_main_v62
  rfl

end Cert.Proof.Ca.R

end
-- ==== Proof.Ca.Value.lean ====
/-
  The chunked attention's result is the reference's, on arguments that are real numbers.
-/
module

public import proofs.«01_k».proof.Defs
public import proofs.«01_k».proof.Proof.Tb.Value
public import proofs.«01_k».proof.Proof.Ca.Run
public import proofs.«01_k».proof.Proof.Ca.Soft

@[expose] public section

noncomputable section

namespace Cert.Proof.Ca

open Idealize Idealize.ShloMosaic Idealize.SL.Sem Cert.Proof.Tb

instance preFacts : Cert.Pre_finite5.Facts where
  bitsLt_bf16_f32 := by decide
  bcast_S_S2x8192x3072 := by decide
  bcast_S_S8x257 := by decide

variable {m : (ℓ : Loc Cert.Kernel5Ideal.nD Cert.Kernel5Ideal.τ Cert.Kernel5Ideal.sig) → Buf (Elt Ideal) ℓ}

/-- The reference's result, as its run states it, is the kernel's. -/
theorem values_eq (ρ : Dev Cert.Kernel5Ideal.nD → PrngReg) (c : Dev Cert.Kernel5Ideal.nD) (h : Pre_Kernel5Ideal_finite5 m) :
    R.joined (R.less (R.scores R.mask (R.qs (argP m c)) (R.ks (argP m c)) (R.bias (argB m c))) (R.top (R.scores R.mask (R.qs (argP m c)) (R.ks (argP m c)) (R.bias (argB m c))))) (R.vs (argP m c))
      = result m ρ c := by
  obtain ⟨hP, hB⟩ := h c
  funext y
  have hy : y = (ix3 (y 0 : Fin 2) (y 1 : Fin 8192) (y 2 : Fin 512)) := by
    funext a
    match a with
    | ⟨0, _⟩ => rfl
    | ⟨1, _⟩ => rfl
    | ⟨2, _⟩ => rfl
  rw [hy]
  exact (R.joined_apply (argP m c) (argB m c) (fun i => isR_of_lt _ (congrFun hP i)) (fun i => isR_of_lt _ (congrFun hB i)) _ _ _).trans (result_apply m ρ c _ _ _).symm

set_option maxHeartbeats 4000000 in
theorem algebraic : algebraic_Kernel5Ideal_Reference5Ideal_pre_finite5 (hKernel5Ideal := Cert.Kernel5Ideal.Gen.facts)
    (hReference5Ideal := Cert.Reference5Ideal.Gen.facts) (hPre_finite5 := preFacts) := by
  intro m ρ m' ρ' hpre hagree
  refine ⟨fun c => result m ρ c, run_out m ρ, ?_⟩
  refine (θ_run Cert.Reference5Ideal.defs _ _).mono (fun _ h c => ⟨(h c).1.trans ?_, (h c).2⟩) (Cert.Reference5Ideal.Value.run m' ρ')
  exact (R.res_eq (argP m c) (argB m c) m' c (hagree c).1 (hagree c).2).trans (values_eq ρ c hpre)

theorem frame_reference : quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩) (Cert.Reference5Ideal.Value.run (F := Ideal) m ρ)

end Cert.Proof.Ca

end
-- ==== Proof.lean ====
/-
  The certificate: the two programs' frames, the idealized kernel's frame, the named constants, and the value of the
  idealized kernel against the idealized reference on finite arguments.
-/
module

public import proofs.«01_k».proof.Defs
public import proofs.«01_k».proof.Proof.K.Run
public import proofs.«01_k».proof.Proof.KI.Value
public import proofs.«01_k».proof.Proof.R.Value
public import proofs.«01_k».proof.Proof.Gen.Kernel2.Frame
public import proofs.«01_k».proof.Proof.Mm.Value
public import proofs.«01_k».proof.Proof.Gen.Kernel3.Launch
public import proofs.«01_k».proof.Proof.Gen.Kernel3.Skeleton
public import proofs.«01_k».proof.Proof.Gen.Kernel3Ideal.Launch
public import proofs.«01_k».proof.Proof.Gen.Kernel3Ideal.Skeleton
public import proofs.«01_k».proof.Proof.Gen.Kernel3.Points
public import proofs.«01_k».proof.Proof.Gen.Kernel3Ideal.Points
public import proofs.«01_k».proof.Proof.Gen.Reference3Ideal.Run
public import proofs.«01_k».proof.Proof.Tb.K.Frame
public import proofs.«01_k».proof.Proof.Tb.Value
public import proofs.«01_k».proof.Proof.Gen.Kernel4.Frame
public import proofs.«01_k».proof.Proof.Mk.Value
public import proofs.«01_k».proof.Proof.Gen.Kernel5.Frame
public import proofs.«01_k».proof.Proof.Gen.Kernel5Ideal.Frame
public import proofs.«01_k».proof.Proof.Gen.Reference5Ideal.Run
public import proofs.«01_k».proof.Proof.Ca.Value
public import Idealize.ShloMosaic.Lib.Quiescent

@[expose] public section

noncomputable section

namespace Cert.Proof

open Idealize.ShloMosaic Idealize.SL.Sem

instance preFacts : Cert.Pre_finite.Facts where
  bitsLt_bf16_f32 := by decide
  bcast_S_S2x8192x3072 := by decide

/-- A value below `+∞` in size is a real number. -/
theorem real_of_lt (x : EReal) (h : Ideal.cmp .olt (max x (-x)) (Ideal.ofBits .f32 0x7F800000#32) = 1#1) :
    ((x.toReal : ℝ) : EReal) = x := by
  have htop : Ideal.ofBits .f32 0x7F800000#32 = ⊤ := by simp [Ideal.ofBits, Ideal.ieee]
  have hl : max x (-x) < ⊤ := by
    by_contra hn
    simp [Ideal.cmp, htop, hn] at h
  refine EReal.coe_toReal (fun e => ?_) fun e => ?_
  · subst e; simp at hl
  · subst e; simp at hl

/-- On finite arguments the argument's entries are real numbers. -/
theorem real_of_finite {m : (ℓ : Loc Cert.KernelIdeal.nD Cert.KernelIdeal.τ Cert.KernelIdeal.sig) → Buf (Elt Ideal) ℓ}
    (h : Pre_KernelIdeal_finite m) (c : Dev Cert.KernelIdeal.nD) (b : Fin 2) (t : Fin 8192) (l : Fin 3072) :
    KI.arg m c (ix3 b t l) = (((KI.arg m c (ix3 b t l) : EReal).toReal : ℝ) : EReal) :=
  (real_of_lt (KI.arg m c (ix3 b t l)) (congrFun (h c) (ix3 b t l))).symm

/-- The real values of the argument, by natural indices. -/
def reals (X : FVec Ideal Cert.KernelIdeal.S2x8192x3072 .bf16) (b : Fin 2) (t l : ℕ) : ℝ :=
  if h : t < 8192 ∧ l < 3072 then (X (ix3 b ⟨t, h.1⟩ ⟨l, h.2⟩) : EReal).toReal else 0

theorem arg_real {m : (ℓ : Loc Cert.KernelIdeal.nD Cert.KernelIdeal.τ Cert.KernelIdeal.sig) → Buf (Elt Ideal) ℓ}
    (h : Pre_KernelIdeal_finite m) (c : Dev Cert.KernelIdeal.nD) (b : Fin 2) (t : Fin 8192) (l : Fin 3072) :
    KI.arg m c (ix3 b t l) = ((reals (KI.arg m c) b t.val l.val : ℝ) : EReal) := by
  unfold reals
  rw [dif_pos ⟨t.isLt, l.isLt⟩]
  exact real_of_finite h c b t l

/-- The two results agree. -/
theorem values_eq {m : (ℓ : Loc Cert.KernelIdeal.nD Cert.KernelIdeal.τ Cert.KernelIdeal.sig) → Buf (Elt Ideal) ℓ}
    (h : Pre_KernelIdeal_finite m) (c : Dev Cert.KernelIdeal.nD) :
    Ref.joined (Ref.summed (Ref.weights (Ref.dots (Ref.qr (KI.arg m c)) (Ref.kr (KI.arg m c)))) (Ref.vr (KI.arg m c)))
      = (KI.dats m 0 c).arrAt 3 (Cert.KernelIdeal.cfg0 (F := Ideal)).N := by
  funext j
  have h2 : (j 2).val < 512 := (j 2).isLt
  have hj : j = ix3 (j 0 : Fin 2) (j 1 : Fin 8192) (⟨(⟨(j 2).val / 64, by omega⟩ : Fin 8).val * 64 + (⟨(j 2).val % 64, Nat.mod_lt _ (by decide)⟩ : Fin 64).val, by
      show (j 2).val / 64 * 64 + (j 2).val % 64 < 512; omega⟩ : Fin 512) := by
    funext a
    match a with
    | ⟨0, _⟩ => rfl
    | ⟨1, _⟩ => rfl
    | ⟨2, _⟩ => exact Fin.ext (by show (j 2).val = (j 2).val / 64 * 64 + (j 2).val % 64; omega)
  rw [hj]
  exact (Ref.value (arg_real h c) _ _ _ _).trans (KI.result_apply (arg_real h c) _ _ _ _).symm

theorem algebraic : algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  refine ⟨fun c => (KI.dats m 0 c).arrAt 3 (Cert.KernelIdeal.cfg0 (F := Ideal)).N, KI.run_out m ρ, ?_⟩
  refine (θ_run Cert.ReferenceIdeal.defs _ _).mono (fun _ h c => ⟨(h c).1.trans ?_, (h c).2⟩) (Cert.ReferenceIdeal.Value.run m' ρ')
  exact (Ref.res_eq m' c (KI.arg m c) (hagree c)).trans (values_eq hpre c)

theorem frame_reference : quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, preFacts, Tb.preFacts, Ca.preFacts,
    fun m ρ _ => K.frame m ρ, fun m ρ _ => KI.frame m ρ, fun m ρ _ => KI.frame m ρ, frame_reference, fun m ρ _ => frame_reference m ρ trivial,
    fun m ρ _ => Cert.Kernel2.Gen.frame m ρ, fun m ρ _ => Cert.Kernel2Ideal.Gen.frame m ρ, Mm.frame_reference,
    fun m ρ _ => Tb.K.frame m ρ, fun m ρ _ => Tb.KI.frame m ρ, fun m ρ _ => Tb.KI.frame m ρ, Tb.frame_reference, fun m ρ _ => Tb.frame_reference m ρ trivial,
    fun m ρ _ => Cert.Kernel4.Gen.frame m ρ, fun m ρ _ => Cert.Kernel4Ideal.Gen.frame m ρ, Mk.frame_reference,
    fun m ρ _ => Cert.Kernel5.Gen.frame m ρ, fun m ρ _ => Cert.Kernel5Ideal.Gen.frame m ρ, fun m ρ _ => Cert.Kernel5Ideal.Gen.frame m ρ, Ca.frame_reference, fun m ρ _ => Ca.frame_reference m ρ trivial,
    ⟨IdealRules.named_const.statement Cert.KernelIdeal.κ "neg_log2e" .f32 0xBFB8AA3B#32 _ rfl,
      IdealRules.named_const.statement Cert.KernelIdeal.κ "never" .f32 0x42DC0000#32 ⊤ rfl⟩,
    algebraic, trivial, Mm.algebraic, trivial, Tb.algebraic, trivial, Mk.algebraic,
    IdealRules.named_const.statement Cert.Kernel5Ideal.κ "masked" .f32 0xF149F2CA#32 _ rfl, Ca.algebraic⟩

end Cert.Proof

end
